-- ==== Defs.lean ====
def Pre_Kernel [hPre_classes_in_range : Cert.Pre_classes_in_range.Facts] (m : (ℓ : Loc Cert.Kernel.nD Cert.Kernel.τ Cert.Kernel.sig) → Buf (Elt Bits) ℓ) : Prop :=
  ∀ c : Dev Cert.Kernel.nD,
    (Cert.Pre_classes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2 = (fun _ => 1#1)

def quiescent_Kernel [hKernel : Cert.Kernel.Facts] [hPre_classes_in_range : Cert.Pre_classes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v501) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_classes_in_range : Cert.Pre_classes_in_range.Facts) (hPre_regular : Cert.Pre_regular.Facts),
    quiescent_Kernel (hKernel := hKernel) (hPre_classes_in_range := hPre_classes_in_range)
    ∧ quiescent_KernelIdeal (hKernelIdeal := hKernelIdeal) (hPre_classes_in_range := hPre_classes_in_range)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_classes_in_range.lean ====
abbrev S64x125x38x38 : Shape := ⟨4, ![64, 125, 38, 38]⟩
abbrev S64x250 : Shape := ⟨2, ![64, 250]⟩
abbrev S10 : Shape := ⟨1, ![10]⟩
abbrev S64x50x5 : Shape := ⟨3, ![64, 50, 5]⟩
abbrev S64x50x1 : Shape := ⟨3, ![64, 50, 1]⟩
abbrev S64x50 : Shape := ⟨2, ![64, 50]⟩
abbrev S_ : Shape := ⟨0, ![]⟩

class Facts : Prop where
  shapeCasts_S64x250_S64x50x5 : S64x250.ShapeCasts S64x50x5
  slices_S64x50x5_S64x50x1_0_0_0 : S64x50x5.Slices ![0, 0, 0] S64x50x1
  shapeCasts_S64x50x1_S64x50 : S64x50x1.ShapeCasts S64x50
  slices_S64x50x5_S64x50x1_0_0_1 : S64x50x5.Slices ![0, 0, 1] S64x50x1
  bcast_S_S64x50 : S_.BroadcastsInDim S64x50 (![] : Fin 0 → Fin S64x50.rank)

variable [Facts]

def fn {F : FTy → Type} [FloatOps F] (main_arg0 : FVec F S64x125x38x38 .f32) (main_arg1 : FVec F S64x250 .f32) (main_arg2 : FVec F S10 .f32) : IVec S64x50 1 :=
  let main_v0 : FVec F S64x50x5 .f32 := shapeCast S64x50x5 main_arg1 shapeCasts_S64x250_S64x50x5
  let main_v1 : FVec F S64x50x1 .f32 := (extractStridedSlice S64x50x1 ![0, 0, 0] · slices_S64x50x5_S64x50x1_0_0_0) main_v0
  let main_v2 : FVec F S64x50 .f32 := shapeCast S64x50 main_v1 shapeCasts_S64x50x1_S64x50
  let main_v3 : IVec S64x50 32 := fptosi 32 main_v2
  let main_v4 : FVec F S64x50x1 .f32 := (extractStridedSlice S64x50x1 ![0, 0, 1] · slices_S64x50x5_S64x50x1_0_0_1) main_v0
  let main_v5 : FVec F S64x50 .f32 := shapeCast S64x50 main_v4 shapeCasts_S64x50x1_S64x50
  let main_cst : FVec F S_ .f32 := constant S_ .f32 0x00000000#32
  let main_v6 : FVec F S64x50 .f32 := broadcastInDim S64x50 ![] bcast_S_S64x50 main_cst
  let main_v7 : IVec S64x50 1 := cmpf .oeq main_v5 main_v6
  let main_c : IVec S_ 32 := constantI S_ 32 0#32
  let main_v8 : IVec S64x50 32 := broadcastInDim S64x50 ![] bcast_S_S64x50 main_c
  let main_v9 : IVec S64x50 1 := cmpi .sge main_v3 main_v8
  let main_c_0 : IVec S_ 32 := constantI S_ 32 20#32
  let main_v10 : IVec S64x50 32 := broadcastInDim S64x50 ![] bcast_S_S64x50 main_c_0
  let main_v11 : IVec S64x50 1 := cmpi .slt main_v3 main_v10
  let main_v12 : IVec S64x50 1 := andi main_v9 main_v11
  let main_v13 : IVec S64x50 1 := ori main_v7 main_v12
  main_v13
-- ==== Pre_regular.lean ====
abbrev S64x125x38x38 : Shape := ⟨4, ![64, 125, 38, 38]⟩
abbrev S64x250 : Shape := ⟨2, ![64, 250]⟩
abbrev S10 : Shape := ⟨1, ![10]⟩
abbrev S64x50x5 : Shape := ⟨3, ![64, 50, 5]⟩
abbrev S64x50x1 : Shape := ⟨3, ![64, 50, 1]⟩
abbrev S64x50 : Shape := ⟨2, ![64, 50]⟩
abbrev S_ : Shape := ⟨0, ![]⟩
abbrev S64x1x50 : Shape := ⟨3, ![64, 1, 50]⟩
abbrev S64x50x50 : Shape := ⟨3, ![64, 50, 50]⟩
abbrev S50 : Shape := ⟨1, ![50]⟩
abbrev S1x50x1 : Shape := ⟨3, ![1, 50, 1]⟩
abbrev S1x1x50 : Shape := ⟨3, ![1, 1, 50]⟩
abbrev S1x50x50 : Shape := ⟨3, ![1, 50, 50]⟩

class Facts : Prop where
  shapeCasts_S64x250_S64x50x5 : S64x250.ShapeCasts S64x50x5
  slices_S64x50x5_S64x50x1_0_0_1 : S64x50x5.Slices ![0, 0, 1] S64x50x1
  shapeCasts_S64x50x1_S64x50 : S64x50x1.ShapeCasts S64x50
  slices_S64x50x5_S64x50x1_0_0_0 : S64x50x5.Slices ![0, 0, 0] S64x50x1
  bcast_S_S64x50 : S_.BroadcastsInDim S64x50 (![] : Fin 0 → Fin S64x50.rank)
  slices_S64x50x5_S64x50x1_0_0_2 : S64x50x5.Slices ![0, 0, 2] S64x50x1
  bcast_S64x50_S64x50x1_0_1 : S64x50.BroadcastsInDim S64x50x1 (![0, 1] : Fin 2 → Fin S64x50x1.rank)
  bcast_S64x50_S64x1x50_0_2 : S64x50.BroadcastsInDim S64x1x50 (![0, 2] : Fin 2 → Fin S64x1x50.rank)
  bcast_S64x50x1_S64x50x50_0_1_2 : S64x50x1.BroadcastsInDim S64x50x50 (![0, 1, 2] : Fin 3 → Fin S64x50x50.rank)
  bcast_S64x1x50_S64x50x50_0_1_2 : S64x1x50.BroadcastsInDim S64x50x50 (![0, 1, 2] : Fin 3 → Fin S64x50x50.rank)
  bcast_S50_S1x50x1_1 : S50.BroadcastsInDim S1x50x1 (![1] : Fin 1 → Fin S1x50x1.rank)
  bcast_S50_S1x1x50_2 : S50.BroadcastsInDim S1x1x50 (![2] : Fin 1 → Fin S1x1x50.rank)
  bcast_S1x50x1_S1x50x50_0_1_2 : S1x50x1.BroadcastsInDim S1x50x50 (![0, 1, 2] : Fin 3 → Fin S1x50x50.rank)
  bcast_S1x1x50_S1x50x50_0_1_2 : S1x1x50.BroadcastsInDim S1x50x50 (![0, 1, 2] : Fin 3 → Fin S1x50x50.rank)
  bcast_S_S64x125x38x38 : S_.BroadcastsInDim S64x125x38x38 (![] : Fin 0 → Fin S64x125x38x38.rank)
  bcast_S_S64x250 : S_.BroadcastsInDim S64x250 (![] : Fin 0 → Fin S64x250.rank)
  bcast_S_S10 : S_.BroadcastsInDim S10 (![] : Fin 0 → Fin S10.rank)
  slices_S64x50x5_S64x50x1_0_0_3 : S64x50x5.Slices ![0, 0, 3] S64x50x1
  slices_S64x50x5_S64x50x1_0_0_4 : S64x50x5.Slices ![0, 0, 4] S64x50x1
  bcast_S1x50x50_S64x50x50_0_1_2 : S1x50x50.BroadcastsInDim S64x50x50 (![0, 1, 2] : Fin 3 → Fin S64x50x50.rank)

variable [Facts]

def fn_clip {F : FTy → Type} [FloatOps F] (arg0 : IVec S64x50 32) (arg1 : IVec S_ 32) (arg2 : IVec S_ 32) : IVec S64x50 32 :=
  let v0 : IVec S_ 32 := id arg1
  let v1 : IVec S64x50 32 := broadcastInDim S64x50 ![] bcast_S_S64x50 v0
  let v2 : IVec S64x50 32 := maxsi v1 arg0
  let v3 : IVec S_ 32 := id arg2
  let v4 : IVec S64x50 32 := broadcastInDim S64x50 ![] bcast_S_S64x50 v3
  let v5 : IVec S64x50 32 := minsi v4 v2
  v5

def fn_part3 {F : FTy → Type} [FloatOps F] (main_v5 : IVec S64x50 32) (main_v26 : IVec S64x50x50 1) (main_v33 : IVec S1x50x50 1) (main_v35 : IVec S64x50 1) (main_v38 : IVec S64x125x38x38 1) (main_v41 : IVec S64x250 1) (main_v46 : IVec S10 1) (main_v55 : IVec S64x50 1) (main_v57 : IVec S64x50 1) : IVec S64x125x38x38 1 × IVec S64x250 1 × IVec S10 1 × IVec S64x50 1 × IVec S64x50x50 1 × IVec S64x50x50 1 :=
  let main_v58 : IVec S64x50 1 := andi main_v55 main_v57
  let main_c_12 : IVec S_ 32 := constantI S_ 32 20#32
  let main_v59 : IVec S64x50 32 := broadcastInDim S64x50 ![] bcast_S_S64x50 main_c_12
  let main_v60 : IVec S64x50 1 := cmpi .slt main_v5 main_v59
  let main_v61 : IVec S64x50 1 := andi main_v58 main_v60
  let main_v62 : IVec S64x50 1 := ori main_v35 main_v61
  let main_v63 : IVec S64x50x1 1 := broadcastInDim S64x50x1 ![0, 1] bcast_S64x50_S64x50x1_0_1 main_v35
  let main_v64 : IVec S64x50x50 1 := broadcastInDim S64x50x50 ![0, 1, 2] bcast_S1x50x50_S64x50x50_0_1_2 main_v33
  let main_v65 : IVec S64x50x50 1 := broadcastInDim S64x50x50 ![0, 1, 2] bcast_S64x50x1_S64x50x50_0_1_2 main_v63
  let main_v66 : IVec S64x50x50 1 := andi main_v64 main_v65
  let main_v67 : IVec S64x50x50 1 := noti main_v66
  let main_v68 : IVec S64x1x50 1 := broadcastInDim S64x1x50 ![0, 2] bcast_S64x50_S64x1x50_0_2 main_v35
  let main_v69 : IVec S64x50x50 1 := broadcastInDim S64x50x50 ![0, 1, 2] bcast_S64x1x50_S64x50x50_0_1_2 main_v68
  let main_v70 : IVec S64x50x50 1 := ori main_v67 main_v69
  let main_v71 : IVec S64x50x50 1 := broadcastInDim S64x50x50 ![0, 1, 2] bcast_S1x50x50_S64x50x50_0_1_2 main_v33
  let main_v72 : IVec S64x50x50 1 := andi main_v71 main_v26
  let main_v73 : IVec S64x50x50 1 := noti main_v72
  let main_v74 : IVec S64x1x50 1 := broadcastInDim S64x1x50 ![0, 2] bcast_S64x50_S64x1x50_0_2 main_v35
  let main_v75 : IVec S64x50x50 1 := broadcastInDim S64x50x50 ![0, 1, 2] bcast_S64x1x50_S64x50x50_0_1_2 main_v74
  let main_v76 : IVec S64x50x50 1 := ori main_v73 main_v75
  (main_v38, main_v41, main_v46, main_v62, main_v70, main_v76)

def fn_part2 {F : FTy → Type} [FloatOps F] (main_arg2 : FVec F S10 .f32) (main_v0 : FVec F S64x50x5 .f32) (main_v5 : IVec S64x50 32) (main_v26 : IVec S64x50x50 1) (main_v33 : IVec S1x50x50 1) (main_v35 : IVec S64x50 1) (main_v38 : IVec S64x125x38x38 1) (main_v39 : FVec F S64x250 .f32) : IVec S64x125x38x38 1 × IVec S64x250 1 × IVec S10 1 × IVec S64x50 1 × IVec S64x50x50 1 × IVec S64x50x50 1 :=
  let main_cst_6 : FVec F S_ .f32 := constant S_ .f32 0x7F800000#32
  let main_v40 : FVec F S64x250 .f32 := broadcastInDim S64x250 ![] bcast_S_S64x250 main_cst_6
  let main_v41 : IVec S64x250 1 := cmpf .olt main_v39 main_v40
  let main_cst_7 : FVec F S_ .f32 := constant S_ .f32 0x00000000#32
  let main_v42 : FVec F S10 .f32 := broadcastInDim S10 ![] bcast_S_S10 main_cst_7
  let main_v43 : IVec S10 1 := cmpf .ogt main_arg2 main_v42
  let main_cst_8 : FVec F S_ .f32 := constant S_ .f32 0x7F800000#32
  let main_v44 : FVec F S10 .f32 := broadcastInDim S10 ![] bcast_S_S10 main_cst_8
  let main_v45 : IVec S10 1 := cmpf .olt main_arg2 main_v44
  let main_v46 : IVec S10 1 := andi main_v43 main_v45
  let main_v47 : FVec F S64x50x1 .f32 := (extractStridedSlice S64x50x1 ![0, 0, 3] · slices_S64x50x5_S64x50x1_0_0_3) main_v0
  let main_v48 : FVec F S64x50 .f32 := shapeCast S64x50 main_v47 shapeCasts_S64x50x1_S64x50
  let main_cst_9 : FVec F S_ .f32 := constant S_ .f32 0x00000000#32
  let main_v49 : FVec F S64x50 .f32 := broadcastInDim S64x50 ![] bcast_S_S64x50 main_cst_9
  let main_v50 : IVec S64x50 1 := cmpf .ogt main_v48 main_v49
  let main_v51 : FVec F S64x50x1 .f32 := (extractStridedSlice S64x50x1 ![0, 0, 4] · slices_S64x50x5_S64x50x1_0_0_4) main_v0
  let main_v52 : FVec F S64x50 .f32 := shapeCast S64x50 main_v51 shapeCasts_S64x50x1_S64x50
  let main_cst_10 : FVec F S_ .f32 := constant S_ .f32 0x00000000#32
  let main_v53 : FVec F S64x50 .f32 := broadcastInDim S64x50 ![] bcast_S_S64x50 main_cst_10
  let main_v54 : IVec S64x50 1 := cmpf .ogt main_v52 main_v53
  let main_v55 : IVec S64x50 1 := andi main_v50 main_v54
  let main_c_11 : IVec S_ 32 := constantI S_ 32 0#32
  let main_v56 : IVec S64x50 32 := broadcastInDim S64x50 ![] bcast_S_S64x50 main_c_11
  let main_v57 : IVec S64x50 1 := cmpi .sge main_v5 main_v56
  fn_part3 (F := F) main_v5 main_v26 main_v33 main_v35 main_v38 main_v41 main_v46 main_v55 main_v57

def fn_part1 {F : FTy → Type} [FloatOps F] (main_arg0 : FVec F S64x125x38x38 .f32) (main_arg1 : FVec F S64x250 .f32) (main_arg2 : FVec F S10 .f32) (main_v0 : FVec F S64x50x5 .f32) (main_v2 : FVec F S64x50 .f32) (main_v5 : IVec S64x50 32) (main_v15 : IVec S64x50 32) (main_v16 : IVec S64x50x1 32) (main_v17 : IVec S64x1x50 32) : IVec S64x125x38x38 1 × IVec S64x250 1 × IVec S10 1 × IVec S64x50 1 × IVec S64x50x50 1 × IVec S64x50x50 1 :=
  let main_v18 : IVec S64x50x50 32 := broadcastInDim S64x50x50 ![0, 1, 2] bcast_S64x50x1_S64x50x50_0_1_2 main_v16
  let main_v19 : IVec S64x50x50 32 := broadcastInDim S64x50x50 ![0, 1, 2] bcast_S64x1x50_S64x50x50_0_1_2 main_v17
  let main_v20 : IVec S64x50x50 1 := cmpi .eq main_v18 main_v19
  let main_v21 : IVec S64x50x1 32 := broadcastInDim S64x50x1 ![0, 1] bcast_S64x50_S64x50x1_0_1 main_v15
  let main_v22 : IVec S64x1x50 32 := broadcastInDim S64x1x50 ![0, 2] bcast_S64x50_S64x1x50_0_2 main_v15
  let main_v23 : IVec S64x50x50 32 := broadcastInDim S64x50x50 ![0, 1, 2] bcast_S64x50x1_S64x50x50_0_1_2 main_v21
  let main_v24 : IVec S64x50x50 32 := broadcastInDim S64x50x50 ![0, 1, 2] bcast_S64x1x50_S64x50x50_0_1_2 main_v22
  let main_v25 : IVec S64x50x50 1 := cmpi .eq main_v23 main_v24
  let main_v26 : IVec S64x50x50 1 := andi main_v20 main_v25
  let main_v27 : IVec S50 32 := iotaInDim S50 32 0
  let main_v28 : IVec S1x50x1 32 := broadcastInDim S1x50x1 ![1] bcast_S50_S1x50x1_1 main_v27
  let main_v29 : IVec S50 32 := iotaInDim S50 32 0
  let main_v30 : IVec S1x1x50 32 := broadcastInDim S1x1x50 ![2] bcast_S50_S1x1x50_2 main_v29
  let main_v31 : IVec S1x50x50 32 := broadcastInDim S1x50x50 ![0, 1, 2] bcast_S1x50x1_S1x50x50_0_1_2 main_v28
  let main_v32 : IVec S1x50x50 32 := broadcastInDim S1x50x50 ![0, 1, 2] bcast_S1x1x50_S1x50x50_0_1_2 main_v30
  let main_v33 : IVec S1x50x50 1 := cmpi .slt main_v31 main_v32
  let main_cst_4 : FVec F S_ .f32 := constant S_ .f32 0x00000000#32
  let main_v34 : FVec F S64x50 .f32 := broadcastInDim S64x50 ![] bcast_S_S64x50 main_cst_4
  let main_v35 : IVec S64x50 1 := cmpf .oeq main_v2 main_v34
  let main_v36 : FVec F S64x125x38x38 .f32 := Host.absf main_arg0
  let main_cst_5 : FVec F S_ .f32 := constant S_ .f32 0x7F800000#32
  let main_v37 : FVec F S64x125x38x38 .f32 := broadcastInDim S64x125x38x38 ![] bcast_S_S64x125x38x38 main_cst_5
  let main_v38 : IVec S64x125x38x38 1 := cmpf .olt main_v36 main_v37
  let main_v39 : FVec F S64x250 .f32 := Host.absf main_arg1
  fn_part2 (F := F) main_arg2 main_v0 main_v5 main_v26 main_v33 main_v35 main_v38 main_v39

def fn {F : FTy → Type} [FloatOps F] (main_arg0 : FVec F S64x125x38x38 .f32) (main_arg1 : FVec F S64x250 .f32) (main_arg2 : FVec F S10 .f32) : IVec S64x125x38x38 1 × IVec S64x250 1 × IVec S10 1 × IVec S64x50 1 × IVec S64x50x50 1 × IVec S64x50x50 1 :=
  let main_v0 : FVec F S64x50x5 .f32 := shapeCast S64x50x5 main_arg1 shapeCasts_S64x250_S64x50x5
  let main_v1 : FVec F S64x50x1 .f32 := (extractStridedSlice S64x50x1 ![0, 0, 1] · slices_S64x50x5_S64x50x1_0_0_1) main_v0
  let main_v2 : FVec F S64x50 .f32 := shapeCast S64x50 main_v1 shapeCasts_S64x50x1_S64x50
  let main_v3 : FVec F S64x50x1 .f32 := (extractStridedSlice S64x50x1 ![0, 0, 0] · slices_S64x50x5_S64x50x1_0_0_0) main_v0
  let main_v4 : FVec F S64x50 .f32 := shapeCast S64x50 main_v3 shapeCasts_S64x50x1_S64x50
  let main_v5 : IVec S64x50 32 := fptosi 32 main_v4
  let main_cst : FVec F S_ .f32 := constant S_ .f32 0x42180000#32
  let main_v6 : FVec F S64x50 .f32 := broadcastInDim S64x50 ![] bcast_S_S64x50 main_cst
  let main_v7 : FVec F S64x50 .f32 := mulf main_v2 main_v6
  let main_v8 : IVec S64x50 32 := fptosi 32 main_v7
  let main_c : IVec S_ 32 := constantI S_ 32 0#32
  let main_c_0 : IVec S_ 32 := constantI S_ 32 37#32
  let main_v9 : IVec S64x50 32 := fn_clip (F := F) main_v8 main_c main_c_0
  let main_v10 : FVec F S64x50x1 .f32 := (extractStridedSlice S64x50x1 ![0, 0, 2] · slices_S64x50x5_S64x50x1_0_0_2) main_v0
  let main_v11 : FVec F S64x50 .f32 := shapeCast S64x50 main_v10 shapeCasts_S64x50x1_S64x50
  let main_cst_1 : FVec F S_ .f32 := constant S_ .f32 0x42180000#32
  let main_v12 : FVec F S64x50 .f32 := broadcastInDim S64x50 ![] bcast_S_S64x50 main_cst_1
  let main_v13 : FVec F S64x50 .f32 := mulf main_v11 main_v12
  let main_v14 : IVec S64x50 32 := fptosi 32 main_v13
  let main_c_2 : IVec S_ 32 := constantI S_ 32 0#32
  let main_c_3 : IVec S_ 32 := constantI S_ 32 37#32
  let main_v15 : IVec S64x50 32 := fn_clip (F := F) main_v14 main_c_2 main_c_3
  let main_v16 : IVec S64x50x1 32 := broadcastInDim S64x50x1 ![0, 1] bcast_S64x50_S64x50x1_0_1 main_v9
  let main_v17 : IVec S64x1x50 32 := broadcastInDim S64x1x50 ![0, 2] bcast_S64x50_S64x1x50_0_2 main_v9
  fn_part1 (F := F) main_arg0 main_arg1 main_arg2 main_v0 main_v2 main_v5 main_v15 main_v16 main_v17
-- ==== Kernel.lean ====
abbrev S64x125x38x38 : Shape := ⟨4, ![64, 125, 38, 38]⟩
abbrev S64x250 : Shape := ⟨2, ![64, 250]⟩
abbrev S10 : Shape := ⟨1, ![10]⟩
abbrev S7680 : Shape := ⟨1, ![7680]⟩
abbrev S60x128 : Shape := ⟨2, ![60, 128]⟩
abbrev S5x2 : Shape := ⟨2, ![5, 2]⟩
abbrev S5x1 : Shape := ⟨2, ![5, 1]⟩
abbrev S5 : Shape := ⟨1, ![5]⟩
abbrev S_ : Shape := ⟨0, ![]⟩
abbrev S7680x1 : Shape := ⟨2, ![7680, 1]⟩
abbrev S64x5x25x1444 : Shape := ⟨4, ![64, 5, 25, 1444]⟩
abbrev S64x25x5x1444 : Shape := ⟨4, ![64, 25, 5, 1444]⟩
abbrev S64x25x7220 : Shape := ⟨3, ![64, 25, 7220]⟩
abbrev S64x25x7680 : Shape := ⟨3, ![64, 25, 7680]⟩
abbrev S64x25x60x128 : Shape := ⟨4, ![64, 25, 60, 128]⟩
abbrev S64x1x250 : Shape := ⟨3, ![64, 1, 250]⟩
abbrev S1x10 : Shape := ⟨2, ![1, 10]⟩
abbrev S64x1x1 : Shape := ⟨3, ![64, 1, 1]⟩
abbrev S1x25x60x128 : Shape := ⟨4, ![1, 25, 60, 128]⟩
abbrev S1x1x250 : Shape := ⟨3, ![1, 1, 250]⟩
abbrev S1x1x1 : Shape := ⟨3, ![1, 1, 1]⟩
abbrev S1x1x60x128 : Shape := ⟨4, ![1, 1, 60, 128]⟩
abbrev S1x1 : Shape := ⟨2, ![1, 1]⟩
abbrev S8x64 : Shape := ⟨2, ![8, 64]⟩
abbrev S8x128 : Shape := ⟨2, ![8, 128]⟩
abbrev S1x60x128 : Shape := ⟨3, ![1, 60, 128]⟩
abbrev S1 : Shape := ⟨1, ![1]⟩

abbrev nBuf : Space → Nat
  | .hbm => 44
  | .vmem => 10
  | .smem => 5
  | _ => 0

abbrev bufTy : (tb : Table) → Fin (tcTables nBuf tb) → BufTy
  | .hbm, ⟨0, _⟩ => ⟨S64x125x38x38, .f32⟩
  | .hbm, ⟨1, _⟩ => ⟨S64x250, .f32⟩
  | .hbm, ⟨2, _⟩ => ⟨S10, .f32⟩
  | .hbm, ⟨3, _⟩ => ⟨S7680, .f32⟩
  | .hbm, ⟨4, _⟩ => ⟨S7680, .i32⟩
  | .hbm, ⟨5, _⟩ => ⟨S7680, .i1⟩
  | .hbm, ⟨6, _⟩ => ⟨S7680, .i1⟩
  | .hbm, ⟨7, _⟩ => ⟨S60x128, .i32⟩
  | .hbm, ⟨8, _⟩ => ⟨S60x128, .f32⟩
  | .hbm, ⟨9, _⟩ => ⟨S60x128, .f32⟩
  | .hbm, ⟨10, _⟩ => ⟨S5x2, .f32⟩
  | .hbm, ⟨11, _⟩ => ⟨S5x1, .f32⟩
  | .hbm, ⟨12, _⟩ => ⟨S5, .f32⟩
  | .hbm, ⟨13, _⟩ => ⟨S5x2, .f32⟩
  | .hbm, ⟨14, _⟩ => ⟨S5x1, .f32⟩
  | .hbm, ⟨15, _⟩ => ⟨S5, .f32⟩
  | .hbm, ⟨16, _⟩ => ⟨S_, .i32⟩
  | .hbm, ⟨17, _⟩ => ⟨S7680, .i32⟩
  | .hbm, ⟨18, _⟩ => ⟨S7680, .i32⟩
  | .hbm, ⟨19, _⟩ => ⟨S7680, .i32⟩
  | .hbm, ⟨20, _⟩ => ⟨S7680x1, .i32⟩
  | .hbm, ⟨21, _⟩ => ⟨S7680, .f32⟩
  | .hbm, ⟨22, _⟩ => ⟨S7680, .f32⟩
  | .hbm, ⟨23, _⟩ => ⟨S60x128, .f32⟩
  | .hbm, ⟨24, _⟩ => ⟨S_, .i32⟩
  | .hbm, ⟨25, _⟩ => ⟨S7680, .i32⟩
  | .hbm, ⟨26, _⟩ => ⟨S7680, .i32⟩
  | .hbm, ⟨27, _⟩ => ⟨S7680, .i32⟩
  | .hbm, ⟨28, _⟩ => ⟨S7680x1, .i32⟩
  | .hbm, ⟨29, _⟩ => ⟨S7680, .f32⟩
  | .hbm, ⟨30, _⟩ => ⟨S7680, .f32⟩
  | .hbm, ⟨31, _⟩ => ⟨S60x128, .f32⟩
  | .hbm, ⟨32, _⟩ => ⟨S64x5x25x1444, .f32⟩
  | .hbm, ⟨33, _⟩ => ⟨S64x25x5x1444, .f32⟩
  | .hbm, ⟨34, _⟩ => ⟨S64x25x7220, .f32⟩
  | .hbm, ⟨35, _⟩ => ⟨S_, .i32⟩
  | .hbm, ⟨36, _⟩ => ⟨S_, .f32⟩
  | .hbm, ⟨37, _⟩ => ⟨S64x25x7680, .f32⟩
  | .hbm, ⟨38, _⟩ => ⟨S64x25x60x128, .f32⟩
  | .hbm, ⟨39, _⟩ => ⟨S64x1x250, .f32⟩
  | .hbm, ⟨40, _⟩ => ⟨S1x10, .f32⟩
  | .hbm, ⟨41, _⟩ => ⟨S64x1x1, .f32⟩
  | .hbm, ⟨42, _⟩ => ⟨S_, .f32⟩
  | .hbm, ⟨43, _⟩ => ⟨S_, .f32⟩
  | .local _ .vmem, ⟨0, _⟩ => ⟨S1x25x60x128, .f32⟩
  | .local _ .vmem, ⟨1, _⟩ => ⟨S1x25x60x128, .f32⟩
  | .local _ .vmem, ⟨2, _⟩ => ⟨S60x128, .i32⟩
  | .local _ .vmem, ⟨3, _⟩ => ⟨S60x128, .f32⟩
  | .local _ .vmem, ⟨4, _⟩ => ⟨S60x128, .f32⟩
  | .local _ .vmem, ⟨5, _⟩ => ⟨S60x128, .f32⟩
  | .local _ .vmem, ⟨6, _⟩ => ⟨S60x128, .f32⟩
  | .local _ .vmem, ⟨7, _⟩ => ⟨S60x128, .f32⟩
  | .local _ .vmem, ⟨8, _⟩ => ⟨S60x128, .f32⟩
  | .local _ .vmem, ⟨9, _⟩ => ⟨S60x128, .f32⟩
  | .local _ .smem, ⟨0, _⟩ => ⟨S1x1x250, .f32⟩
  | .local _ .smem, ⟨1, _⟩ => ⟨S1x1x250, .f32⟩
  | .local _ .smem, ⟨2, _⟩ => ⟨S1x10, .f32⟩
  | .local _ .smem, ⟨3, _⟩ => ⟨S1x1x1, .f32⟩
  | .local _ .smem, ⟨4, _⟩ => ⟨S1x1x1, .f32⟩
  | _, _ => ⟨S64x125x38x38, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_c : Ref sig .tc := ⟨.hbm, 4, rfl⟩
abbrev main_call0_c_0 : Ref sig .tc := ⟨.hbm, 5, rfl⟩
abbrev main_call0_c_1 : Ref sig .tc := ⟨.hbm, 6, rfl⟩
abbrev main_call0_c_2 : Ref sig .tc := ⟨.hbm, 7, rfl⟩
abbrev main_call0_cst_3 : Ref sig .tc := ⟨.hbm, 8, rfl⟩
abbrev main_call0_cst_4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_6 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_c_7 : Ref sig .tc := ⟨.hbm, 35, rfl⟩
abbrev main_call0_call0_v0 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_cst_8 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg8_0 : Ref sig .tc := ⟨.smem, 3, rfl⟩
abbrev cc0_stg8_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c50_i32 : BitVec 32 := 50#32
  let v197 : BitVec 32 := Scalar.addi c0_i32 c50_i32
  let c1_i32 : BitVec 32 := 1#32
  ⟨c0_i32, v197, c1_i32⟩
def k0_off1 (k0_t1 : Fin k0_t1_loop.trips) : Fin 3 → Nat :=
  let c0_190 : Index := 0#32
  let c0_191 : Index := 0#32
  let c5_i32 : BitVec 32 := 5#32
  let c0_i32 : BitVec 32 := 0#32
  let c1_i32 : BitVec 32 := 1#32
  let arg13 : BitVec 32 := Scf.iv c0_i32 c1_i32 k0_t1
  let v232 : BitVec 32 := Scalar.muli c5_i32 arg13
  let c1_i32_189 : BitVec 32 := 1#32
  let v233 : BitVec 32 := Scalar.addi v232 c1_i32_189
  let v234 : Index := Scalar.indexCast v233
  ![0, 0, v234.toNat]
def k0_off2 (k0_t1 : Fin k0_t1_loop.trips) (c2_i32 : BitVec 32) : Fin 3 → Nat :=
  let c0_196 : Index := 0#32
  let c0_197 : Index := 0#32
  let c5_i32_195 : BitVec 32 := 5#32
  let c0_i32 : BitVec 32 := 0#32
  let c1_i32 : BitVec 32 := 1#32
  let arg13 : BitVec 32 := Scf.iv c0_i32 c1_i32 k0_t1
  let v240 : BitVec 32 := Scalar.muli c5_i32_195 arg13
  let v241 : BitVec 32 := Scalar.addi v240 c2_i32
  let v242 : Index := Scalar.indexCast v241
  ![0, 0, v242.toNat]
def k0_off3 (k0_t1 : Fin k0_t1_loop.trips) : Fin 3 → Nat :=
  let c0_208 : Index := 0#32
  let c0_209 : Index := 0#32
  let c5_i32_207 : BitVec 32 := 5#32
  let c0_i32 : BitVec 32 := 0#32
  let c1_i32 : BitVec 32 := 1#32
  let arg13 : BitVec 32 := Scf.iv c0_i32 c1_i32 k0_t1
  let v255 : BitVec 32 := Scalar.muli c5_i32_207 arg13
  let v256 : Index := Scalar.indexCast v255
  ![0, 0, v256.toNat]
def k0_off4 (v292 : BitVec 1) (v308 : BitVec 1) (v324 : BitVec 1) (v340 : BitVec 1) : Fin 2 → Nat :=
  let c0_259 : Index := 0#32
  let c2_i32_258 : BitVec 32 := 2#32
  let c4_i32_257 : BitVec 32 := 4#32
  let c3_i32_248 : BitVec 32 := 3#32
  let c2_i32_239 : BitVec 32 := 2#32
  let c1_i32_229 : BitVec 32 := 1#32
  let c0_i32_230 : BitVec 32 := 0#32
  let v293 : BitVec 32 := Scalar.select v292 c1_i32_229 c0_i32_230
  let v309 : BitVec 32 := Scalar.select v308 c2_i32_239 v293
  let v325 : BitVec 32 := Scalar.select v324 c3_i32_248 v309
  let v341 : BitVec 32 := Scalar.select v340 c4_i32_257 v325
  let v342 : BitVec 32 := Scalar.muli c2_i32_258 v341
  let v343 : Index := Scalar.indexCast v342
  ![0, v343.toNat]
def k0_cond1 (v236 : BitVec 1) : BitVec 1 :=
  let v237 : BitVec 32 := Scalar.extui v236
  let c0_i32_193 : BitVec 32 := 0#32
  let v238 : BitVec 1 := Scalar.cmpi .ne v237 c0_i32_193
  v238

def k0_off5 (v292 : BitVec 1) (v308 : BitVec 1) (v324 : BitVec 1) (v340 : BitVec 1) : Fin 2 → Nat :=
  let c0_262 : Index := 0#32
  let c2_i32_260 : BitVec 32 := 2#32
  let c4_i32_257 : BitVec 32 := 4#32
  let c3_i32_248 : BitVec 32 := 3#32
  let c2_i32_239 : BitVec 32 := 2#32
  let c1_i32_229 : BitVec 32 := 1#32
  let c0_i32_230 : BitVec 32 := 0#32
  let v293 : BitVec 32 := Scalar.select v292 c1_i32_229 c0_i32_230
  let v309 : BitVec 32 := Scalar.select v308 c2_i32_239 v293
  let v325 : BitVec 32 := Scalar.select v324 c3_i32_248 v309
  let v341 : BitVec 32 := Scalar.select v340 c4_i32_257 v325
  let v345 : BitVec 32 := Scalar.muli c2_i32_260 v341
  let c1_i32_261 : BitVec 32 := 1#32
  let v346 : BitVec 32 := Scalar.addi v345 c1_i32_261
  let v347 : Index := Scalar.indexCast v346
  ![0, v347.toNat]

def k0_chk1 (v236 : BitVec 1) (v292 : BitVec 1) (v308 : BitVec 1) (v324 : BitVec 1) (v340 : BitVec 1) : Prop :=
  (∀ (k0_h1 : k0_cond1 v236 = 1#1), ∀ a, (k0_off4 v292 v308 v324 v340) a + S1x1.size a ≤ S1x10.size a) ∧
  (∀ (k0_h1 : k0_cond1 v236 = 1#1), ∀ a, (k0_off5 v292 v308 v324 v340) a + S1x1.size a ≤ S1x10.size a)
theorem k0_off4_inb : ∀ (v236 : BitVec 1) (v292 : BitVec 1) (v308 : BitVec 1) (v324 : BitVec 1) (v340 : BitVec 1) (k0_hw1 : k0_chk1 v236 v292 v308 v324 v340), ∀ (k0_h1 : k0_cond1 v236 = 1#1), ∀ a, (k0_off4 v292 v308 v324 v340) a + S1x1.size a ≤ S1x10.size a := fun v236 v292 v308 v324 v340 k0_hw1 k0_h1 => k0_hw1.1 k0_h1
theorem k0_off5_inb : ∀ (v236 : BitVec 1) (v292 : BitVec 1) (v308 : BitVec 1) (v324 : BitVec 1) (v340 : BitVec 1) (k0_hw1 : k0_chk1 v236 v292 v308 v324 v340), ∀ (k0_h1 : k0_cond1 v236 = 1#1), ∀ a, (k0_off5 v292 v308 v324 v340) a + S1x1.size a ≤ S1x10.size a := fun v236 v292 v308 v324 v340 k0_hw1 k0_h1 => k0_hw1.2 k0_h1

def k0_off6 (v258 : BitVec 32) : Fin 4 → Nat :=
  let c0_285 : Index := 0#32
  let c5_i32_284 : BitVec 32 := 5#32
  let v449 : BitVec 32 := Scalar.addi c5_i32_284 v258
  let v450 : Index := Scalar.indexCast v449
  let c0_286 : Index := 0#32
  let c0_287 : Index := 0#32
  ![0, v450.toNat, 0, 0]

def k0_chk2 (v236 : BitVec 1) (v258 : BitVec 32) : Prop :=
  (∀ (k0_h1 : k0_cond1 v236 = 1#1), ∀ a, (k0_off6 v258) a + S1x1x60x128.size a ≤ S1x25x60x128.size a)
theorem k0_off6_inb : ∀ (v236 : BitVec 1) (v258 : BitVec 32) (k0_hw2 : k0_chk2 v236 v258), ∀ (k0_h1 : k0_cond1 v236 = 1#1), ∀ a, (k0_off6 v258) a + S1x1x60x128.size a ≤ S1x25x60x128.size a := fun v236 v258 k0_hw2 k0_h1 => k0_hw2 k0_h1

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x25x60x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x250 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S60x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S60x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S60x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S60x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .smem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x125x38x38 : Shape := ⟨4, ![64, 125, 38, 38]⟩
abbrev S64x250 : Shape := ⟨2, ![64, 250]⟩
abbrev S10 : Shape := ⟨1, ![10]⟩
abbrev S64x5x25x38x38 : Shape := ⟨5, ![64, 5, 25, 38, 38]⟩
abbrev S64x5x1x38x38 : Shape := ⟨5, ![64, 5, 1, 38, 38]⟩
abbrev S64x5x38x38 : Shape := ⟨4, ![64, 5, 38, 38]⟩
abbrev S_ : Shape := ⟨0, ![]⟩
abbrev S64x5x20x38x38 : Shape := ⟨5, ![64, 5, 20, 38, 38]⟩
abbrev S64x5x38x38x20 : Shape := ⟨5, ![64, 5, 38, 38, 20]⟩
abbrev S462080x20 : Shape := ⟨2, ![462080, 20]⟩
abbrev S5x2 : Shape := ⟨2, ![5, 2]⟩
abbrev S5x1 : Shape := ⟨2, ![5, 1]⟩
abbrev S5 : Shape := ⟨1, ![5]⟩
abbrev S38 : Shape := ⟨1, ![38]⟩
abbrev S1x1x1x38 : Shape := ⟨4, ![1, 1, 1, 38]⟩
abbrev S1x1x38x1 : Shape := ⟨4, ![1, 1, 38, 1]⟩
abbrev S1x5x1x1 : Shape := ⟨4, ![1, 5, 1, 1]⟩
abbrev S64x5x38x38x1 : Shape := ⟨5, ![64, 5, 38, 38, 1]⟩
abbrev S64x5x38x38x4 : Shape := ⟨5, ![64, 5, 38, 38, 4]⟩
abbrev S64x7220x4 : Shape := ⟨3, ![64, 7220, 4]⟩
abbrev S64x50x5 : Shape := ⟨3, ![64, 50, 5]⟩
abbrev S64x50x1 : Shape := ⟨3, ![64, 50, 1]⟩
abbrev S64x50 : Shape := ⟨2, ![64, 50]⟩
abbrev S64x50x4 : Shape := ⟨3, ![64, 50, 4]⟩
abbrev S64x7220x1x4 : Shape := ⟨4, ![64, 7220, 1, 4]⟩
abbrev S64x1x50x4 : Shape := ⟨4, ![64, 1, 50, 4]⟩
abbrev S64x7220x1x1 : Shape := ⟨4, ![64, 7220, 1, 1]⟩
abbrev S64x7220x1 : Shape := ⟨3, ![64, 7220, 1]⟩
abbrev S64x1x50x1 : Shape := ⟨4, ![64, 1, 50, 1]⟩
abbrev S64x1x50 : Shape := ⟨3, ![64, 1, 50]⟩
abbrev S64x7220x50 : Shape := ⟨3, ![64, 7220, 50]⟩
abbrev S64x7220 : Shape := ⟨2, ![64, 7220]⟩
abbrev S462080 : Shape := ⟨1, ![462080]⟩
abbrev S1x1x5 : Shape := ⟨3, ![1, 1, 5]⟩
abbrev S64 : Shape := ⟨1, ![64]⟩
abbrev S64x1 : Shape := ⟨2, ![64, 1]⟩
abbrev S3200 : Shape := ⟨1, ![3200]⟩
abbrev S462080x4 : Shape := ⟨2, ![462080, 4]⟩
abbrev S3200x1 : Shape := ⟨2, ![3200, 1]⟩
abbrev S462080x1 : Shape := ⟨2, ![462080, 1]⟩
abbrev S462080x1x1 : Shape := ⟨3, ![462080, 1, 1]⟩
abbrev S1 : Shape := ⟨1, ![1]⟩
abbrev S1x1x1 : Shape := ⟨3, ![1, 1, 1]⟩

abbrev nBuf : Space → Nat
  | .hbm => 670
  | .vmem => 0
  | .smem => 0
  | _ => 0

abbrev hbmTy0_0 (i : Nat) : BufTy := match i % 128 with
  | 0 => ⟨S64x125x38x38, .f32⟩
  | 1 => ⟨S64x250, .f32⟩
  | 2 => ⟨S10, .f32⟩
  | 3 => ⟨S64x5x25x38x38, .f32⟩
  | 4 => ⟨S64x5x1x38x38, .f32⟩
  | 5 => ⟨S64x5x38x38, .f32⟩
  | 6 => ⟨S64x5x38x38, .f32⟩
  | 7 => ⟨S64x5x38x38, .f32⟩
  | 8 => ⟨S_, .f32⟩
  | 9 => ⟨S64x5x38x38, .f32⟩
  | 10 => ⟨S64x5x38x38, .f32⟩
  | 11 => ⟨S_, .f32⟩
  | 12 => ⟨S64x5x38x38, .f32⟩
  | 13 => ⟨S64x5x38x38, .f32⟩
  | 14 => ⟨S64x5x1x38x38, .f32⟩
  | 15 => ⟨S64x5x38x38, .f32⟩
  | 16 => ⟨S64x5x38x38, .f32⟩
  | 17 => ⟨S64x5x38x38, .f32⟩
  | 18 => ⟨S_, .f32⟩
  | 19 => ⟨S64x5x38x38, .f32⟩
  | 20 => ⟨S64x5x38x38, .f32⟩
  | 21 => ⟨S_, .f32⟩
  | 22 => ⟨S64x5x38x38, .f32⟩
  | 23 => ⟨S64x5x38x38, .f32⟩
  | 24 => ⟨S64x5x1x38x38, .f32⟩
  | 25 => ⟨S64x5x38x38, .f32⟩
  | 26 => ⟨S64x5x1x38x38, .f32⟩
  | 27 => ⟨S64x5x38x38, .f32⟩
  | 28 => ⟨S64x5x1x38x38, .f32⟩
  | 29 => ⟨S64x5x38x38, .f32⟩
  | 30 => ⟨S64x5x38x38, .f32⟩
  | 31 => ⟨S64x5x38x38, .f32⟩
  | 32 => ⟨S_, .f32⟩
  | 33 => ⟨S64x5x38x38, .f32⟩
  | 34 => ⟨S64x5x38x38, .f32⟩
  | 35 => ⟨S_, .f32⟩
  | 36 => ⟨S64x5x38x38, .f32⟩
  | 37 => ⟨S64x5x38x38, .f32⟩
  | 38 => ⟨S64x5x20x38x38, .f32⟩
  | 39 => ⟨S64x5x38x38x20, .f32⟩
  | 40 => ⟨S462080x20, .f32⟩
  | 41 => ⟨S5x2, .f32⟩
  | 42 => ⟨S5x1, .f32⟩
  | 43 => ⟨S5, .f32⟩
  | 44 => ⟨S5x2, .f32⟩
  | 45 => ⟨S5x1, .f32⟩
  | 46 => ⟨S5, .f32⟩
  | 47 => ⟨S38, .f32⟩
  | 48 => ⟨S1x1x1x38, .f32⟩
  | 49 => ⟨S64x5x38x38, .f32⟩
  | 50 => ⟨S64x5x38x38, .f32⟩
  | 51 => ⟨S38, .f32⟩
  | 52 => ⟨S1x1x38x1, .f32⟩
  | 53 => ⟨S64x5x38x38, .f32⟩
  | 54 => ⟨S64x5x38x38, .f32⟩
  | 55 => ⟨S64x5x38x38, .f32⟩
  | 56 => ⟨S1x5x1x1, .f32⟩
  | 57 => ⟨S64x5x38x38, .f32⟩
  | 58 => ⟨S64x5x38x38, .f32⟩
  | 59 => ⟨S64x5x38x38, .f32⟩
  | 60 => ⟨S1x5x1x1, .f32⟩
  | 61 => ⟨S64x5x38x38, .f32⟩
  | 62 => ⟨S64x5x38x38, .f32⟩
  | 63 => ⟨S64x5x38x38x1, .f32⟩
  | 64 => ⟨S64x5x38x38x1, .f32⟩
  | 65 => ⟨S64x5x38x38x1, .f32⟩
  | 66 => ⟨S64x5x38x38x1, .f32⟩
  | 67 => ⟨S64x5x38x38x4, .f32⟩
  | 68 => ⟨S64x7220x4, .f32⟩
  | 69 => ⟨S64x50x5, .f32⟩
  | 70 => ⟨S64x50x1, .f32⟩
  | 71 => ⟨S64x50, .f32⟩
  | 72 => ⟨S_, .f32⟩
  | 73 => ⟨S64x50, .f32⟩
  | 74 => ⟨S64x50, .i1⟩
  | 75 => ⟨S64x50, .f32⟩
  | 76 => ⟨S_, .f32⟩
  | 77 => ⟨S_, .f32⟩
  | 78 => ⟨S64x50, .f32⟩
  | 79 => ⟨S64x50x1, .f32⟩
  | 80 => ⟨S64x50, .f32⟩
  | 81 => ⟨S_, .f32⟩
  | 82 => ⟨S64x50, .f32⟩
  | 83 => ⟨S64x50, .f32⟩
  | 84 => ⟨S64x50x1, .f32⟩
  | 85 => ⟨S64x50, .f32⟩
  | 86 => ⟨S_, .f32⟩
  | 87 => ⟨S64x50, .f32⟩
  | 88 => ⟨S64x50, .f32⟩
  | 89 => ⟨S64x50x1, .f32⟩
  | 90 => ⟨S64x50, .f32⟩
  | 91 => ⟨S_, .f32⟩
  | 92 => ⟨S64x50, .f32⟩
  | 93 => ⟨S64x50, .f32⟩
  | 94 => ⟨S64x50x1, .f32⟩
  | 95 => ⟨S64x50, .f32⟩
  | 96 => ⟨S_, .f32⟩
  | 97 => ⟨S64x50, .f32⟩
  | 98 => ⟨S64x50, .f32⟩
  | 99 => ⟨S64x50x1, .f32⟩
  | 100 => ⟨S64x50x1, .f32⟩
  | 101 => ⟨S64x50x1, .f32⟩
  | 102 => ⟨S64x50x1, .f32⟩
  | 103 => ⟨S64x50x4, .f32⟩
  | 104 => ⟨S64x7220x1x4, .f32⟩
  | 105 => ⟨S64x1x50x4, .f32⟩
  | 106 => ⟨S64x7220x1x1, .f32⟩
  | 107 => ⟨S64x7220x1, .f32⟩
  | 108 => ⟨S64x7220x1x1, .f32⟩
  | 109 => ⟨S64x7220x1, .f32⟩
  | 110 => ⟨S_, .f32⟩
  | 111 => ⟨S64x7220x1, .f32⟩
  | 112 => ⟨S64x7220x1, .f32⟩
  | 113 => ⟨S64x7220x1, .f32⟩
  | 114 => ⟨S64x1x50x1, .f32⟩
  | 115 => ⟨S64x1x50, .f32⟩
  | 116 => ⟨S64x1x50x1, .f32⟩
  | 117 => ⟨S64x1x50, .f32⟩
  | 118 => ⟨S_, .f32⟩
  | 119 => ⟨S64x1x50, .f32⟩
  | 120 => ⟨S64x1x50, .f32⟩
  | 121 => ⟨S64x1x50, .f32⟩
  | 122 => ⟨S64x7220x50, .f32⟩
  | 123 => ⟨S64x7220x50, .f32⟩
  | 124 => ⟨S64x7220x50, .f32⟩
  | 125 => ⟨S64x7220x1x1, .f32⟩
  | 126 => ⟨S64x7220x1, .f32⟩
  | 127 => ⟨S64x7220x1x1, .f32⟩
  | _ => ⟨S64x125x38x38, .f32⟩

abbrev hbmTy0_1 (i : Nat) : BufTy := match i % 128 with
  | 0 => ⟨S64x7220x1, .f32⟩
  | 1 => ⟨S_, .f32⟩
  | 2 => ⟨S64x7220x1, .f32⟩
  | 3 => ⟨S64x7220x1, .f32⟩
  | 4 => ⟨S64x7220x1, .f32⟩
  | 5 => ⟨S64x1x50x1, .f32⟩
  | 6 => ⟨S64x1x50, .f32⟩
  | 7 => ⟨S64x1x50x1, .f32⟩
  | 8 => ⟨S64x1x50, .f32⟩
  | 9 => ⟨S_, .f32⟩
  | 10 => ⟨S64x1x50, .f32⟩
  | 11 => ⟨S64x1x50, .f32⟩
  | 12 => ⟨S64x1x50, .f32⟩
  | 13 => ⟨S64x7220x50, .f32⟩
  | 14 => ⟨S64x7220x50, .f32⟩
  | 15 => ⟨S64x7220x50, .f32⟩
  | 16 => ⟨S64x7220x1x1, .f32⟩
  | 17 => ⟨S64x7220x1, .f32⟩
  | 18 => ⟨S64x7220x1x1, .f32⟩
  | 19 => ⟨S64x7220x1, .f32⟩
  | 20 => ⟨S_, .f32⟩
  | 21 => ⟨S64x7220x1, .f32⟩
  | 22 => ⟨S64x7220x1, .f32⟩
  | 23 => ⟨S64x7220x1, .f32⟩
  | 24 => ⟨S64x1x50x1, .f32⟩
  | 25 => ⟨S64x1x50, .f32⟩
  | 26 => ⟨S64x1x50x1, .f32⟩
  | 27 => ⟨S64x1x50, .f32⟩
  | 28 => ⟨S_, .f32⟩
  | 29 => ⟨S64x1x50, .f32⟩
  | 30 => ⟨S64x1x50, .f32⟩
  | 31 => ⟨S64x1x50, .f32⟩
  | 32 => ⟨S64x7220x50, .f32⟩
  | 33 => ⟨S64x7220x50, .f32⟩
  | 34 => ⟨S64x7220x50, .f32⟩
  | 35 => ⟨S64x7220x1x1, .f32⟩
  | 36 => ⟨S64x7220x1, .f32⟩
  | 37 => ⟨S64x7220x1x1, .f32⟩
  | 38 => ⟨S64x7220x1, .f32⟩
  | 39 => ⟨S_, .f32⟩
  | 40 => ⟨S64x7220x1, .f32⟩
  | 41 => ⟨S64x7220x1, .f32⟩
  | 42 => ⟨S64x7220x1, .f32⟩
  | 43 => ⟨S64x1x50x1, .f32⟩
  | 44 => ⟨S64x1x50, .f32⟩
  | 45 => ⟨S64x1x50x1, .f32⟩
  | 46 => ⟨S64x1x50, .f32⟩
  | 47 => ⟨S_, .f32⟩
  | 48 => ⟨S64x1x50, .f32⟩
  | 49 => ⟨S64x1x50, .f32⟩
  | 50 => ⟨S64x1x50, .f32⟩
  | 51 => ⟨S64x7220x50, .f32⟩
  | 52 => ⟨S64x7220x50, .f32⟩
  | 53 => ⟨S64x7220x50, .f32⟩
  | 54 => ⟨S64x7220x1x1, .f32⟩
  | 55 => ⟨S64x7220x1, .f32⟩
  | 56 => ⟨S64x7220x1x1, .f32⟩
  | 57 => ⟨S64x7220x1, .f32⟩
  | 58 => ⟨S64x1x50x1, .f32⟩
  | 59 => ⟨S64x1x50, .f32⟩
  | 60 => ⟨S64x1x50x1, .f32⟩
  | 61 => ⟨S64x1x50, .f32⟩
  | 62 => ⟨S64x7220x50, .f32⟩
  | 63 => ⟨S64x7220x50, .f32⟩
  | 64 => ⟨S64x7220x50, .f32⟩
  | 65 => ⟨S64x7220x50, .f32⟩
  | 66 => ⟨S64x7220x50, .f32⟩
  | 67 => ⟨S64x7220x50, .f32⟩
  | 68 => ⟨S64x7220x50, .f32⟩
  | 69 => ⟨S64x7220x50, .f32⟩
  | 70 => ⟨S64x7220x50, .f32⟩
  | 71 => ⟨S64x7220x50, .f32⟩
  | 72 => ⟨S_, .f32⟩
  | 73 => ⟨S64x7220x50, .f32⟩
  | 74 => ⟨S64x7220x50, .i1⟩
  | 75 => ⟨S_, .f32⟩
  | 76 => ⟨S64x7220x50, .f32⟩
  | 77 => ⟨S64x7220x50, .i1⟩
  | 78 => ⟨S64x7220x50, .i1⟩
  | 79 => ⟨S64x7220x50, .f32⟩
  | 80 => ⟨S_, .f32⟩
  | 81 => ⟨S_, .f32⟩
  | 82 => ⟨S64x7220x50, .f32⟩
  | 83 => ⟨S64x7220x50, .f32⟩
  | 84 => ⟨S64x7220x1, .f32⟩
  | 85 => ⟨S64x1x50, .f32⟩
  | 86 => ⟨S64x7220x50, .f32⟩
  | 87 => ⟨S64x7220x50, .f32⟩
  | 88 => ⟨S64x7220x50, .f32⟩
  | 89 => ⟨S64x7220x50, .f32⟩
  | 90 => ⟨S64x7220x50, .f32⟩
  | 91 => ⟨S64x1x50, .f32⟩
  | 92 => ⟨S64x7220x50, .f32⟩
  | 93 => ⟨S64x7220x50, .f32⟩
  | 94 => ⟨S_, .f32⟩
  | 95 => ⟨S64x7220, .f32⟩
  | 96 => ⟨S_, .f32⟩
  | 97 => ⟨S64x7220, .f32⟩
  | 98 => ⟨S64x7220, .i1⟩
  | 99 => ⟨S_, .f32⟩
  | 100 => ⟨S_, .f32⟩
  | 101 => ⟨S64x7220, .f32⟩
  | 102 => ⟨S64x7220, .f32⟩
  | 103 => ⟨S64x7220, .f32⟩
  | 104 => ⟨S462080, .f32⟩
  | 105 => ⟨S_, .f32⟩
  | 106 => ⟨S462080, .f32⟩
  | 107 => ⟨S_, .f32⟩
  | 108 => ⟨S462080, .f32⟩
  | 109 => ⟨S_, .f32⟩
  | 110 => ⟨S462080, .f32⟩
  | 111 => ⟨S_, .f32⟩
  | 112 => ⟨S462080, .f32⟩
  | 113 => ⟨S_, .f32⟩
  | 114 => ⟨S462080, .f32⟩
  | 115 => ⟨S_, .f32⟩
  | 116 => ⟨S462080, .f32⟩
  | 117 => ⟨S_, .f32⟩
  | 118 => ⟨S462080, .f32⟩
  | 119 => ⟨S_, .f32⟩
  | 120 => ⟨S462080, .f32⟩
  | 121 => ⟨S1x1x5, .f32⟩
  | 122 => ⟨S64x50x1, .f32⟩
  | 123 => ⟨S64x50x5, .f32⟩
  | 124 => ⟨S64x50x5, .f32⟩
  | 125 => ⟨S64x50x5, .f32⟩
  | 126 => ⟨S1x1x5, .f32⟩
  | 127 => ⟨S64x50x1, .f32⟩
  | _ => ⟨S64x125x38x38, .f32⟩

abbrev hbmTy0_2 (i : Nat) : BufTy := match i % 128 with
  | 0 => ⟨S64x50x5, .f32⟩
  | 1 => ⟨S64x50x5, .f32⟩
  | 2 => ⟨S64x50x5, .f32⟩
  | 3 => ⟨S64x50x5, .f32⟩
  | 4 => ⟨S1x1x5, .f32⟩
  | 5 => ⟨S1x1x5, .f32⟩
  | 6 => ⟨S1x1x5, .f32⟩
  | 7 => ⟨S64x50, .f32⟩
  | 8 => ⟨S64x50x1, .f32⟩
  | 9 => ⟨S64x50x5, .f32⟩
  | 10 => ⟨S64x50x5, .f32⟩
  | 11 => ⟨S64x50x5, .f32⟩
  | 12 => ⟨S64x50x5, .f32⟩
  | 13 => ⟨S64x50x5, .f32⟩
  | 14 => ⟨S_, .f32⟩
  | 15 => ⟨S64x50, .f32⟩
  | 16 => ⟨S64x50x1, .f32⟩
  | 17 => ⟨S64x50x5, .f32⟩
  | 18 => ⟨S64x50x5, .i1⟩
  | 19 => ⟨S5, .i32⟩
  | 20 => ⟨S_, .i32⟩
  | 21 => ⟨S_, .i32⟩
  | 22 => ⟨S64x50x5, .i32⟩
  | 23 => ⟨S64x50x5, .i32⟩
  | 24 => ⟨S64x50x5, .i32⟩
  | 25 => ⟨S_, .i32⟩
  | 26 => ⟨S64x50, .i32⟩
  | 27 => ⟨S64x50, .i32⟩
  | 28 => ⟨S_, .i32⟩
  | 29 => ⟨S_, .i32⟩
  | 30 => ⟨S_, .i32⟩
  | 31 => ⟨S64x50, .i32⟩
  | 32 => ⟨S64x50, .i32⟩
  | 33 => ⟨S_, .i32⟩
  | 34 => ⟨S64x50, .i32⟩
  | 35 => ⟨S64x50, .i32⟩
  | 36 => ⟨S64x50, .i32⟩
  | 37 => ⟨S_, .i32⟩
  | 38 => ⟨S_, .i32⟩
  | 39 => ⟨S_, .i32⟩
  | 40 => ⟨S64x50, .i32⟩
  | 41 => ⟨S64x50, .i32⟩
  | 42 => ⟨S_, .i32⟩
  | 43 => ⟨S64x50, .i32⟩
  | 44 => ⟨S64x50, .i32⟩
  | 45 => ⟨S64, .i32⟩
  | 46 => ⟨S64x1, .i32⟩
  | 47 => ⟨S64x50, .i32⟩
  | 48 => ⟨S_, .i32⟩
  | 49 => ⟨S64x50, .i32⟩
  | 50 => ⟨S64x50, .i32⟩
  | 51 => ⟨S64x50, .i32⟩
  | 52 => ⟨S_, .i32⟩
  | 53 => ⟨S64x50, .i32⟩
  | 54 => ⟨S64x50, .i32⟩
  | 55 => ⟨S64x50, .i32⟩
  | 56 => ⟨S_, .i32⟩
  | 57 => ⟨S64x50, .i32⟩
  | 58 => ⟨S64x50, .i32⟩
  | 59 => ⟨S64x50, .i32⟩
  | 60 => ⟨S_, .f32⟩
  | 61 => ⟨S64x50, .f32⟩
  | 62 => ⟨S64x50, .i1⟩
  | 63 => ⟨S_, .i32⟩
  | 64 => ⟨S_, .i32⟩
  | 65 => ⟨S64x50, .i32⟩
  | 66 => ⟨S64x50, .i32⟩
  | 67 => ⟨S3200, .i32⟩
  | 68 => ⟨S462080x4, .f32⟩
  | 69 => ⟨S_, .i32⟩
  | 70 => ⟨S_, .i32⟩
  | 71 => ⟨S_, .i32⟩
  | 72 => ⟨S64x50, .i32⟩
  | 73 => ⟨S64x50, .i32⟩
  | 74 => ⟨S_, .i32⟩
  | 75 => ⟨S64x50, .i32⟩
  | 76 => ⟨S64x50, .i32⟩
  | 77 => ⟨S_, .i32⟩
  | 78 => ⟨S64x50, .i32⟩
  | 79 => ⟨S64x50, .i1⟩
  | 80 => ⟨S_, .i32⟩
  | 81 => ⟨S64x50, .i32⟩
  | 82 => ⟨S64x50, .i32⟩
  | 83 => ⟨S64x50, .i32⟩
  | 84 => ⟨S64x50x1, .i32⟩
  | 85 => ⟨S64x50x4, .f32⟩
  | 86 => ⟨S64x50x1, .f32⟩
  | 87 => ⟨S64x50, .f32⟩
  | 88 => ⟨S64x50x1, .f32⟩
  | 89 => ⟨S64x50, .f32⟩
  | 90 => ⟨S_, .f32⟩
  | 91 => ⟨S64x50, .f32⟩
  | 92 => ⟨S64x50, .f32⟩
  | 93 => ⟨S64x50, .f32⟩
  | 94 => ⟨S64x50x1, .f32⟩
  | 95 => ⟨S64x50, .f32⟩
  | 96 => ⟨S64x50x1, .f32⟩
  | 97 => ⟨S64x50, .f32⟩
  | 98 => ⟨S_, .f32⟩
  | 99 => ⟨S64x50, .f32⟩
  | 100 => ⟨S64x50, .f32⟩
  | 101 => ⟨S64x50, .f32⟩
  | 102 => ⟨S64x50, .f32⟩
  | 103 => ⟨S64x50x1, .f32⟩
  | 104 => ⟨S64x50, .f32⟩
  | 105 => ⟨S64x50x1, .f32⟩
  | 106 => ⟨S64x50, .f32⟩
  | 107 => ⟨S_, .f32⟩
  | 108 => ⟨S64x50, .f32⟩
  | 109 => ⟨S64x50, .f32⟩
  | 110 => ⟨S64x50, .f32⟩
  | 111 => ⟨S64x50x1, .f32⟩
  | 112 => ⟨S64x50, .f32⟩
  | 113 => ⟨S64x50x1, .f32⟩
  | 114 => ⟨S64x50, .f32⟩
  | 115 => ⟨S_, .f32⟩
  | 116 => ⟨S64x50, .f32⟩
  | 117 => ⟨S64x50, .f32⟩
  | 118 => ⟨S64x50, .f32⟩
  | 119 => ⟨S64x50, .f32⟩
  | 120 => ⟨S64x50x1, .f32⟩
  | 121 => ⟨S64x50, .f32⟩
  | 122 => ⟨S64x50x1, .f32⟩
  | 123 => ⟨S64x50, .f32⟩
  | 124 => ⟨S_, .f32⟩
  | 125 => ⟨S64x50, .f32⟩
  | 126 => ⟨S64x50, .f32⟩
  | 127 => ⟨S64x50, .f32⟩
  | _ => ⟨S64x125x38x38, .f32⟩

abbrev hbmTy0_3 (i : Nat) : BufTy := match i % 128 with
  | 0 => ⟨S64x50x1, .f32⟩
  | 1 => ⟨S64x50, .f32⟩
  | 2 => ⟨S64x50x1, .f32⟩
  | 3 => ⟨S64x50, .f32⟩
  | 4 => ⟨S_, .f32⟩
  | 5 => ⟨S64x50, .f32⟩
  | 6 => ⟨S64x50, .f32⟩
  | 7 => ⟨S64x50, .f32⟩
  | 8 => ⟨S64x50, .f32⟩
  | 9 => ⟨S64x50x1, .f32⟩
  | 10 => ⟨S64x50, .f32⟩
  | 11 => ⟨S64x50x1, .f32⟩
  | 12 => ⟨S64x50, .f32⟩
  | 13 => ⟨S_, .f32⟩
  | 14 => ⟨S64x50, .f32⟩
  | 15 => ⟨S64x50, .f32⟩
  | 16 => ⟨S64x50, .f32⟩
  | 17 => ⟨S64x50x1, .f32⟩
  | 18 => ⟨S64x50, .f32⟩
  | 19 => ⟨S64x50x1, .f32⟩
  | 20 => ⟨S64x50, .f32⟩
  | 21 => ⟨S_, .f32⟩
  | 22 => ⟨S64x50, .f32⟩
  | 23 => ⟨S64x50, .f32⟩
  | 24 => ⟨S64x50, .f32⟩
  | 25 => ⟨S64x50, .f32⟩
  | 26 => ⟨S64x50x1, .f32⟩
  | 27 => ⟨S64x50, .f32⟩
  | 28 => ⟨S64x50x1, .f32⟩
  | 29 => ⟨S64x50, .f32⟩
  | 30 => ⟨S64x50x1, .f32⟩
  | 31 => ⟨S64x50, .f32⟩
  | 32 => ⟨S64x50x1, .f32⟩
  | 33 => ⟨S64x50, .f32⟩
  | 34 => ⟨S64x50, .f32⟩
  | 35 => ⟨S64x50, .f32⟩
  | 36 => ⟨S64x50, .f32⟩
  | 37 => ⟨S64x50, .f32⟩
  | 38 => ⟨S64x50, .f32⟩
  | 39 => ⟨S64x50, .f32⟩
  | 40 => ⟨S_, .f32⟩
  | 41 => ⟨S64x50, .f32⟩
  | 42 => ⟨S64x50, .i1⟩
  | 43 => ⟨S_, .f32⟩
  | 44 => ⟨S64x50, .f32⟩
  | 45 => ⟨S64x50, .i1⟩
  | 46 => ⟨S64x50, .i1⟩
  | 47 => ⟨S64x50, .f32⟩
  | 48 => ⟨S_, .f32⟩
  | 49 => ⟨S_, .f32⟩
  | 50 => ⟨S64x50, .f32⟩
  | 51 => ⟨S64x50, .f32⟩
  | 52 => ⟨S64x50, .f32⟩
  | 53 => ⟨S64x50, .f32⟩
  | 54 => ⟨S64x50, .f32⟩
  | 55 => ⟨S64x50, .f32⟩
  | 56 => ⟨S64x50, .f32⟩
  | 57 => ⟨S_, .i32⟩
  | 58 => ⟨S3200, .i32⟩
  | 59 => ⟨S3200, .i1⟩
  | 60 => ⟨S_, .i32⟩
  | 61 => ⟨S3200, .i32⟩
  | 62 => ⟨S3200, .i32⟩
  | 63 => ⟨S3200, .i32⟩
  | 64 => ⟨S3200x1, .i32⟩
  | 65 => ⟨S_, .f32⟩
  | 66 => ⟨S3200, .f32⟩
  | 67 => ⟨S462080, .f32⟩
  | 68 => ⟨S_, .i32⟩
  | 69 => ⟨S3200, .i32⟩
  | 70 => ⟨S3200, .i1⟩
  | 71 => ⟨S_, .i32⟩
  | 72 => ⟨S3200, .i32⟩
  | 73 => ⟨S3200, .i32⟩
  | 74 => ⟨S3200, .i32⟩
  | 75 => ⟨S3200x1, .i32⟩
  | 76 => ⟨S_, .f32⟩
  | 77 => ⟨S3200, .f32⟩
  | 78 => ⟨S462080, .f32⟩
  | 79 => ⟨S_, .i32⟩
  | 80 => ⟨S3200, .i32⟩
  | 81 => ⟨S3200, .i1⟩
  | 82 => ⟨S_, .i32⟩
  | 83 => ⟨S3200, .i32⟩
  | 84 => ⟨S3200, .i32⟩
  | 85 => ⟨S3200, .i32⟩
  | 86 => ⟨S3200x1, .i32⟩
  | 87 => ⟨S_, .f32⟩
  | 88 => ⟨S3200, .f32⟩
  | 89 => ⟨S462080, .f32⟩
  | 90 => ⟨S64x50, .f32⟩
  | 91 => ⟨S64x50, .f32⟩
  | 92 => ⟨S3200, .f32⟩
  | 93 => ⟨S_, .i32⟩
  | 94 => ⟨S3200, .i32⟩
  | 95 => ⟨S3200, .i1⟩
  | 96 => ⟨S_, .i32⟩
  | 97 => ⟨S3200, .i32⟩
  | 98 => ⟨S3200, .i32⟩
  | 99 => ⟨S3200, .i32⟩
  | 100 => ⟨S3200x1, .i32⟩
  | 101 => ⟨S462080, .f32⟩
  | 102 => ⟨S64x50, .f32⟩
  | 103 => ⟨S64x50, .f32⟩
  | 104 => ⟨S3200, .f32⟩
  | 105 => ⟨S_, .i32⟩
  | 106 => ⟨S3200, .i32⟩
  | 107 => ⟨S3200, .i1⟩
  | 108 => ⟨S_, .i32⟩
  | 109 => ⟨S3200, .i32⟩
  | 110 => ⟨S3200, .i32⟩
  | 111 => ⟨S3200, .i32⟩
  | 112 => ⟨S3200x1, .i32⟩
  | 113 => ⟨S462080, .f32⟩
  | 114 => ⟨S_, .i32⟩
  | 115 => ⟨S64x50, .i32⟩
  | 116 => ⟨S64x50, .i1⟩
  | 117 => ⟨S_, .i32⟩
  | 118 => ⟨S64x50, .i32⟩
  | 119 => ⟨S64x50, .i32⟩
  | 120 => ⟨S64x50, .i32⟩
  | 121 => ⟨S64x50x1, .i32⟩
  | 122 => ⟨S64x50, .f32⟩
  | 123 => ⟨S64x50, .f32⟩
  | 124 => ⟨S64x50, .f32⟩
  | 125 => ⟨S3200, .f32⟩
  | 126 => ⟨S_, .i32⟩
  | 127 => ⟨S3200, .i32⟩
  | _ => ⟨S64x125x38x38, .f32⟩

abbrev hbmTy0_4 (i : Nat) : BufTy := match i % 128 with
  | 0 => ⟨S3200, .i1⟩
  | 1 => ⟨S_, .i32⟩
  | 2 => ⟨S3200, .i32⟩
  | 3 => ⟨S3200, .i32⟩
  | 4 => ⟨S3200, .i32⟩
  | 5 => ⟨S3200x1, .i32⟩
  | 6 => ⟨S462080, .f32⟩
  | 7 => ⟨S_, .i32⟩
  | 8 => ⟨S64x50, .i32⟩
  | 9 => ⟨S64x50, .i1⟩
  | 10 => ⟨S_, .i32⟩
  | 11 => ⟨S64x50, .i32⟩
  | 12 => ⟨S64x50, .i32⟩
  | 13 => ⟨S64x50, .i32⟩
  | 14 => ⟨S64x50x1, .i32⟩
  | 15 => ⟨S64x50, .f32⟩
  | 16 => ⟨S64x50, .f32⟩
  | 17 => ⟨S64x50, .f32⟩
  | 18 => ⟨S3200, .f32⟩
  | 19 => ⟨S_, .i32⟩
  | 20 => ⟨S3200, .i32⟩
  | 21 => ⟨S3200, .i1⟩
  | 22 => ⟨S_, .i32⟩
  | 23 => ⟨S3200, .i32⟩
  | 24 => ⟨S3200, .i32⟩
  | 25 => ⟨S3200, .i32⟩
  | 26 => ⟨S3200x1, .i32⟩
  | 27 => ⟨S462080, .f32⟩
  | 28 => ⟨S3200, .f32⟩
  | 29 => ⟨S_, .i32⟩
  | 30 => ⟨S3200, .i32⟩
  | 31 => ⟨S3200, .i1⟩
  | 32 => ⟨S_, .i32⟩
  | 33 => ⟨S3200, .i32⟩
  | 34 => ⟨S3200, .i32⟩
  | 35 => ⟨S3200, .i32⟩
  | 36 => ⟨S3200x1, .i32⟩
  | 37 => ⟨S462080, .f32⟩
  | 38 => ⟨S64x50x1, .f32⟩
  | 39 => ⟨S64x50, .f32⟩
  | 40 => ⟨S3200, .f32⟩
  | 41 => ⟨S_, .i32⟩
  | 42 => ⟨S3200, .i32⟩
  | 43 => ⟨S3200, .i1⟩
  | 44 => ⟨S_, .i32⟩
  | 45 => ⟨S3200, .i32⟩
  | 46 => ⟨S3200, .i32⟩
  | 47 => ⟨S3200, .i32⟩
  | 48 => ⟨S3200x1, .i32⟩
  | 49 => ⟨S462080, .f32⟩
  | 50 => ⟨S64x5x38x38, .f32⟩
  | 51 => ⟨S462080, .f32⟩
  | 52 => ⟨S64x5x38x38, .f32⟩
  | 53 => ⟨S64x5x38x38, .f32⟩
  | 54 => ⟨S64x5x38x38, .f32⟩
  | 55 => ⟨S64x5x38x38, .f32⟩
  | 56 => ⟨S64x5x38x38, .f32⟩
  | 57 => ⟨S64x5x38x38, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S64x5x38x38, .f32⟩
  | 65 => ⟨S64x5x38x38, .f32⟩
  | 66 => ⟨S64x5x38x38, .f32⟩
  | 67 => ⟨S64x5x38x38, .f32⟩
  | 68 => ⟨S64x5x38x38, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S64x5x38x38, .f32⟩
  | 76 => ⟨S64x5x38x38, .f32⟩
  | 77 => ⟨S64x5x38x38, .f32⟩
  | 78 => ⟨S64x5x38x38, .f32⟩
  | 79 => ⟨S64x5x38x38, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S64x5x38x38, .f32⟩
  | 87 => ⟨S64x5x38x38, .f32⟩
  | 88 => ⟨S64x5x38x38, .f32⟩
  | 89 => ⟨S64x5x38x38, .f32⟩
  | 90 => ⟨S64x5x38x38, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S64x5x38x38, .f32⟩
  | 98 => ⟨S64x5x38x38, .f32⟩
  | 99 => ⟨S64x5x38x38, .f32⟩
  | 100 => ⟨S64x5x38x38, .f32⟩
  | 101 => ⟨S64x5x38x38, .f32⟩
  | 102 => ⟨S64x5x38x38, .f32⟩
  | 103 => ⟨S64x5x38x38, .f32⟩
  | 104 => ⟨S_, .f32⟩
  | 105 => ⟨S_, .f32⟩
  | 106 => ⟨S_, .f32⟩
  | 107 => ⟨S_, .f32⟩
  | 108 => ⟨S_, .f32⟩
  | 109 => ⟨S462080, .f32⟩
  | 110 => ⟨S_, .f32⟩
  | 111 => ⟨S462080, .f32⟩
  | 112 => ⟨S462080, .f32⟩
  | 113 => ⟨S462080x1, .f32⟩
  | 114 => ⟨S462080x20, .f32⟩
  | 115 => ⟨S462080x20, .f32⟩
  | 116 => ⟨S462080x20, .f32⟩
  | 117 => ⟨S_, .f32⟩
  | 118 => ⟨S462080, .f32⟩
  | 119 => ⟨S462080x1, .f32⟩
  | 120 => ⟨S462080x1, .f32⟩
  | 121 => ⟨S462080x20, .f32⟩
  | 122 => ⟨S462080x20, .f32⟩
  | 123 => ⟨S462080, .i32⟩
  | 124 => ⟨S462080x1, .i32⟩
  | 125 => ⟨S_, .i32⟩
  | 126 => ⟨S462080x1, .i32⟩
  | 127 => ⟨S462080x1, .i1⟩
  | _ => ⟨S64x125x38x38, .f32⟩

abbrev hbmTy0_5 (i : Nat) : BufTy := match i % 128 with
  | 0 => ⟨S_, .i32⟩
  | 1 => ⟨S462080x1, .i32⟩
  | 2 => ⟨S462080x1, .i32⟩
  | 3 => ⟨S462080x1, .i32⟩
  | 4 => ⟨S462080x1x1, .i32⟩
  | 5 => ⟨S1, .i32⟩
  | 6 => ⟨S_, .i32⟩
  | 7 => ⟨S462080x1x1, .i32⟩
  | 8 => ⟨S462080x1x1, .i1⟩
  | 9 => ⟨S1x1x1, .i32⟩
  | 10 => ⟨S462080x1x1, .i32⟩
  | 11 => ⟨S462080x1x1, .i1⟩
  | 12 => ⟨S462080x1x1, .i1⟩
  | 13 => ⟨S_, .i1⟩
  | 14 => ⟨S462080x1, .i1⟩
  | 15 => ⟨S462080x1, .f32⟩
  | 16 => ⟨S_, .f32⟩
  | 17 => ⟨S462080x1, .f32⟩
  | 18 => ⟨S462080x1, .f32⟩
  | 19 => ⟨S462080, .f32⟩
  | 20 => ⟨S462080, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S64x125x38x38, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x125x38x38, .f32⟩

abbrev bufTy : (tb : Table) → Fin (tcTables nBuf tb) → BufTy
  | .hbm, ⟨i, _⟩ => hbmTy i
  | _, _ => ⟨S64x125x38x38, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_call0_cst : Ref sig .tc := ⟨.hbm, 76, rfl⟩
abbrev main_call0_v0 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_6 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_10 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_11 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_12 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_13 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_14 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_15 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_16 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_cst_17 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_cst_18 : Ref sig .tc := ⟨.hbm, 200, rfl⟩
abbrev main_v176 : Ref sig .tc := ⟨.hbm, 201, rfl⟩
abbrev main_v177 : Ref sig .tc := ⟨.hbm, 202, rfl⟩
abbrev main_cst_19 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_cst_20 : Ref sig .tc := ⟨.hbm, 208, rfl⟩
abbrev main_call1_v0 : Ref sig .tc := ⟨.hbm, 209, rfl⟩
abbrev main_call1_v1 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_cst_21 : Ref sig .tc := ⟨.hbm, 222, rfl⟩
abbrev main_v193 : Ref sig .tc := ⟨.hbm, 223, rfl⟩
abbrev main_cst_22 : Ref sig .tc := ⟨.hbm, 224, rfl⟩
abbrev main_v194 : Ref sig .tc := ⟨.hbm, 225, rfl⟩
abbrev main_v195 : Ref sig .tc := ⟨.hbm, 226, rfl⟩
abbrev main_cst_23 : Ref sig .tc := ⟨.hbm, 227, rfl⟩
abbrev main_cst_24 : Ref sig .tc := ⟨.hbm, 228, rfl⟩
abbrev main_call2_v0 : Ref sig .tc := ⟨.hbm, 229, rfl⟩
abbrev main_call2_v1 : Ref sig .tc := ⟨.hbm, 230, rfl⟩
abbrev main_v196 : Ref sig .tc := ⟨.hbm, 231, rfl⟩
abbrev main_v197 : Ref sig .tc := ⟨.hbm, 232, rfl⟩
abbrev main_cst_25 : Ref sig .tc := ⟨.hbm, 233, rfl⟩
abbrev main_v198 : Ref sig .tc := ⟨.hbm, 234, rfl⟩
abbrev main_cst_26 : Ref sig .tc := ⟨.hbm, 235, rfl⟩
abbrev main_v199 : Ref sig .tc := ⟨.hbm, 236, rfl⟩
abbrev main_cst_27 : Ref sig .tc := ⟨.hbm, 237, rfl⟩
abbrev main_v200 : Ref sig .tc := ⟨.hbm, 238, rfl⟩
abbrev main_cst_28 : Ref sig .tc := ⟨.hbm, 239, rfl⟩
abbrev main_v201 : Ref sig .tc := ⟨.hbm, 240, rfl⟩
abbrev main_cst_29 : Ref sig .tc := ⟨.hbm, 241, rfl⟩
abbrev main_v202 : Ref sig .tc := ⟨.hbm, 242, rfl⟩
abbrev main_cst_30 : Ref sig .tc := ⟨.hbm, 243, rfl⟩
abbrev main_v203 : Ref sig .tc := ⟨.hbm, 244, rfl⟩
abbrev main_cst_31 : Ref sig .tc := ⟨.hbm, 245, rfl⟩
abbrev main_v204 : Ref sig .tc := ⟨.hbm, 246, rfl⟩
abbrev main_cst_32 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_cst_33 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_c : Ref sig .tc := ⟨.hbm, 276, rfl⟩
abbrev main_call3_v0 : Ref sig .tc := ⟨.hbm, 277, rfl⟩
abbrev main_call3_v1 : Ref sig .tc := ⟨.hbm, 278, rfl⟩
abbrev main_call3_v2 : Ref sig .tc := ⟨.hbm, 279, rfl⟩
abbrev main_v232 : Ref sig .tc := ⟨.hbm, 280, rfl⟩
abbrev main_c_34 : Ref sig .tc := ⟨.hbm, 281, rfl⟩
abbrev main_v233 : Ref sig .tc := ⟨.hbm, 282, rfl⟩
abbrev main_v234 : Ref sig .tc := ⟨.hbm, 283, rfl⟩
abbrev main_c_35 : Ref sig .tc := ⟨.hbm, 284, rfl⟩
abbrev main_c_36 : Ref sig .tc := ⟨.hbm, 285, rfl⟩
abbrev main_call4_v0 : Ref sig .tc := ⟨.hbm, 286, rfl⟩
abbrev main_call4_v1 : Ref sig .tc := ⟨.hbm, 287, rfl⟩
abbrev main_call4_v2 : Ref sig .tc := ⟨.hbm, 288, rfl⟩
abbrev main_call4_v3 : Ref sig .tc := ⟨.hbm, 289, rfl⟩
abbrev main_call4_v4 : Ref sig .tc := ⟨.hbm, 290, rfl⟩
abbrev main_v235 : Ref sig .tc := ⟨.hbm, 291, rfl⟩
abbrev main_v236 : Ref sig .tc := ⟨.hbm, 292, rfl⟩
abbrev main_c_37 : Ref sig .tc := ⟨.hbm, 293, rfl⟩
abbrev main_c_38 : Ref sig .tc := ⟨.hbm, 294, rfl⟩
abbrev main_call5_v0 : Ref sig .tc := ⟨.hbm, 295, rfl⟩
abbrev main_call5_v1 : Ref sig .tc := ⟨.hbm, 296, rfl⟩
abbrev main_call5_v2 : Ref sig .tc := ⟨.hbm, 297, rfl⟩
abbrev main_call5_v3 : Ref sig .tc := ⟨.hbm, 298, rfl⟩
abbrev main_call5_v4 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_c_39 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_c_40 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_c_41 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_cst_42 : Ref sig .tc := ⟨.hbm, 316, rfl⟩
abbrev main_v250 : Ref sig .tc := ⟨.hbm, 317, rfl⟩
abbrev main_v251 : Ref sig .tc := ⟨.hbm, 318, rfl⟩
abbrev main_c_43 : Ref sig .tc := ⟨.hbm, 319, rfl⟩
abbrev main_call6_v0 : Ref sig .tc := ⟨.hbm, 320, rfl⟩
abbrev main_call6_v1 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_c_44 : Ref sig .tc := ⟨.hbm, 325, rfl⟩
abbrev main_c_45 : Ref sig .tc := ⟨.hbm, 326, rfl⟩
abbrev main_call7_v0 : Ref sig .tc := ⟨.hbm, 327, rfl⟩
abbrev main_call7_v1 : Ref sig .tc := ⟨.hbm, 328, rfl⟩
abbrev main_call7_v2 : Ref sig .tc := ⟨.hbm, 329, rfl⟩
abbrev main_call7_v3 : Ref sig .tc := ⟨.hbm, 330, rfl⟩
abbrev main_call7_v4 : Ref sig .tc := ⟨.hbm, 331, rfl⟩
abbrev main_v255 : Ref sig .tc := ⟨.hbm, 332, rfl⟩
abbrev main_c_46 : Ref sig .tc := ⟨.hbm, 333, rfl⟩
abbrev main_v256 : Ref sig .tc := ⟨.hbm, 334, rfl⟩
abbrev main_v257 : Ref sig .tc := ⟨.hbm, 335, rfl⟩
abbrev main_c_47 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_cst_48 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_cst_49 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_cst_50 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_cst_51 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_cst_52 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_cst_53 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_cst_54 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_v315 : Ref sig .tc := ⟨.hbm, 401, rfl⟩
abbrev main_v316 : Ref sig .tc := ⟨.hbm, 402, rfl⟩
abbrev main_v317 : Ref sig .tc := ⟨.hbm, 403, rfl⟩
abbrev main_v318 : Ref sig .tc := ⟨.hbm, 404, rfl⟩
abbrev main_cst_55 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_cst_56 : Ref sig .tc := ⟨.hbm, 424, rfl⟩
abbrev main_v337 : Ref sig .tc := ⟨.hbm, 425, rfl⟩
abbrev main_v338 : Ref sig .tc := ⟨.hbm, 426, rfl⟩
abbrev main_cst_57 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_cst_58 : Ref sig .tc := ⟨.hbm, 432, rfl⟩
abbrev main_call8_v0 : Ref sig .tc := ⟨.hbm, 433, rfl⟩
abbrev main_call8_v1 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_c_59 : Ref sig .tc := ⟨.hbm, 441, rfl⟩
abbrev main_v349 : Ref sig .tc := ⟨.hbm, 442, rfl⟩
abbrev main_v350 : Ref sig .tc := ⟨.hbm, 443, rfl⟩
abbrev main_c_60 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_cst_61 : Ref sig .tc := ⟨.hbm, 449, rfl⟩
abbrev main_v355 : Ref sig .tc := ⟨.hbm, 450, rfl⟩
abbrev main_v356 : Ref sig .tc := ⟨.hbm, 451, rfl⟩
abbrev main_c_62 : Ref sig .tc := ⟨.hbm, 452, rfl⟩
abbrev main_v357 : Ref sig .tc := ⟨.hbm, 453, rfl⟩
abbrev main_v358 : Ref sig .tc := ⟨.hbm, 454, rfl⟩
abbrev main_c_63 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_cst_64 : Ref sig .tc := ⟨.hbm, 460, rfl⟩
abbrev main_v363 : Ref sig .tc := ⟨.hbm, 461, rfl⟩
abbrev main_v364 : Ref sig .tc := ⟨.hbm, 462, rfl⟩
abbrev main_c_65 : Ref sig .tc := ⟨.hbm, 463, rfl⟩
abbrev main_v365 : Ref sig .tc := ⟨.hbm, 464, rfl⟩
abbrev main_v366 : Ref sig .tc := ⟨.hbm, 465, rfl⟩
abbrev main_c_66 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_cst_67 : Ref sig .tc := ⟨.hbm, 471, rfl⟩
abbrev main_v371 : Ref sig .tc := ⟨.hbm, 472, rfl⟩
abbrev main_v372 : Ref sig .tc := ⟨.hbm, 473, rfl⟩
abbrev main_v373 : Ref sig .tc := ⟨.hbm, 474, rfl⟩
abbrev main_v374 : Ref sig .tc := ⟨.hbm, 475, rfl⟩
abbrev main_v375 : Ref sig .tc := ⟨.hbm, 476, rfl⟩
abbrev main_c_68 : Ref sig .tc := ⟨.hbm, 477, rfl⟩
abbrev main_v376 : Ref sig .tc := ⟨.hbm, 478, rfl⟩
abbrev main_v377 : Ref sig .tc := ⟨.hbm, 479, rfl⟩
abbrev main_c_69 : Ref sig .tc := ⟨.hbm, 480, rfl⟩
abbrev main_v378 : Ref sig .tc := ⟨.hbm, 481, rfl⟩
abbrev main_v379 : Ref sig .tc := ⟨.hbm, 482, rfl⟩
abbrev main_v380 : Ref sig .tc := ⟨.hbm, 483, rfl⟩
abbrev main_v381 : Ref sig .tc := ⟨.hbm, 484, rfl⟩
abbrev main_v382 : Ref sig .tc := ⟨.hbm, 485, rfl⟩
abbrev main_v383 : Ref sig .tc := ⟨.hbm, 486, rfl⟩
abbrev main_v384 : Ref sig .tc := ⟨.hbm, 487, rfl⟩
abbrev main_v385 : Ref sig .tc := ⟨.hbm, 488, rfl⟩
abbrev main_c_70 : Ref sig .tc := ⟨.hbm, 489, rfl⟩
abbrev main_v386 : Ref sig .tc := ⟨.hbm, 490, rfl⟩
abbrev main_v387 : Ref sig .tc := ⟨.hbm, 491, rfl⟩
abbrev main_c_71 : Ref sig .tc := ⟨.hbm, 492, rfl⟩
abbrev main_v388 : Ref sig .tc := ⟨.hbm, 493, rfl⟩
abbrev main_v389 : Ref sig .tc := ⟨.hbm, 494, rfl⟩
abbrev main_v390 : Ref sig .tc := ⟨.hbm, 495, rfl⟩
abbrev main_v391 : Ref sig .tc := ⟨.hbm, 496, rfl⟩
abbrev main_v392 : Ref sig .tc := ⟨.hbm, 497, rfl⟩
abbrev main_c_72 : Ref sig .tc := ⟨.hbm, 498, rfl⟩
abbrev main_v393 : Ref sig .tc := ⟨.hbm, 499, rfl⟩
abbrev main_v394 : Ref sig .tc := ⟨.hbm, 500, rfl⟩
abbrev main_c_73 : Ref sig .tc := ⟨.hbm, 501, rfl⟩
abbrev main_v395 : Ref sig .tc := ⟨.hbm, 502, rfl⟩
abbrev main_v396 : Ref sig .tc := ⟨.hbm, 503, rfl⟩
abbrev main_v397 : Ref sig .tc := ⟨.hbm, 504, rfl⟩
abbrev main_v398 : Ref sig .tc := ⟨.hbm, 505, rfl⟩
abbrev main_v399 : Ref sig .tc := ⟨.hbm, 506, rfl⟩
abbrev main_v400 : Ref sig .tc := ⟨.hbm, 507, rfl⟩
abbrev main_v401 : Ref sig .tc := ⟨.hbm, 508, rfl⟩
abbrev main_v402 : Ref sig .tc := ⟨.hbm, 509, rfl⟩
abbrev main_c_74 : Ref sig .tc := ⟨.hbm, 510, rfl⟩
abbrev main_v403 : Ref sig .tc := ⟨.hbm, 511, rfl⟩
abbrev main_v404 : Ref sig .tc := ⟨.hbm, 512, rfl⟩
abbrev main_c_75 : Ref sig .tc := ⟨.hbm, 513, rfl⟩
abbrev main_v405 : Ref sig .tc := ⟨.hbm, 514, rfl⟩
abbrev main_v406 : Ref sig .tc := ⟨.hbm, 515, rfl⟩
abbrev main_v407 : Ref sig .tc := ⟨.hbm, 516, rfl⟩
abbrev main_v408 : Ref sig .tc := ⟨.hbm, 517, rfl⟩
abbrev main_v409 : Ref sig .tc := ⟨.hbm, 518, rfl⟩
abbrev main_c_76 : Ref sig .tc := ⟨.hbm, 519, rfl⟩
abbrev main_v410 : Ref sig .tc := ⟨.hbm, 520, rfl⟩
abbrev main_v411 : Ref sig .tc := ⟨.hbm, 521, rfl⟩
abbrev main_c_77 : Ref sig .tc := ⟨.hbm, 522, rfl⟩
abbrev main_v412 : Ref sig .tc := ⟨.hbm, 523, rfl⟩
abbrev main_v413 : Ref sig .tc := ⟨.hbm, 524, rfl⟩
abbrev main_v414 : Ref sig .tc := ⟨.hbm, 525, rfl⟩
abbrev main_v415 : Ref sig .tc := ⟨.hbm, 526, rfl⟩
abbrev main_v416 : Ref sig .tc := ⟨.hbm, 527, rfl⟩
abbrev main_v417 : Ref sig .tc := ⟨.hbm, 528, rfl⟩
abbrev main_v418 : Ref sig .tc := ⟨.hbm, 529, rfl⟩
abbrev main_v419 : Ref sig .tc := ⟨.hbm, 530, rfl⟩
abbrev main_c_78 : Ref sig .tc := ⟨.hbm, 531, rfl⟩
abbrev main_v420 : Ref sig .tc := ⟨.hbm, 532, rfl⟩
abbrev main_v421 : Ref sig .tc := ⟨.hbm, 533, rfl⟩
abbrev main_c_79 : Ref sig .tc := ⟨.hbm, 534, rfl⟩
abbrev main_v422 : Ref sig .tc := ⟨.hbm, 535, rfl⟩
abbrev main_v423 : Ref sig .tc := ⟨.hbm, 536, rfl⟩
abbrev main_v424 : Ref sig .tc := ⟨.hbm, 537, rfl⟩
abbrev main_v425 : Ref sig .tc := ⟨.hbm, 538, rfl⟩
abbrev main_v426 : Ref sig .tc := ⟨.hbm, 539, rfl⟩
abbrev main_v427 : Ref sig .tc := ⟨.hbm, 540, rfl⟩
abbrev main_c_80 : Ref sig .tc := ⟨.hbm, 541, rfl⟩
abbrev main_v428 : Ref sig .tc := ⟨.hbm, 542, rfl⟩
abbrev main_v429 : Ref sig .tc := ⟨.hbm, 543, rfl⟩
abbrev main_c_81 : Ref sig .tc := ⟨.hbm, 544, rfl⟩
abbrev main_v430 : Ref sig .tc := ⟨.hbm, 545, rfl⟩
abbrev main_v431 : Ref sig .tc := ⟨.hbm, 546, rfl⟩
abbrev main_v432 : Ref sig .tc := ⟨.hbm, 547, rfl⟩
abbrev main_v433 : Ref sig .tc := ⟨.hbm, 548, rfl⟩
abbrev main_v434 : Ref sig .tc := ⟨.hbm, 549, rfl⟩
abbrev main_v435 : Ref sig .tc := ⟨.hbm, 550, rfl⟩
abbrev main_v436 : Ref sig .tc := ⟨.hbm, 551, rfl⟩
abbrev main_v437 : Ref sig .tc := ⟨.hbm, 552, rfl⟩
abbrev main_c_82 : Ref sig .tc := ⟨.hbm, 553, rfl⟩
abbrev main_v438 : Ref sig .tc := ⟨.hbm, 554, rfl⟩
abbrev main_v439 : Ref sig .tc := ⟨.hbm, 555, rfl⟩
abbrev main_c_83 : Ref sig .tc := ⟨.hbm, 556, rfl⟩
abbrev main_v440 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_v444 : Ref sig .tc := ⟨.hbm, 561, rfl⟩
abbrev main_v445 : Ref sig .tc := ⟨.hbm, 562, rfl⟩
abbrev main_v446 : Ref sig .tc := ⟨.hbm, 563, rfl⟩
abbrev main_v447 : Ref sig .tc := ⟨.hbm, 564, rfl⟩
abbrev main_v448 : Ref sig .tc := ⟨.hbm, 565, rfl⟩
abbrev main_v449 : Ref sig .tc := ⟨.hbm, 566, rfl⟩
abbrev main_v450 : Ref sig .tc := ⟨.hbm, 567, rfl⟩
abbrev main_v451 : Ref sig .tc := ⟨.hbm, 568, rfl⟩
abbrev main_v452 : Ref sig .tc := ⟨.hbm, 569, rfl⟩
abbrev main_cst_84 : Ref sig .tc := ⟨.hbm, 570, rfl⟩
abbrev main_v453 : Ref sig .tc := ⟨.hbm, 571, rfl⟩
abbrev main_cst_85 : Ref sig .tc := ⟨.hbm, 572, rfl⟩
abbrev main_v454 : Ref sig .tc := ⟨.hbm, 573, rfl⟩
abbrev main_cst_86 : Ref sig .tc := ⟨.hbm, 574, rfl⟩
abbrev main_v455 : Ref sig .tc := ⟨.hbm, 575, rfl⟩
abbrev main_v456 : Ref sig .tc := ⟨.hbm, 576, rfl⟩
abbrev main_v457 : Ref sig .tc := ⟨.hbm, 577, rfl⟩
abbrev main_v458 : Ref sig .tc := ⟨.hbm, 578, rfl⟩
abbrev main_v459 : Ref sig .tc := ⟨.hbm, 579, rfl⟩
abbrev main_v460 : Ref sig .tc := ⟨.hbm, 580, rfl⟩
abbrev main_cst_87 : Ref sig .tc := ⟨.hbm, 581, rfl⟩
abbrev main_v461 : Ref sig .tc := ⟨.hbm, 582, rfl⟩
abbrev main_cst_88 : Ref sig .tc := ⟨.hbm, 583, rfl⟩
abbrev main_v462 : Ref sig .tc := ⟨.hbm, 584, rfl⟩
abbrev main_cst_89 : Ref sig .tc := ⟨.hbm, 585, rfl⟩
abbrev main_v463 : Ref sig .tc := ⟨.hbm, 586, rfl⟩
abbrev main_v464 : Ref sig .tc := ⟨.hbm, 587, rfl⟩
abbrev main_v465 : Ref sig .tc := ⟨.hbm, 588, rfl⟩
abbrev main_v466 : Ref sig .tc := ⟨.hbm, 589, rfl⟩
abbrev main_v467 : Ref sig .tc := ⟨.hbm, 590, rfl⟩
abbrev main_v468 : Ref sig .tc := ⟨.hbm, 591, rfl⟩
abbrev main_cst_90 : Ref sig .tc := ⟨.hbm, 592, rfl⟩
abbrev main_v469 : Ref sig .tc := ⟨.hbm, 593, rfl⟩
abbrev main_cst_91 : Ref sig .tc := ⟨.hbm, 594, rfl⟩
abbrev main_v470 : Ref sig .tc := ⟨.hbm, 595, rfl⟩
abbrev main_cst_92 : Ref sig .tc := ⟨.hbm, 596, rfl⟩
abbrev main_v471 : Ref sig .tc := ⟨.hbm, 597, rfl⟩
abbrev main_v472 : Ref sig .tc := ⟨.hbm, 598, rfl⟩
abbrev main_v473 : Ref sig .tc := ⟨.hbm, 599, rfl⟩
abbrev main_v474 : Ref sig .tc := ⟨.hbm, 600, rfl⟩
abbrev main_v475 : Ref sig .tc := ⟨.hbm, 601, rfl⟩
abbrev main_v476 : Ref sig .tc := ⟨.hbm, 602, rfl⟩
abbrev main_cst_93 : Ref sig .tc := ⟨.hbm, 603, rfl⟩
abbrev main_v477 : Ref sig .tc := ⟨.hbm, 604, rfl⟩
abbrev main_cst_94 : Ref sig .tc := ⟨.hbm, 605, rfl⟩
abbrev main_v478 : Ref sig .tc := ⟨.hbm, 606, rfl⟩
abbrev main_cst_95 : Ref sig .tc := ⟨.hbm, 607, rfl⟩
abbrev main_v479 : Ref sig .tc := ⟨.hbm, 608, rfl⟩
abbrev main_v480 : Ref sig .tc := ⟨.hbm, 609, rfl⟩
abbrev main_v481 : Ref sig .tc := ⟨.hbm, 610, rfl⟩
abbrev main_v482 : Ref sig .tc := ⟨.hbm, 611, rfl⟩
abbrev main_v483 : Ref sig .tc := ⟨.hbm, 612, rfl⟩
abbrev main_v484 : Ref sig .tc := ⟨.hbm, 613, rfl⟩
abbrev main_v485 : Ref sig .tc := ⟨.hbm, 614, rfl⟩
abbrev main_v486 : Ref sig .tc := ⟨.hbm, 615, rfl⟩
abbrev main_cst_96 : Ref sig .tc := ⟨.hbm, 616, rfl⟩
abbrev main_v487 : Ref sig .tc := ⟨.hbm, 617, rfl⟩
abbrev main_cst_97 : Ref sig .tc := ⟨.hbm, 618, rfl⟩
abbrev main_v488 : Ref sig .tc := ⟨.hbm, 619, rfl⟩
abbrev main_call9_cst : Ref sig .tc := ⟨.hbm, 620, rfl⟩
abbrev main_call9_v0 : Ref sig .tc := ⟨.hbm, 621, rfl⟩
abbrev main_call9_cst_0 : Ref sig .tc := ⟨.hbm, 622, rfl⟩
abbrev main_call9_v1 : Ref sig .tc := ⟨.hbm, 623, rfl⟩
abbrev main_call9_v2 : Ref sig .tc := ⟨.hbm, 624, rfl⟩
abbrev main_call9_v3 : Ref sig .tc := ⟨.hbm, 625, rfl⟩
abbrev main_call9_v4 : Ref sig .tc := ⟨.hbm, 626, rfl⟩
abbrev main_call9_v5 : Ref sig .tc := ⟨.hbm, 627, rfl⟩
abbrev main_call9_v6 : Ref sig .tc := ⟨.hbm, 628, rfl⟩
abbrev main_call9_cst_1 : Ref sig .tc := ⟨.hbm, 629, rfl⟩
abbrev main_call9_v7 : Ref sig .tc := ⟨.hbm, 630, rfl⟩
abbrev main_call9_v8 : Ref sig .tc := ⟨.hbm, 631, rfl⟩
abbrev main_call9_v9 : Ref sig .tc := ⟨.hbm, 632, rfl⟩
abbrev main_call9_v10 : Ref sig .tc := ⟨.hbm, 633, rfl⟩
abbrev main_v489 : Ref sig .tc := ⟨.hbm, 634, rfl⟩
abbrev main_v490 : Ref sig .tc := ⟨.hbm, 635, rfl⟩
abbrev main_v491 : Ref sig .tc := ⟨.hbm, 636, rfl⟩
abbrev main_call10_c : Ref sig .tc := ⟨.hbm, 637, rfl⟩
abbrev main_call10_v0 : Ref sig .tc := ⟨.hbm, 638, rfl⟩
abbrev main_call10_v1 : Ref sig .tc := ⟨.hbm, 639, rfl⟩
abbrev main_call10_c_0 : Ref sig .tc := ⟨.hbm, 640, rfl⟩
abbrev main_call10_v2 : Ref sig .tc := ⟨.hbm, 641, rfl⟩
abbrev main_call10_v3 : Ref sig .tc := ⟨.hbm, 642, rfl⟩
abbrev main_call10_v4 : Ref sig .tc := ⟨.hbm, 643, rfl⟩
abbrev main_call10_v5 : Ref sig .tc := ⟨.hbm, 644, rfl⟩
abbrev main_call10_c_1 : Ref sig .tc := ⟨.hbm, 645, rfl⟩
abbrev main_call10_c_2 : Ref sig .tc := ⟨.hbm, 646, rfl⟩
abbrev main_call10_v6 : Ref sig .tc := ⟨.hbm, 647, rfl⟩
abbrev main_call10_v7 : Ref sig .tc := ⟨.hbm, 648, rfl⟩
abbrev main_call10_v8 : Ref sig .tc := ⟨.hbm, 649, rfl⟩
abbrev main_call10_v9 : Ref sig .tc := ⟨.hbm, 650, rfl⟩
abbrev main_call10_v10 : Ref sig .tc := ⟨.hbm, 651, rfl⟩
abbrev main_call10_v11 : Ref sig .tc := ⟨.hbm, 652, rfl⟩
abbrev main_call10_c_3 : Ref sig .tc := ⟨.hbm, 653, rfl⟩
abbrev main_call10_v12 : Ref sig .tc := ⟨.hbm, 654, rfl⟩
abbrev main_call10_v13 : Ref sig .tc := ⟨.hbm, 655, rfl⟩
abbrev main_call10_cst : Ref sig .tc := ⟨.hbm, 656, rfl⟩
abbrev main_call10_v14 : Ref sig .tc := ⟨.hbm, 657, rfl⟩
abbrev main_v492 : Ref sig .tc := ⟨.hbm, 658, rfl⟩
abbrev main_v493 : Ref sig .tc := ⟨.hbm, 659, rfl⟩
abbrev main_v494 : Ref sig .tc := ⟨.hbm, 660, rfl⟩
abbrev main_cst_98 : Ref sig .tc := ⟨.hbm, 661, rfl⟩
abbrev main_v495 : Ref sig .tc := ⟨.hbm, 662, rfl⟩
abbrev main_cst_99 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_v499 : Ref sig .tc := ⟨.hbm, 667, rfl⟩
abbrev main_v500 : Ref sig .tc := ⟨.hbm, 668, rfl⟩
abbrev main_v501 : Ref sig .tc := ⟨.hbm, 669, rfl⟩

abbrev nD : Nat := 1
abbrev τ : Topo := Topo.v7x

variable {F : FTy → Type} [FloatOps F]
-- ==== Proof.KernelIdealStep.lean ====
/- What one trip of the box loop computes, as a function of the words it reads and the three accumulators it finds. -/
module

public import proofs.«01_k».proof.Proof.Gen.KernelIdeal.Skeleton

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F]

/-- What a load of the prediction block, of the box words, and of the anchor words gives, rectangle by rectangle. -/
abbrev Rd1 (F : FTy → Type) := (B : LoadRect S1x25x60x128) → B.shape.Idx → Elt F .f32
abbrev Rd2 (F : FTy → Type) := (B : LoadRect S1x1x250) → B.shape.Idx → Elt F .f32
abbrev Rd3 (F : FTy → Type) := (B : LoadRect S1x10) → B.shape.Idx → Elt F .f32

/-- The one element of a one-element rectangle of the box words. -/
def wd2 (W2 : Rd2 F) (off : Fin 3 → Nat) (h : ∀ a, off a + S1x1x1.size a ≤ S1x1x250.size a) : F .f32 :=
  W2 (Rect.unit (s := S1x1x250) off S1x1x1.size h).toLoadRect (Shape.Idx.first ((numel1_S1x1x1).symm ▸ Nat.one_pos))
/-- The one element of a one-element rectangle of the anchor words. -/
def wd3 (W3 : Rd3 F) (off : Fin 2 → Nat) (h : ∀ a, off a + S1x1.size a ≤ S1x10.size a) : F .f32 :=
  W3 (Rect.unit (s := S1x10) off S1x1.size h).toLoadRect (Shape.Idx.first ((numel1_S1x1).symm ▸ Nat.one_pos))

/-- The anchor number selected by four comparison bits names a pair inside the anchor table. -/
theorem chk1_all (a b c d e : BitVec 1) : k0_chk1 a b c d e := by
  have hb : ∀ x : BitVec 1, x = 0#1 ∨ x = 1#1 := by decide
  rcases hb b with rfl | rfl <;> rcases hb c with rfl | rfl <;> rcases hb d with rfl | rfl <;> rcases hb e with rfl | rfl <;>
    exact ⟨fun _ => by decide, fun _ => by decide⟩

/-- The bit that says box `k` is present: its first word is not zero. -/
def present (W2 : Rd2 F) (k : Fin k0_t1_loop.trips) : BitVec 1 :=
  Scalar.cmpf .one (wd2 W2 (k0_off1 k) (k0_off1_inb k)) (Scalar.ofBits .f32 0x00000000#32)
/-- The class word of box `k`, as an integer. -/
def clsOf (W2 : Rd2 F) (k : Fin k0_t1_loop.trips) : BitVec 32 :=
  Scalar.fptosi 32 (wd2 W2 (k0_off3 k) (k0_off3_inb k))

/-- The three accumulators: the corrections, the best overlap, the mask of matched cells. -/
structure Acc (F : FTy → Type) [FloatOps F] where
  corr : Vec F S60x128 .f32
  best : Vec F S60x128 .f32
  mask : Vec F S60x128 .f32

/-- The logits of box `k`'s class, over the cells: channel five plus the class, of the prediction block. -/
def logitOf (W1 : Rd1 F) (W2 : Rd2 F) (k : Fin k0_t1_loop.trips) (h1 : k0_cond1 (present W2 k) = 1#1) : Vec F S1x1x60x128 .f32 :=
  if h2 : k0_chk2 (present W2 k) (clsOf W2 k) then
    W1 (Rect.unit (s := S1x25x60x128) (k0_off6 (clsOf W2 k)) S1x1x60x128.size (k0_off6_inb _ _ h2 h1)).toLoadRect
  else fun _ => Scalar.ofBits .f32 0x00000000#32

/-- The accumulators after the trip of a box that is present, `v451` its class logits. -/
def taken (W2 : Rd2 F) (W3 : Rd3 F) (v2 v5 v7 v9 v12 v14 v16 v20 v24 v25 : FVec F S60x128 .f32) (v185 : FVec F S60x128 .f32) (v196 : Vec F S60x128 .i32)
    (k : Fin k0_t1_loop.trips) (h1 : k0_cond1 (present W2 k) = 1#1) (v451 : Vec F S1x1x60x128 .f32) (s : Acc F) : Acc F :=
  let v235 := wd2 W2 (k0_off1 k) (k0_off1_inb k)
  let v243 := wd2 W2 (k0_off2 k 2#32) (k0_off2_inb k 0)
  let v248 := wd2 W2 (k0_off2 k 3#32) (k0_off2_inb k 1)
  let v253 := wd2 W2 (k0_off2 k 4#32) (k0_off2_inb k 2)
  let v261 := Scalar.minsi 37#32 (Scalar.maxsi 0#32 (Scalar.fptosi 32 (k0_pay2 v235)))
  let v264 := Scalar.minsi 37#32 (Scalar.maxsi 0#32 (Scalar.fptosi 32 (k0_pay3 v243)))
  let v249 := k0_pay4 v248
  let v254 := k0_pay5 v253
  let v269 := k0_pay8 v248 v253
  let a0 := wd3 W3 ![0, 0] inb_S1x10_S1x1_0_0
  let a1 := wd3 W3 ![0, 1] inb_S1x10_S1x1_0_1
  let a2 := wd3 W3 ![0, 2] inb_S1x10_S1x1_0_2
  let a3 := wd3 W3 ![0, 3] inb_S1x10_S1x1_0_3
  let a4 := wd3 W3 ![0, 4] inb_S1x10_S1x1_0_4
  let a5 := wd3 W3 ![0, 5] inb_S1x10_S1x1_0_5
  let a6 := wd3 W3 ![0, 6] inb_S1x10_S1x1_0_6
  let a7 := wd3 W3 ![0, 7] inb_S1x10_S1x1_0_7
  let a8 := wd3 W3 ![0, 8] inb_S1x10_S1x1_0_8
  let a9 := wd3 W3 ![0, 9] inb_S1x10_S1x1_0_9
  let v271 := k0_pay9 v248 a0
  let v292 := Scalar.cmpf .ogt (k0_pay14 v249 v254 v269 v271 a1 a0 a1 a2 a3) (k0_pay15 v249 v254 v269 v271 a1 a2 a3 a2 a3)
  let v293 : BitVec 32 := Scalar.select v292 1#32 0#32
  let v294 := k0_pay16 v249 v254 v269 v271 a1 a0 a1 a2 a3 a2 a3
  let v295 := k0_pay17 v249 v254 v269 v271 a1 a0 a1 a2 a3 a2 a3
  let v300 := k0_pay18 v249 v254 a4 a5
  let v305 := k0_pay19 v249 v254 v269 a4 a5 a4 a5
  let v308 := Scalar.cmpf .ogt (k0_pay20 v249 v254 v269 v271 a1 a0 a1 a2 a3 a2 a3 a4 a5) (k0_pay21 v249 v254 v269 v271 a1 a0 a1 a2 a3 a2 a3 a4 a5 a4 a5)
  let v309 : BitVec 32 := Scalar.select v308 2#32 v293
  let v324 := Scalar.cmpf .ogt (k0_pay26 v249 v254 v295 v305 v308 a6 a7) (k0_pay27 v249 v254 v269 v294 v300 v308 a6 a7 a6 a7)
  let v325 : BitVec 32 := Scalar.select v324 3#32 v309
  let v340 := Scalar.cmpf .ogt (k0_pay29 v249 v254 v269 v294 v295 v300 v305 v308 a6 a7 a6 a7 a8 a9) (k0_pay30 v249 v254 v269 v294 v295 v300 v305 v308 a6 a7 a6 a7 a8 a9 a8 a9)
  let v341 : BitVec 32 := Scalar.select v340 4#32 v325
  let v344 := wd3 W3 (k0_off4 v292 v308 v324 v340) (k0_off4_inb (present W2 k) v292 v308 v324 v340 (chk1_all _ _ _ _ _) h1)
  let v348 := wd3 W3 (k0_off5 v292 v308 v324 v340) (k0_off5_inb (present W2 k) v292 v308 v324 v340 (chk1_all _ _ _ _ _) h1)
  let v358 := k0_pay32 v249 v254 v344 v348
  let v360 := k0_pay33 v249 v254 v344 v348
  let v366 := k0_pay34 v196 v261 v264 v341
  let v386 := k0_pay36 v16 v24 (k0_pay3 v243) v254
  let v392 := k0_pay37 v16 v24 (k0_pay3 v243) v254
  let v394 := k0_pay38 v20 v249
  let v395 := k0_pay39 v14 v20 (k0_pay2 v235) v249
  ⟨k0_pay46 v9 v12 v185 v360 v366 (k0_pay40 v24 v25 v254 v269 v386 v392 v394 v395) (k0_pay42 v2 (k0_pay6 v235)) (k0_pay43 v5 (k0_pay7 v243)) (k0_pay44 v7 v358) (k0_pay45 v358) v451 s.corr,
   k0_pay41 v24 v25 v254 v269 v386 v392 v394 v395 s.best,
   k0_pay47 v366 s.mask⟩

/-- The accumulators after one trip. -/
def trip (W1 : Rd1 F) (W2 : Rd2 F) (W3 : Rd3 F) (v2 v5 v7 v9 v12 v14 v16 v20 v24 v25 : FVec F S60x128 .f32) (v185 : FVec F S60x128 .f32) (v196 : Vec F S60x128 .i32)
    (k : Fin k0_t1_loop.trips) (s : Acc F) : Acc F :=
  if h1 : k0_cond1 (present W2 k) = 1#1 then taken W2 W3 v2 v5 v7 v9 v12 v14 v16 v20 v24 v25 v185 v196 k h1 (logitOf W1 W2 k h1) s else s

/-- The accumulators after the first `n` trips. -/
def run (W1 : Rd1 F) (W2 : Rd2 F) (W3 : Rd3 F) (v2 v5 v7 v9 v12 v14 v16 v20 v24 v25 : FVec F S60x128 .f32) (v185 : FVec F S60x128 .f32) (v196 : Vec F S60x128 .i32)
    (s : Acc F) : ℕ → Acc F
  | 0 => s
  | n + 1 => if h : n < k0_t1_loop.trips then trip W1 W2 W3 v2 v5 v7 v9 v12 v14 v16 v20 v24 v25 v185 v196 ⟨n, h⟩ (run W1 W2 W3 v2 v5 v7 v9 v12 v14 v16 v20 v24 v25 v185 v196 s n)
      else run W1 W2 W3 v2 v5 v7 v9 v12 v14 v16 v20 v24 v25 v185 v196 s n

/-- One more trip of the loop. -/
theorem run_succ (W1 : Rd1 F) (W2 : Rd2 F) (W3 : Rd3 F) (v2 v5 v7 v9 v12 v14 v16 v20 v24 v25 : FVec F S60x128 .f32) (v185 : FVec F S60x128 .f32) (v196 : Vec F S60x128 .i32)
    (s : Acc F) (k : Fin k0_t1_loop.trips) :
    run W1 W2 W3 v2 v5 v7 v9 v12 v14 v16 v20 v24 v25 v185 v196 s (k.val + 1) = trip W1 W2 W3 v2 v5 v7 v9 v12 v14 v16 v20 v24 v25 v185 v196 k (run W1 W2 W3 v2 v5 v7 v9 v12 v14 v16 v20 v24 v25 v185 v196 s k.val) := by
  rw [run]; exact dif_pos k.isLt

end Cert.KernelIdeal.Region

end
-- ==== Proof.KernelIdealTrip.lean ====
/- One trip of the box loop run through the memory: the buffers end holding what `trip` says; and the loop by its invariant. -/
module

public import proofs.«01_k».proof.Proof.KernelIdealStep
public import proofs.«01_k».proof.Proof.Gen.KernelIdeal.Loops
public import Idealize.ShloMosaic.Lib.Exec
public import Idealize.ShloMosaic.Lib.Tactic
public import Idealize.ShloMosaic.Lib.VecWindow
public import Idealize.ShloMosaic.Lib.Pipeline.Kit

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F]

local notation "𝕄G" => MT nD τ sig Unit (Elt F) ℕ (UR sig nD τ) ℕ

/-- The buffers one trip touches: the three it reads at their contents, the three accumulators at theirs. -/
abbrev Held (c : Dev nD) (arg1 : Memref sig .tc .vmem S1x25x60x128 .f32) (arg2 : Memref sig .tc .smem S1x1x250 .f32) (arg3 : Memref sig .tc .smem S1x10 .f32) (arg10 arg11 arg12 : Memref sig .tc .vmem S60x128 .f32)
    (X1 : BufTy.Contents (Elt F) arg1.view.ty) (X2 : BufTy.Contents (Elt F) arg2.view.ty) (X3 : BufTy.Contents (Elt F) arg3.view.ty) (f10 : BufTy.Contents (Elt F) arg10.view.ty) (f11 : BufTy.Contents (Elt F) arg11.view.ty) (f12 : BufTy.Contents (Elt F) arg12.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- The loads of a buffer's contents, rectangle by rectangle. -/
abbrev rd {sp : Space} {s : Shape} {e : EltTy} (m : Memref sig .tc sp s e) (X : BufTy.Contents (Elt F) m.view.ty) (B : LoadRect s) : B.shape.Idx → Elt F e := m.view.readAt (Elt F) B X

/-- What the three accumulator buffers hold. -/
abbrev accOf (arg10 arg11 arg12 : Memref sig .tc .vmem S60x128 .f32) (f10 : BufTy.Contents (Elt F) arg10.view.ty) (f11 : BufTy.Contents (Elt F) arg11.view.ty) (f12 : BufTy.Contents (Elt F) arg12.view.ty) : Acc F :=
  ⟨arg10.view.read (Elt F) f10, arg11.view.read (Elt F) f11, arg12.view.read (Elt F) f12⟩

set_option maxHeartbeats 4000000 in
/-- A trip whose box is absent changes nothing. -/
theorem trip_absent (𝒱 : Variants) (c : Dev nD) (bd : Option 𝒱.V) (i : grid0.Coords) (arg1 : Memref sig .tc .vmem S1x25x60x128 .f32) (harg1 : arg1.IsWhole) (arg2 : Memref sig .tc .smem S1x1x250 .f32) (harg2 : arg2.IsWhole) (arg3 : Memref sig .tc .smem S1x10 .f32) (harg3 : arg3.IsWhole) (arg4 : Memref sig .tc .vmem S60x128 .i32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .smem S1x1x1 .f32) (harg9 : arg9.IsWhole) (arg10 : Memref sig .tc .vmem S60x128 .f32) (harg10 : arg10.IsWhole) (arg11 : Memref sig .tc .vmem S60x128 .f32) (harg11 : arg11.IsWhole) (arg12 : Memref sig .tc .vmem S60x128 .f32) (harg12 : arg12.IsWhole) (v2 v5 v7 v9 v12 v14 v16 v20 v24 v25 : FVec F S60x128 .f32) (v84 v173 : FVec F S60x128 .f32) (v174 v179 : Vec F S1x1x60x128 .f32) (v196 : Vec F S60x128 .i32)
    (X1 : BufTy.Contents (Elt F) arg1.view.ty) (X2 : BufTy.Contents (Elt F) arg2.view.ty) (X3 : BufTy.Contents (Elt F) arg3.view.ty) (k : Fin k0_t1_loop.trips)
    (hc : ¬ k0_cond1 (present (rd arg2 X2) k) = 1#1)
    (E : Set ℕ) (f10 : BufTy.Contents (Elt F) arg10.view.ty) (f11 : BufTy.Contents (Elt F) arg11.view.ty) (f12 : BufTy.Contents (Elt F) arg12.view.ty) :
    Held (F := F) c arg1 arg2 arg3 arg10 arg11 arg12 X1 X2 X3 f10 f11 f12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 v2 v5 v7 v9 v12 v14 v16 v20 v24 v25 v84 v173 v174 v179 v196 k PUnit.unit)
          (fun _ => Held (F := F) c arg1 arg2 arg3 arg10 arg11 arg12 X1 X2 X3 f10 f11 f12) := by
  have hk : k.val < 50 := Nat.lt_of_lt_of_le k.isLt k0_t1_abs.2.1
  unfold k0_t1_body
  iintro ⟨H1, H2, H3, HA, HB, HC⟩
  sl_exec
  sl_step
  sl_close

set_option maxHeartbeats 4000000 in
/-- A trip whose box is present leaves the accumulators at `taken`. -/
theorem trip_present (𝒱 : Variants) (c : Dev nD) (bd : Option 𝒱.V) (i : grid0.Coords) (arg1 : Memref sig .tc .vmem S1x25x60x128 .f32) (harg1 : arg1.IsWhole) (arg2 : Memref sig .tc .smem S1x1x250 .f32) (harg2 : arg2.IsWhole) (arg3 : Memref sig .tc .smem S1x10 .f32) (harg3 : arg3.IsWhole) (arg4 : Memref sig .tc .vmem S60x128 .i32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .smem S1x1x1 .f32) (harg9 : arg9.IsWhole) (arg10 : Memref sig .tc .vmem S60x128 .f32) (harg10 : arg10.IsWhole) (arg11 : Memref sig .tc .vmem S60x128 .f32) (harg11 : arg11.IsWhole) (arg12 : Memref sig .tc .vmem S60x128 .f32) (harg12 : arg12.IsWhole) (v2 v5 v7 v9 v12 v14 v16 v20 v24 v25 : FVec F S60x128 .f32) (v84 v173 : FVec F S60x128 .f32) (v174 v179 : Vec F S1x1x60x128 .f32) (v196 : Vec F S60x128 .i32)
    (X1 : BufTy.Contents (Elt F) arg1.view.ty) (X2 : BufTy.Contents (Elt F) arg2.view.ty) (X3 : BufTy.Contents (Elt F) arg3.view.ty) (k : Fin k0_t1_loop.trips)
    (hc : k0_cond1 (present (rd arg2 X2) k) = 1#1) (h2 : k0_chk2 (present (rd arg2 X2) k) (clsOf (rd arg2 X2) k))
    (E : Set ℕ) (f10 : BufTy.Contents (Elt F) arg10.view.ty) (f11 : BufTy.Contents (Elt F) arg11.view.ty) (f12 : BufTy.Contents (Elt F) arg12.view.ty) :
    Held (F := F) c arg1 arg2 arg3 arg10 arg11 arg12 X1 X2 X3 f10 f11 f12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 v2 v5 v7 v9 v12 v14 v16 v20 v24 v25 v84 v173 v174 v179 v196 k PUnit.unit)
          (fun _ => iprop(∃ g10 g11 g12, Held (F := F) c arg1 arg2 arg3 arg10 arg11 arg12 X1 X2 X3 g10 g11 g12
            ∗ ⌜accOf arg10 arg11 arg12 g10 g11 g12 = taken (rd arg2 X2) (rd arg3 X3) v2 v5 v7 v9 v12 v14 v16 v20 v24 v25 (k0_pay65 v84 v173 v174 v179) v196 k hc (logitOf (rd arg1 X1) (rd arg2 X2) k hc) (accOf arg10 arg11 arg12 f10 f11 f12)⌝)) := by
  have hk : k.val < 50 := Nat.lt_of_lt_of_le k.isLt k0_t1_abs.2.1
  unfold k0_t1_body
  simp only [k0_part6_eq_skeleton, k0_part1_eq_skeleton, k0_part2_eq_skeleton, k0_part3_eq_skeleton, k0_part4_eq_skeleton, k0_part5_eq_skeleton]
  iintro ⟨H1, H2, H3, HA, HB, HC⟩
  sl_exec (disch := first | exact hc | exact h2 | exact chk1_all _ _ _ _ _)
  sl_step
  iexists _, _, _
  isplitl [H1 H2 H3 HA HB HC]
  · isplitl [H1]; · iexact H1
    isplitl [H2]; · iexact H2
    isplitl [H3]; · iexact H3
    isplitl [HA]; · iexact HA
    isplitl [HB]; · iexact HB
    iexact HC
  ipureintro
  rw [logitOf, dif_pos h2]
  show Acc.mk _ _ _ = taken _ _ _ _ _ _ _ _ _ _ _ _ _ _ _ _ _ (Acc.mk _ _ _)
  rw [← View.readAt_full arg10.view f10 inb_S60x128_S60x128_0_0, ← View.readAt_full arg11.view f11 inb_S60x128_S60x128_0_0, ← View.readAt_full arg12.view f12 inb_S60x128_S60x128_0_0]
  rw [View.read_writes_full, View.read_writes_full, View.read_writes_full]
  rfl

end Cert.KernelIdeal.Region

end
-- ==== Proof.KernelIdealCell.lean ====
/- What the body computes from the blocks it is given: the values before the loop, the accumulators after it, the word it stores. -/
module

public import proofs.«01_k».proof.Proof.KernelIdealStep

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F]

/-- What loads of a block read, rectangle by rectangle. -/
abbrev ofBlock {s : Shape} {e : EltTy} (x : Vec F s e) (B : LoadRect s) : B.shape.Idx → Elt F e := fun y => x (B.idx y)
/-- One channel of the prediction block. -/
abbrev chan (x0 : Vec F S1x25x60x128 .f32) {off : Fin 4 → Nat} (h : ∀ a, off a + S1x1x60x128.size a ≤ S1x25x60x128.size a) : Vec F S1x1x60x128 .f32 :=
  ofBlock x0 (Rect.unit (s := S1x25x60x128) off S1x1x60x128.size h).toLoadRect
/-- A whole grid of cells. -/
abbrev grid {e : EltTy} (x : Vec F S60x128 e) : Vec F S60x128 e :=
  ofBlock x (Rect.unit (s := S60x128) ![0, 0] S60x128.size inb_S60x128_S60x128_0_0).toLoadRect

/-- The greatest class logit of the cells so far (channels 5 to 22). -/
def mx22 (x0 : Vec F S1x25x60x128 .f32) : FVec F S60x128 .f32 := k0_pay59 (k0_pay58 (chan x0 inb_S1x25x60x128_S1x1x60x128_0_5_0_0) (chan x0 inb_S1x25x60x128_S1x1x60x128_0_6_0_0) (chan x0 inb_S1x25x60x128_S1x1x60x128_0_7_0_0) (chan x0 inb_S1x25x60x128_S1x1x60x128_0_8_0_0) (chan x0 inb_S1x25x60x128_S1x1x60x128_0_9_0_0) (chan x0 inb_S1x25x60x128_S1x1x60x128_0_10_0_0) (chan x0 inb_S1x25x60x128_S1x1x60x128_0_11_0_0) (chan x0 inb_S1x25x60x128_S1x1x60x128_0_12_0_0) (chan x0 inb_S1x25x60x128_S1x1x60x128_0_13_0_0)) (chan x0 inb_S1x25x60x128_S1x1x60x128_0_14_0_0) (chan x0 inb_S1x25x60x128_S1x1x60x128_0_15_0_0) (chan x0 inb_S1x25x60x128_S1x1x60x128_0_16_0_0) (chan x0 inb_S1x25x60x128_S1x1x60x128_0_17_0_0) (chan x0 inb_S1x25x60x128_S1x1x60x128_0_18_0_0) (chan x0 inb_S1x25x60x128_S1x1x60x128_0_19_0_0) (chan x0 inb_S1x25x60x128_S1x1x60x128_0_20_0_0) (chan x0 inb_S1x25x60x128_S1x1x60x128_0_21_0_0) (chan x0 inb_S1x25x60x128_S1x1x60x128_0_22_0_0)
/-- The greatest class logit of the cells. -/
def mxAll (x0 : Vec F S1x25x60x128 .f32) : FVec F S60x128 .f32 := k0_pay60 (mx22 x0) (chan x0 inb_S1x25x60x128_S1x1x60x128_0_23_0_0) (chan x0 inb_S1x25x60x128_S1x1x60x128_0_24_0_0)
/-- The sum of the exponentials of the shifted class logits of channels 5 to 15. -/
def sum15 (x0 : Vec F S1x25x60x128 .f32) : FVec F S60x128 .f32 := k0_pay62 (mxAll x0) (k0_pay61 (mx22 x0) (chan x0 inb_S1x25x60x128_S1x1x60x128_0_23_0_0) (chan x0 inb_S1x25x60x128_S1x1x60x128_0_24_0_0) (chan x0 inb_S1x25x60x128_S1x1x60x128_0_5_0_0) (chan x0 inb_S1x25x60x128_S1x1x60x128_0_6_0_0) (chan x0 inb_S1x25x60x128_S1x1x60x128_0_7_0_0) (chan x0 inb_S1x25x60x128_S1x1x60x128_0_8_0_0) (chan x0 inb_S1x25x60x128_S1x1x60x128_0_9_0_0)) (chan x0 inb_S1x25x60x128_S1x1x60x128_0_10_0_0) (chan x0 inb_S1x25x60x128_S1x1x60x128_0_11_0_0) (chan x0 inb_S1x25x60x128_S1x1x60x128_0_12_0_0) (chan x0 inb_S1x25x60x128_S1x1x60x128_0_13_0_0) (chan x0 inb_S1x25x60x128_S1x1x60x128_0_14_0_0) (chan x0 inb_S1x25x60x128_S1x1x60x128_0_15_0_0)
/-- The sum of the exponentials of the shifted class logits of channels 5 to 22. -/
def sum22 (x0 : Vec F S1x25x60x128 .f32) : FVec F S60x128 .f32 := k0_pay64 (mxAll x0) (sum15 x0) (k0_pay63 (mxAll x0) (chan x0 inb_S1x25x60x128_S1x1x60x128_0_16_0_0)) (chan x0 inb_S1x25x60x128_S1x1x60x128_0_17_0_0) (chan x0 inb_S1x25x60x128_S1x1x60x128_0_18_0_0) (chan x0 inb_S1x25x60x128_S1x1x60x128_0_19_0_0) (chan x0 inb_S1x25x60x128_S1x1x60x128_0_20_0_0) (chan x0 inb_S1x25x60x128_S1x1x60x128_0_21_0_0) (chan x0 inb_S1x25x60x128_S1x1x60x128_0_22_0_0)
/-- The log of the sum of the exponentials of the class logits. -/
def lse (x0 : Vec F S1x25x60x128 .f32) : FVec F S60x128 .f32 := k0_pay65 (mxAll x0) (sum22 x0) (chan x0 inb_S1x25x60x128_S1x1x60x128_0_23_0_0) (chan x0 inb_S1x25x60x128_S1x1x60x128_0_24_0_0)

/-- The accumulators at zero. -/
def acc0 : Acc F := ⟨k0_pay67, k0_pay68, k0_pay69⟩

/-- The accumulators after the loop. -/
def accEnd (x0 : Vec F S1x25x60x128 .f32) (x1 : Vec F S1x1x250 .f32) (x2 : Vec F S1x10 .f32) (x3 : Vec F S60x128 .i32) (x4 x5 x6 x7 : Vec F S60x128 .f32) : Acc F :=
  run (ofBlock x0) (ofBlock x1) (ofBlock x2) (k0_pay48 (chan x0 inb_S1x25x60x128_S1x1x60x128_0_0_0_0)) (k0_pay49 (chan x0 inb_S1x25x60x128_S1x1x60x128_0_1_0_0)) (k0_pay50 (chan x0 inb_S1x25x60x128_S1x1x60x128_0_2_0_0)) (k0_pay51 (chan x0 inb_S1x25x60x128_S1x1x60x128_0_3_0_0)) (k0_pay52 (chan x0 inb_S1x25x60x128_S1x1x60x128_0_4_0_0))
    (k0_pay53 (chan x0 inb_S1x25x60x128_S1x1x60x128_0_0_0_0) (grid x4)) (k0_pay54 (chan x0 inb_S1x25x60x128_S1x1x60x128_0_1_0_0) (grid x5)) (k0_pay55 (chan x0 inb_S1x25x60x128_S1x1x60x128_0_2_0_0) (grid x6)) (k0_pay56 (chan x0 inb_S1x25x60x128_S1x1x60x128_0_3_0_0) (grid x7)) (k0_pay57 (chan x0 inb_S1x25x60x128_S1x1x60x128_0_2_0_0) (chan x0 inb_S1x25x60x128_S1x1x60x128_0_3_0_0) (grid x6) (grid x7))
    (lse x0) (grid x3) acc0 k0_t1_loop.trips

/-- The word the body stores. -/
def outWord (x0 : Vec F S1x25x60x128 .f32) (x1 : Vec F S1x1x250 .f32) (x2 : Vec F S1x10 .f32) (x3 : Vec F S60x128 .i32) (x4 x5 x6 x7 : Vec F S60x128 .f32) : F .f32 :=
  k0_pay1 (k0_pay52 (chan x0 inb_S1x25x60x128_S1x1x60x128_0_4_0_0)) (grid x3) (k0_pay70 (k0_pay48 (chan x0 inb_S1x25x60x128_S1x1x60x128_0_0_0_0)) (k0_pay49 (chan x0 inb_S1x25x60x128_S1x1x60x128_0_1_0_0)) (k0_pay50 (chan x0 inb_S1x25x60x128_S1x1x60x128_0_2_0_0)) (k0_pay51 (chan x0 inb_S1x25x60x128_S1x1x60x128_0_3_0_0)))
    (accEnd x0 x1 x2 x3 x4 x5 x6 x7).best (accEnd x0 x1 x2 x3 x4 x5 x6 x7).mask (accEnd x0 x1 x2 x3 x4 x5 x6 x7).corr

/-- Every present box of the block names a class there is. -/
def ClassesOK (x1 : Vec F S1x1x250 .f32) : Prop :=
  ∀ k : Fin k0_t1_loop.trips, k0_cond1 (present (ofBlock x1) k) = 1#1 → k0_chk2 (present (ofBlock x1) k) (clsOf (ofBlock x1) k)

end Cert.KernelIdeal.Region

end
-- ==== Proof.KernelIdealBody.lean ====
/- The box loop by its invariant, and the whole body: it ends with the stored word at `outWord` of its blocks. -/
module

public import proofs.«01_k».proof.Proof.KernelIdealTrip
public import proofs.«01_k».proof.Proof.KernelIdealCell
public import Idealize.ShloMosaic.Lib.Claim

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F]

local notation "𝕄G" => MT nD τ sig Unit (Elt F) ℕ (UR sig nD τ) ℕ

/-- Before trip `k` the accumulators hold what the first `k` trips made of their contents at entry. -/
abbrev boxInv (c : Dev nD) (arg1 : Memref sig .tc .vmem S1x25x60x128 .f32) (harg1 : arg1.IsWhole) (arg2 : Memref sig .tc .smem S1x1x250 .f32) (harg2 : arg2.IsWhole) (arg3 : Memref sig .tc .smem S1x10 .f32) (harg3 : arg3.IsWhole) (arg4 : Memref sig .tc .vmem S60x128 .i32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .smem S1x1x1 .f32) (harg9 : arg9.IsWhole) (arg10 : Memref sig .tc .vmem S60x128 .f32) (harg10 : arg10.IsWhole) (arg11 : Memref sig .tc .vmem S60x128 .f32) (harg11 : arg11.IsWhole) (arg12 : Memref sig .tc .vmem S60x128 .f32) (harg12 : arg12.IsWhole) (v2 v5 v7 v9 v12 v14 v16 v20 v24 v25 : FVec F S60x128 .f32) (v84 v173 : FVec F S60x128 .f32) (v174 v179 : Vec F S1x1x60x128 .f32) (v196 : Vec F S60x128 .i32) (X1 : BufTy.Contents (Elt F) arg1.view.ty) (X2 : BufTy.Contents (Elt F) arg2.view.ty) (X3 : BufTy.Contents (Elt F) arg3.view.ty) (s0 : Acc F) (k : ℕ) (_ : Unit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (∃ f, (arg10.view.loc (c : Thread nD τ) ↦[arg10.view.set]{fullShare} f) ∗ ⌜arg10.view.read (Elt F) f = (run (rd arg1 X1) (rd arg2 X2) (rd arg3 X3) v2 v5 v7 v9 v12 v14 v16 v20 v24 v25 (k0_pay65 v84 v173 v174 v179) v196 s0 k).corr⌝)
    ∗ (∃ f, (arg11.view.loc (c : Thread nD τ) ↦[arg11.view.set]{fullShare} f) ∗ ⌜arg11.view.read (Elt F) f = (run (rd arg1 X1) (rd arg2 X2) (rd arg3 X3) v2 v5 v7 v9 v12 v14 v16 v20 v24 v25 (k0_pay65 v84 v173 v174 v179) v196 s0 k).best⌝)
    ∗ (∃ f, (arg12.view.loc (c : Thread nD τ) ↦[arg12.view.set]{fullShare} f) ∗ ⌜arg12.view.read (Elt F) f = (run (rd arg1 X1) (rd arg2 X2) (rd arg3 X3) v2 v5 v7 v9 v12 v14 v16 v20 v24 v25 (k0_pay65 v84 v173 v174 v179) v196 s0 k).mask⌝))

set_option maxHeartbeats 1000000 in
set_option warn.classDefReducibility false in
/-- The box loop by its invariant. -/
@[sl_loop] def boxLoop (𝒱 : Variants) (c : Dev nD) (bd : Option 𝒱.V) (E : Set ℕ) (i : grid0.Coords) (arg1 : Memref sig .tc .vmem S1x25x60x128 .f32) (harg1 : arg1.IsWhole) (arg2 : Memref sig .tc .smem S1x1x250 .f32) (harg2 : arg2.IsWhole) (arg3 : Memref sig .tc .smem S1x10 .f32) (harg3 : arg3.IsWhole) (arg4 : Memref sig .tc .vmem S60x128 .i32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .smem S1x1x1 .f32) (harg9 : arg9.IsWhole) (arg10 : Memref sig .tc .vmem S60x128 .f32) (harg10 : arg10.IsWhole) (arg11 : Memref sig .tc .vmem S60x128 .f32) (harg11 : arg11.IsWhole) (arg12 : Memref sig .tc .vmem S60x128 .f32) (harg12 : arg12.IsWhole) (v2 v5 v7 v9 v12 v14 v16 v20 v24 v25 : FVec F S60x128 .f32) (v84 v173 : FVec F S60x128 .f32) (v174 v179 : Vec F S1x1x60x128 .f32) (v196 : Vec F S60x128 .i32) (X1 : BufTy.Contents (Elt F) arg1.view.ty) (X2 : BufTy.Contents (Elt F) arg2.view.ty) (X3 : BufTy.Contents (Elt F) arg3.view.ty) (s0 : Acc F)
    (hcls : ∀ k : Fin k0_t1_loop.trips, k0_cond1 (present (rd arg2 X2) k) = 1#1 → k0_chk2 (present (rd arg2 X2) k) (clsOf (rd arg2 X2) k)) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v2 v5 v7 v9 v12 v14 v16 v20 v24 v25 v84 v173 v174 v179 v196 where
  inv := boxInv (F := F) c arg1 harg1 arg2 harg2 arg3 harg3 arg4 harg4 arg5 harg5 arg6 harg6 arg7 harg7 arg8 harg8 arg9 harg9 arg10 harg10 arg11 harg11 arg12 harg12 v2 v5 v7 v9 v12 v14 v16 v20 v24 v25 v84 v173 v174 v179 v196 X1 X2 X3 s0
  step k acc := by
    iintro ⟨H1, H2, H3, ⟨%f10, HA, %hA⟩, ⟨%f11, HB, %hB⟩, ⟨%f12, HC, %hC⟩⟩
    have hs : accOf arg10 arg11 arg12 f10 f11 f12 = run (rd arg1 X1) (rd arg2 X2) (rd arg3 X3) v2 v5 v7 v9 v12 v14 v16 v20 v24 v25 (k0_pay65 v84 v173 v174 v179) v196 s0 k.val := by
      unfold accOf; rw [hA, hB, hC]
    by_cases hc : k0_cond1 (present (rd arg2 X2) k) = 1#1
    · iapply (wp_wand_r Idealize.ShloMosaic.frame (wpE (defs₀ (F := F)) 𝒱 (c : Thread nD τ) bd) E)
      isplitl [H1 H2 H3 HA HB HC]
      · iapply (trip_present (F := F) 𝒱 c bd i arg1 harg1 arg2 harg2 arg3 harg3 arg4 harg4 arg5 harg5 arg6 harg6 arg7 harg7 arg8 harg8 arg9 harg9 arg10 harg10 arg11 harg11 arg12 harg12 v2 v5 v7 v9 v12 v14 v16 v20 v24 v25 v84 v173 v174 v179 v196 X1 X2 X3 k hc (hcls k hc) E f10 f11 f12)
        isplitl [H1]; · iexact H1
        isplitl [H2]; · iexact H2
        isplitl [H3]; · iexact H3
        isplitl [HA]; · iexact HA
        isplitl [HB]; · iexact HB
        iexact HC
      · iintro %_ ⟨%g10, %g11, %g12, ⟨H1, H2, H3, HA, HB, HC⟩, %hg⟩
        have hg' : accOf arg10 arg11 arg12 g10 g11 g12 = trip (rd arg1 X1) (rd arg2 X2) (rd arg3 X3) v2 v5 v7 v9 v12 v14 v16 v20 v24 v25 (k0_pay65 v84 v173 v174 v179) v196 k (run (rd arg1 X1) (rd arg2 X2) (rd arg3 X3) v2 v5 v7 v9 v12 v14 v16 v20 v24 v25 (k0_pay65 v84 v173 v174 v179) v196 s0 k.val) := by
          rw [hg, hs, trip, dif_pos hc]
        isplitl [H1]; · iexact H1
        isplitl [H2]; · iexact H2
        isplitl [H3]; · iexact H3
        have hr := hg'.trans (run_succ (rd arg1 X1) (rd arg2 X2) (rd arg3 X3) v2 v5 v7 v9 v12 v14 v16 v20 v24 v25 (k0_pay65 v84 v173 v174 v179) v196 s0 k).symm
        isplitl [HA]
        · iexists _; isplitl [HA]; · iexact HA
          ipureintro; exact congrArg Acc.corr hr
        isplitl [HB]
        · iexists _; isplitl [HB]; · iexact HB
          ipureintro; exact congrArg Acc.best hr
        iexists _; isplitl [HC]; · iexact HC
        ipureintro; exact congrArg Acc.mask hr
    · iapply (wp_wand_r Idealize.ShloMosaic.frame (wpE (defs₀ (F := F)) 𝒱 (c : Thread nD τ) bd) E)
      isplitl [H1 H2 H3 HA HB HC]
      · iapply (trip_absent (F := F) 𝒱 c bd i arg1 harg1 arg2 harg2 arg3 harg3 arg4 harg4 arg5 harg5 arg6 harg6 arg7 harg7 arg8 harg8 arg9 harg9 arg10 harg10 arg11 harg11 arg12 harg12 v2 v5 v7 v9 v12 v14 v16 v20 v24 v25 v84 v173 v174 v179 v196 X1 X2 X3 k hc E f10 f11 f12)
        isplitl [H1]; · iexact H1
        isplitl [H2]; · iexact H2
        isplitl [H3]; · iexact H3
        isplitl [HA]; · iexact HA
        isplitl [HB]; · iexact HB
        iexact HC
      · iintro %_ ⟨H1, H2, H3, HA, HB, HC⟩
        have hg' : accOf arg10 arg11 arg12 f10 f11 f12 = trip (rd arg1 X1) (rd arg2 X2) (rd arg3 X3) v2 v5 v7 v9 v12 v14 v16 v20 v24 v25 (k0_pay65 v84 v173 v174 v179) v196 k (run (rd arg1 X1) (rd arg2 X2) (rd arg3 X3) v2 v5 v7 v9 v12 v14 v16 v20 v24 v25 (k0_pay65 v84 v173 v174 v179) v196 s0 k.val) := by
          rw [hs, trip, dif_neg hc]
        isplitl [H1]; · iexact H1
        isplitl [H2]; · iexact H2
        isplitl [H3]; · iexact H3
        have hr := hg'.trans (run_succ (rd arg1 X1) (rd arg2 X2) (rd arg3 X3) v2 v5 v7 v9 v12 v14 v16 v20 v24 v25 (k0_pay65 v84 v173 v174 v179) v196 s0 k).symm
        isplitl [HA]
        · iexists _; isplitl [HA]; · iexact HA
          ipureintro; exact congrArg Acc.corr hr
        isplitl [HB]
        · iexists _; isplitl [HB]; · iexact HB
          ipureintro; exact congrArg Acc.best hr
        iexists _; isplitl [HC]; · iexact HC
        ipureintro; exact congrArg Acc.mask hr

/-- Equal arguments give equal values of a function of three. -/
theorem congrArg₃ {α β γ δ : Type} (f : α → β → γ → δ) {a a' : α} {b b' : β} {c c' : γ} (ha : a = a') (hb : b = b') (hc : c = c') : f a b c = f a' b' c' := by
  rw [ha, hb, hc]

set_option maxHeartbeats 4000000 in
/-- The body on whole buffers: the inputs stay, the scratch ends at some contents, the stored word is `outWord` of the input blocks. -/
theorem body_run (c : Dev nD) (i : grid0.Coords) (arg1 : Memref sig .tc .vmem S1x25x60x128 .f32) (harg1 : arg1.IsWhole) (arg2 : Memref sig .tc .smem S1x1x250 .f32) (harg2 : arg2.IsWhole) (arg3 : Memref sig .tc .smem S1x10 .f32) (harg3 : arg3.IsWhole) (arg4 : Memref sig .tc .vmem S60x128 .i32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .smem S1x1x1 .f32) (harg9 : arg9.IsWhole) (arg10 : Memref sig .tc .vmem S60x128 .f32) (harg10 : arg10.IsWhole) (arg11 : Memref sig .tc .vmem S60x128 .f32) (harg11 : arg11.IsWhole) (arg12 : Memref sig .tc .vmem S60x128 .f32) (harg12 : arg12.IsWhole) (x0 : Vec F S1x25x60x128 .f32) (x1 : Vec F S1x1x250 .f32) (x2 : Vec F S1x10 .f32) (x3 : Vec F S60x128 .i32) (x4 x5 x6 x7 : Vec F S60x128 .f32) (hcls : ClassesOK x1) (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (fun _ => outWord x0 x1 x2 x3 x4 x5 x6 x7) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0__region_loss_kernel i arg1 harg1 arg2 harg2 arg3 harg3 arg4 harg4 arg5 harg5 arg6 harg6 arg7 harg7 arg8 harg8 arg9 harg9 arg10 harg10 arg11 harg11 arg12 harg12) K := by
  simp only [cc0__region_loss_kernel_eq_skeleton]; unfold cc0__region_loss_kernel_skel
  simp only [k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
  subst hf0 hf1 hf2 hf3 hf4 hf5 hf6 hf7
  have hcls' : ∀ k : Fin k0_t1_loop.trips, k0_cond1 (present (rd arg2 f1) k) = 1#1 → k0_chk2 (present (rd arg2 f1) k) (clsOf (rd arg2 f1) k) := hcls
  clear hcls
  sl_exec
  sl_for (boxInv (F := F) c arg1 harg1 arg2 harg2 arg3 harg3 arg4 harg4 arg5 harg5 arg6 harg6 arg7 harg7 arg8 harg8 arg9 harg9 arg10 harg10 arg11 harg11 arg12 harg12 (k0_pay48 (chan (arg1.view.read (Elt F) f0) inb_S1x25x60x128_S1x1x60x128_0_0_0_0)) (k0_pay49 (chan (arg1.view.read (Elt F) f0) inb_S1x25x60x128_S1x1x60x128_0_1_0_0)) (k0_pay50 (chan (arg1.view.read (Elt F) f0) inb_S1x25x60x128_S1x1x60x128_0_2_0_0)) (k0_pay51 (chan (arg1.view.read (Elt F) f0) inb_S1x25x60x128_S1x1x60x128_0_3_0_0)) (k0_pay52 (chan (arg1.view.read (Elt F) f0) inb_S1x25x60x128_S1x1x60x128_0_4_0_0)) (k0_pay53 (chan (arg1.view.read (Elt F) f0) inb_S1x25x60x128_S1x1x60x128_0_0_0_0) (grid (arg5.view.read (Elt F) f4))) (k0_pay54 (chan (arg1.view.read (Elt F) f0) inb_S1x25x60x128_S1x1x60x128_0_1_0_0) (grid (arg6.view.read (Elt F) f5))) (k0_pay55 (chan (arg1.view.read (Elt F) f0) inb_S1x25x60x128_S1x1x60x128_0_2_0_0) (grid (arg7.view.read (Elt F) f6))) (k0_pay56 (chan (arg1.view.read (Elt F) f0) inb_S1x25x60x128_S1x1x60x128_0_3_0_0) (grid (arg8.view.read (Elt F) f7))) (k0_pay57 (chan (arg1.view.read (Elt F) f0) inb_S1x25x60x128_S1x1x60x128_0_2_0_0) (chan (arg1.view.read (Elt F) f0) inb_S1x25x60x128_S1x1x60x128_0_3_0_0) (grid (arg7.view.read (Elt F) f6)) (grid (arg8.view.read (Elt F) f7))) (mxAll (arg1.view.read (Elt F) f0)) (sum22 (arg1.view.read (Elt F) f0)) (chan (arg1.view.read (Elt F) f0) inb_S1x25x60x128_S1x1x60x128_0_23_0_0) (chan (arg1.view.read (Elt F) f0) inb_S1x25x60x128_S1x1x60x128_0_24_0_0) (grid (arg4.view.read (Elt F) f3)) f0 f1 f2 acc0) $$ [H0 H1 H2 HS0 HS1 HS2]
  case region =>
    intro k a
    exact (boxLoop (F := F) Variants.none c none E i arg1 harg1 arg2 harg2 arg3 harg3 arg4 harg4 arg5 harg5 arg6 harg6 arg7 harg7 arg8 harg8 arg9 harg9 arg10 harg10 arg11 harg11 arg12 harg12 (k0_pay48 (chan (arg1.view.read (Elt F) f0) inb_S1x25x60x128_S1x1x60x128_0_0_0_0)) (k0_pay49 (chan (arg1.view.read (Elt F) f0) inb_S1x25x60x128_S1x1x60x128_0_1_0_0)) (k0_pay50 (chan (arg1.view.read (Elt F) f0) inb_S1x25x60x128_S1x1x60x128_0_2_0_0)) (k0_pay51 (chan (arg1.view.read (Elt F) f0) inb_S1x25x60x128_S1x1x60x128_0_3_0_0)) (k0_pay52 (chan (arg1.view.read (Elt F) f0) inb_S1x25x60x128_S1x1x60x128_0_4_0_0)) (k0_pay53 (chan (arg1.view.read (Elt F) f0) inb_S1x25x60x128_S1x1x60x128_0_0_0_0) (grid (arg5.view.read (Elt F) f4))) (k0_pay54 (chan (arg1.view.read (Elt F) f0) inb_S1x25x60x128_S1x1x60x128_0_1_0_0) (grid (arg6.view.read (Elt F) f5))) (k0_pay55 (chan (arg1.view.read (Elt F) f0) inb_S1x25x60x128_S1x1x60x128_0_2_0_0) (grid (arg7.view.read (Elt F) f6))) (k0_pay56 (chan (arg1.view.read (Elt F) f0) inb_S1x25x60x128_S1x1x60x128_0_3_0_0) (grid (arg8.view.read (Elt F) f7))) (k0_pay57 (chan (arg1.view.read (Elt F) f0) inb_S1x25x60x128_S1x1x60x128_0_2_0_0) (chan (arg1.view.read (Elt F) f0) inb_S1x25x60x128_S1x1x60x128_0_3_0_0) (grid (arg7.view.read (Elt F) f6)) (grid (arg8.view.read (Elt F) f7))) (mxAll (arg1.view.read (Elt F) f0)) (sum22 (arg1.view.read (Elt F) f0)) (chan (arg1.view.read (Elt F) f0) inb_S1x25x60x128_S1x1x60x128_0_23_0_0) (chan (arg1.view.read (Elt F) f0) inb_S1x25x60x128_S1x1x60x128_0_24_0_0) (grid (arg4.view.read (Elt F) f3)) f0 f1 f2 acc0 hcls').step k a
  · isplitl [H0]; · iexact H0
    isplitl [H1]; · iexact H1
    isplitl [H2]; · iexact H2
    isplitl [HS0]
    · iexists _; isplitl [HS0]; · iexact HS0
      ipureintro; exact View.read_writes_full arg10.view _ _ _ _
    isplitl [HS1]
    · iexists _; isplitl [HS1]; · iexact HS1
      ipureintro; exact View.read_writes_full arg11.view _ _ _ _
    iexists _; isplitl [HS2]; · iexact HS2
    ipureintro; exact View.read_writes_full arg12.view _ _ _ _
  iintro %a ⟨H0, H1, H2, ⟨%g10, HS0, %hg10⟩, ⟨%g11, HS1, %hg11⟩, ⟨%g12, HS2, %hg12⟩⟩
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; rotate_left; · iexact H8
    · ipureintro
      refine (View.read_writes_full arg9.view _ _ _ _).trans (funext fun _ => ?_)
      show k0_pay1 _ _ _ (View.readAt (Elt F) arg11.view (Rect.unit ![0, 0] ![60, 128] inb_S60x128_S60x128_0_0).toLoadRect g11)
        (View.readAt (Elt F) arg12.view (Rect.unit ![0, 0] ![60, 128] inb_S60x128_S60x128_0_0).toLoadRect g12)
        (View.readAt (Elt F) arg10.view (Rect.unit ![0, 0] ![60, 128] inb_S60x128_S60x128_0_0).toLoadRect g10) = _
      have e10 := (View.readAt_full (Val := Elt F) arg10.view g10 inb_S60x128_S60x128_0_0).trans hg10
      have e11 := (View.readAt_full (Val := Elt F) arg11.view g11 inb_S60x128_S60x128_0_0).trans hg11
      have e12 := (View.readAt_full (Val := Elt F) arg12.view g12 inb_S60x128_S60x128_0_0).trans hg12
      exact congrArg₃ (k0_pay1 _ _ _) e11 e12 e10
  isplitl [HS0]
  · iexists (arg10.view.read (Elt F) g10); iexists g10; isplitr; · ipureintro; rfl
    iexact HS0
  isplitl [HS1]
  · iexists (arg11.view.read (Elt F) g11); iexists g11; isplitr; · ipureintro; rfl
    iexact HS1
  iexists (arg12.view.read (Elt F) g12); iexists g12; isplitr; · ipureintro; rfl
  iexact HS2

end Cert.KernelIdeal.Region

end
-- ==== Proof.KernelIdealLaunch.lean ====
/- The launch: every grid point's body runs from its blocks, so the program ends, its arguments unchanged, its counters zero, and its result the lines after the region applied to the stored words. -/
module

public import proofs.«01_k».proof.Proof.KernelIdealBody
public import proofs.«01_k».proof.Proof.Gen.KernelIdeal.Frame

@[expose] public section

set_option maxRecDepth 16384

noncomputable section

namespace Cert.KernelIdeal.Region

open Idealize.ShloMosaic.Pipeline (Dat BodyObligation)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F]

local notation "𝕄L" => MT nD τ sig Unit (Elt F) ℕ (UR sig nD τ) ℕ

variable (m : (ℓ : Loc nD τ sig) → Buf (Elt F) ℓ) (ρ : Dev nD → PrngReg)

/-- Every present box of every point's box block names a class there is. -/
def BlocksOK : Prop := ∀ (c : Dev nD) (t : Fin cfg0.N), ClassesOK (F := F) (iblk m c 1 t)

/-- The word the body stores at point `t`. -/
def wordAt (c : Dev nD) (t : Fin cfg0.N) : F .f32 := outWord (iblk m c 0 t) (iblk m c 1 t) (iblk m c 2 t) (iblk m c 3 t) (iblk m c 4 t) (iblk m c 5 t) (iblk m c 6 t) (iblk m c 7 t)

/-- The pipeline's proof data: inputs stay at their blocks, the output's buffer holds the point's word. -/
def lossDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => wordAt m c t
  Φ _ := Pipeline.ΦA spec0 c
  q _ := fullShare
  owed _ := 0

theorem lossDats_A (c : Dev nD) (w : Fin cfg0.W) : (lossDats m 0 c).A w = V m c (Pipeline.arrRef spec0 w) := by
  dsimp only [lossDats]

theorem left_0 (c : Dev nD) (t : Fin cfg0.N) : (lossDats m 0 c).after 0 t = iblk m c 0 t := by dsimp only [lossDats]
theorem found_0 (c : Dev nD) (t : Fin cfg0.N) (d) : (lossDats m 0 c).before 0 t d = iblk m c 0 t :=
  before0_0_of m (lossDats m 0 c) (lossDats_A m c 0) (left_0 m c) t d
theorem left_1 (c : Dev nD) (t : Fin cfg0.N) : (lossDats m 0 c).after 1 t = iblk m c 1 t := by dsimp only [lossDats]
theorem found_1 (c : Dev nD) (t : Fin cfg0.N) (d) : (lossDats m 0 c).before 1 t d = iblk m c 1 t :=
  before0_1_of m (lossDats m 0 c) (lossDats_A m c 1) (left_1 m c) t d
theorem left_2 (c : Dev nD) (t : Fin cfg0.N) : (lossDats m 0 c).after 2 t = iblk m c 2 t := by dsimp only [lossDats]
theorem found_2 (c : Dev nD) (t : Fin cfg0.N) (d) : (lossDats m 0 c).before 2 t d = iblk m c 2 t :=
  before0_2_of m (lossDats m 0 c) (lossDats_A m c 2) (left_2 m c) t d
theorem left_3 (c : Dev nD) (t : Fin cfg0.N) : (lossDats m 0 c).after 3 t = iblk m c 3 t := by dsimp only [lossDats]
theorem found_3 (c : Dev nD) (t : Fin cfg0.N) (d) : (lossDats m 0 c).before 3 t d = iblk m c 3 t :=
  before0_3_of m (lossDats m 0 c) (lossDats_A m c 3) (left_3 m c) t d
theorem left_4 (c : Dev nD) (t : Fin cfg0.N) : (lossDats m 0 c).after 4 t = iblk m c 4 t := by dsimp only [lossDats]
theorem found_4 (c : Dev nD) (t : Fin cfg0.N) (d) : (lossDats m 0 c).before 4 t d = iblk m c 4 t :=
  before0_4_of m (lossDats m 0 c) (lossDats_A m c 4) (left_4 m c) t d
theorem left_5 (c : Dev nD) (t : Fin cfg0.N) : (lossDats m 0 c).after 5 t = iblk m c 5 t := by dsimp only [lossDats]
theorem found_5 (c : Dev nD) (t : Fin cfg0.N) (d) : (lossDats m 0 c).before 5 t d = iblk m c 5 t :=
  before0_5_of m (lossDats m 0 c) (lossDats_A m c 5) (left_5 m c) t d
theorem left_6 (c : Dev nD) (t : Fin cfg0.N) : (lossDats m 0 c).after 6 t = iblk m c 6 t := by dsimp only [lossDats]
theorem found_6 (c : Dev nD) (t : Fin cfg0.N) (d) : (lossDats m 0 c).before 6 t d = iblk m c 6 t :=
  before0_6_of m (lossDats m 0 c) (lossDats_A m c 6) (left_6 m c) t d
theorem left_7 (c : Dev nD) (t : Fin cfg0.N) : (lossDats m 0 c).after 7 t = iblk m c 7 t := by dsimp only [lossDats]
theorem found_7 (c : Dev nD) (t : Fin cfg0.N) (d) : (lossDats m 0 c).before 7 t d = iblk m c 7 t :=
  before0_7_of m (lossDats m 0 c) (lossDats_A m c 7) (left_7 m c) t d
theorem left_8 (c : Dev nD) (t : Fin cfg0.N) : (lossDats m 0 c).after 8 t = fun _ => wordAt m c t := by dsimp only [lossDats]

/-- The region's resources beside the windows: the three scratch buffers at some contents, and the generator register. -/
theorem rest_eq (c : Dev nD) : (Pipeline.ΦA spec0 c : sProp 𝕄L)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`. -/
def atEntry (c : Dev nD) (t : Fin cfg0.N) : sProp 𝕄L :=
  iprop((lossDats m 0 c).Φ t.castSucc ∗ (lossDats m 0 c).owesAt () t.castSucc
    ∗ (∃ d, owns (c : Thread nD τ) (win0_0.stage (cfg0.slots t 0)) fullShare ((lossDats m 0 c).before 0 t d))
    ∗ (∃ d, owns (c : Thread nD τ) (win0_1.stage (cfg0.slots t 1)) fullShare ((lossDats m 0 c).before 1 t d))
    ∗ (∃ d, owns (c : Thread nD τ) (win0_2.stage (cfg0.slots t 2)) fullShare ((lossDats m 0 c).before 2 t d))
    ∗ (∃ d, owns (c : Thread nD τ) (win0_3.stage (cfg0.slots t 3)) fullShare ((lossDats m 0 c).before 3 t d))
    ∗ (∃ d, owns (c : Thread nD τ) (win0_4.stage (cfg0.slots t 4)) fullShare ((lossDats m 0 c).before 4 t d))
    ∗ (∃ d, owns (c : Thread nD τ) (win0_5.stage (cfg0.slots t 5)) fullShare ((lossDats m 0 c).before 5 t d))
    ∗ (∃ d, owns (c : Thread nD τ) (win0_6.stage (cfg0.slots t 6)) fullShare ((lossDats m 0 c).before 6 t d))
    ∗ (∃ d, owns (c : Thread nD τ) (win0_7.stage (cfg0.slots t 7)) fullShare ((lossDats m 0 c).before 7 t d))
    ∗ (∃ d, owns (c : Thread nD τ) (win0_8.stage (cfg0.slots t 8)) fullShare ((lossDats m 0 c).before 8 t d)))

/-- What the body returns at point `t`. -/
def atExit (c : Dev nD) (t : Fin cfg0.N) : sProp 𝕄L :=
  iprop((lossDats m 0 c).Φ t.succ ∗ (lossDats m 0 c).owesAt () t.succ
    ∗ owns (c : Thread nD τ) (win0_0.stage (cfg0.slots t 0)) fullShare ((lossDats m 0 c).after 0 t)
    ∗ owns (c : Thread nD τ) (win0_1.stage (cfg0.slots t 1)) fullShare ((lossDats m 0 c).after 1 t)
    ∗ owns (c : Thread nD τ) (win0_2.stage (cfg0.slots t 2)) fullShare ((lossDats m 0 c).after 2 t)
    ∗ owns (c : Thread nD τ) (win0_3.stage (cfg0.slots t 3)) fullShare ((lossDats m 0 c).after 3 t)
    ∗ owns (c : Thread nD τ) (win0_4.stage (cfg0.slots t 4)) fullShare ((lossDats m 0 c).after 4 t)
    ∗ owns (c : Thread nD τ) (win0_5.stage (cfg0.slots t 5)) fullShare ((lossDats m 0 c).after 5 t)
    ∗ owns (c : Thread nD τ) (win0_6.stage (cfg0.slots t 6)) fullShare ((lossDats m 0 c).after 6 t)
    ∗ owns (c : Thread nD τ) (win0_7.stage (cfg0.slots t 7)) fullShare ((lossDats m 0 c).after 7 t)
    ∗ owns (c : Thread nD τ) (win0_8.stage (cfg0.slots t 8)) fullShare ((lossDats m 0 c).after 8 t))

set_option maxHeartbeats 1600000 in
/-- The body at any point whose box block names classes there are. -/
theorem point_sound (hok : BlocksOK m) (c : Dev nD) (t : Fin cfg0.N) :
    atEntry m c t ⊢ wp frame (wpE (defs₀ (F := F)) Variants.none c none) Set.univ (bodyAt0 t) (fun _ => atExit m c t) := by
  unfold atEntry atExit bodyAt0
  simp only [found_0, found_1, found_2, found_3, found_4, found_5, found_6, found_7]
  rw [show (lossDats m 0 c).Φ t.succ = (lossDats m 0 c).Φ t.castSucc from rfl,
    show (lossDats m 0 c).owesAt () t.succ = (lossDats m 0 c).owesAt () t.castSucc from rfl,
    left_0, left_1, left_2, left_3, left_4, left_5, left_6, left_7, left_8]
  rw [show (lossDats m 0 c).Φ t.castSucc = Pipeline.ΦA spec0 c from rfl, rest_eq]
  unfold wordAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (hok c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin cfg0.N) : defs₀ (F := F) .tc cfg0.body (cfg0.bodyArgs t (cfg0.slots t)) = bodyAt0 t := by
  unfold defs₀; rw [Defs.onTc_tc]

/-- The library's obligation on the body, at every point. -/
theorem obligation (hok : BlocksOK m) (c : Dev nD) : BodyObligation (lossDats (F := F) m 0 c) (defs₀ (F := F)) Variants.none () Set.univ := fun t => by
  rw [bigSep_W0, bigSep_W0, row_eq]
  exact triple_restated (point_sound m hok c t) rfl .rfl fun _ => .rfl

set_option backward.isDefEq.respectTransparency.types false in
set_option maxHeartbeats 1600000 in
/-- The launch: the program ends, every array as the proof data leave it, the other buffers as the lines after the region leave them, every counter zero. -/
theorem launch_run (hok : BlocksOK m) : θ_run defs (onTc (τ := τ) (main (F := F))) (s₀ m ρ)
    (fun r => (Pipeline.FramePost cfgs (lossDats m) 0 (Pipeline.afterTail₀ cfgs (lossDats m) 0 (V0 m) [hostOps1])) r ∧ r.2.sem = fun _ => 0) :=
  Pipeline.θ_run_frame_around (Q' := _) cfgs (lossDats m) (0 : Fin 1) launch0 defs₀ Variants.none m ρ main
    (hbody := fun c => (obligation m hok c).loose) (hshare := fun c => (lossDats m 0 c).share_full fun _ => rfl)
    (howed := fun _ _ => rfl) (V₀ := V0 m) (opss := [hostOps1]) (hsub := sfx_sub) (hfresh := sfx_fresh) (hkeep := sfx_keeps)
    (hmain := hmain m Variants.none) (hA := lossDats_A m) (hΦ := fun _ _ => rfl)

/-- The frame: the program ends, its arguments as they were, every counter zero. -/
theorem frame_run (hok : BlocksOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (lossDats m) (lossDats_A m) ((θ_run defs _ _).mono (fun _ h => h.1) (launch_run m ρ hok)))
    ((θ_run defs _ _).mono (fun _ h => h.2) (launch_run m ρ hok))

end Cert.KernelIdeal.Region

end
-- ==== Proof.KernelIdealEntry.lean ====
/- What the boxes' block holds when the region starts, and that a precondition on the boxes' classes is all the body assumes. -/
module

public import proofs.«01_k».proof.Proof.KernelIdealLaunch
public import proofs.«01_k».proof.Pre_classes_in_range
public import proofs.«01_k».proof.Proof.Gen.Pre_classes_in_range
public import Idealize.ShloMosaic.Lib.Pipeline.ValueKit
public import Idealize.ShloMosaic.Lib.Pointwise
public import Idealize.ShloMosaic.Lib.SortKey

@[expose] public section

set_option maxRecDepth 16384

noncomputable section

namespace Cert.KernelIdeal.Region

open Idealize.ShloMosaic Idealize.ShloMosaic.TcCoe Idealize.ShloMosaic.Tactic
open Idealize
open Cert.KernelIdeal Cert.KernelIdeal.Gen

variable {F : FTy → Type} [FloatOps F]
variable (m : (ℓ : Loc nD τ sig) → Buf (Elt F) ℓ)

/-- The boxes' array, when the region starts, is the argument with a unit axis in the middle. -/
theorem entry25 (c : Dev nD) : (V m c main_call0_v25 : Vec F S64x1x250 .f32) = shapeCast S64x1x250 (m ((c : Thread nD τ).loc main_arg1) : Vec F S64x250 .f32) shapeCasts_S64x250_S64x1x250 := by
  show StableHlo.after (List.flatten [hostOps0]) (fun b => m (c, b)) (Proc.devRef .tc main_call0_v25) = _
  simp only [hostOps0, List.flatten_cons, List.flatten_nil, List.append_nil, List.cons_append, List.nil_append]
  after_results_simp
  rfl

/-- At point `t` the boxes' block is row `t`. -/
theorem idx1 (t : Fin grid0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

/-- Word `i` of the boxes' block at point `t` is the argument at row `t`, word `i`. -/
theorem blk1 (c : Dev nD) (t : Fin cfg0.N) (i : S1x1x250.Idx) (k : S64x250.Idx) (h0 : (k 0 : ℕ) = t.val) (h1 : (k 1 : ℕ) = (i 2 : ℕ)) :
    (iblk m c 1 t : Vec F S1x1x250 .f32) i = (m ((c : Thread nD τ).loc main_arg1) : Vec F S64x250 .f32) k := by
  have e : (iblk m c 1 t : Vec F S1x1x250 .f32) i = (V m c main_call0_v25 : Vec F S64x1x250 .f32) (ix3 (k 0) 0 (k 1)) := by
    blk_ext [iblk, idx1 t]
  rw [e, entry25]
  pointwise
  blk_ext []

/-- The word a box's load reads: the box's class (`j = 0`) and presence (`j = 1`), of the argument's row. -/
theorem wd2_blk (c : Dev nD) (t : Fin cfg0.N) (off : Fin 3 → Nat) (h : ∀ a, off a + S1x1x1.size a ≤ S1x1x250.size a) (k : S64x250.Idx)
    (h0 : (k 0 : ℕ) = t.val) (h1 : (k 1 : ℕ) = off 2) :
    wd2 (ofBlock (iblk m c 1 t : Vec F S1x1x250 .f32)) off h = (m ((c : Thread nD τ).loc main_arg1) : Vec F S64x250 .f32) k := by
  refine blk1 m c t _ k h0 ?_
  rw [h1]
  show _ = off 2 + 1 * _
  simp [Shape.Idx.first]

/-- A class below twenty names a channel of the prediction block. -/
theorem chk2_of_range (a : BitVec 1) (w : BitVec 32) (h0 : IntOp.cmpi .sge w 0#32 = 1#1) (h1 : IntOp.cmpi .slt w 20#32 = 1#1) : k0_chk2 a w := by
  intro _
  have g0 : 0 ≤ w.toInt := by
    by_contra hc
    have : IntOp.cmpi .sge w 0#32 = BitVec.ofBool (decide (0 ≤ w.toInt)) := rfl
    rw [this, decide_eq_false hc] at h0
    exact absurd h0 (by decide)
  have g1 : w.toInt < 20 := by
    by_contra hc
    have : IntOp.cmpi .slt w 20#32 = BitVec.ofBool (decide (w.toInt < 20)) := rfl
    rw [this, decide_eq_false hc] at h1
    exact absurd h1 (by decide)
  have hw := w.isLt
  have hn : w.toNat < 20 := by
    rw [BitVec.toInt_eq_toNat_cond] at g0 g1
    split at g0 <;> omega
  have e : (5#32 + w).toNat = 5 + w.toNat := by
    rw [BitVec.toNat_add]
    show (5 + w.toNat) % 2 ^ 32 = _
    omega
  intro d
  fin_cases d
  · show 0 + 1 ≤ 1; omega
  · show (5#32 + w).toNat + 1 ≤ 25; omega
  · show 0 + 60 ≤ 60; omega
  · show 0 + 128 ≤ 128; omega

/-- A condition as the kernel computes it from a bit is that bit. -/
theorem bit_of_cond1 (b : BitVec 1) : k0_cond1 b = 1#1 → b = 1#1 := by
  revert b; decide

/-- An or of bits that holds, has one that holds; an and, both. -/
theorem bit_or (a b : BitVec 1) : IntOp.ori a b = 1#1 → a = 1#1 ∨ b = 1#1 := by
  revert a b; decide
theorem bit_and (a b : BitVec 1) : IntOp.andi a b = 1#1 → a = 1#1 ∧ b = 1#1 := by
  revert a b; decide

/-- Where the float comparison `one` excludes `oeq`, the precondition on the classes is all the body assumes: every
    box that is present has a class below twenty. -/
theorem blocksOK_of_pre (hx : ∀ x y : F .f32, Scalar.cmpf .one x y = 1#1 → FloatOps.cmpf .oeq x y = 1#1 → False)
    (hi : ∀ x : F .f32, Scalar.fptosi 32 x = FloatOps.fptosi 32 x) (hz : Scalar.ofBits .f32 0x00000000#32 = (FloatOps.ofBits .f32 0x00000000#32 : F .f32))
    (hp : ∀ c : Dev nD, (Cert.Pre_classes_in_range.fn (F := F) (m ((c.tc : Thread nD τ).loc main_arg0)) (m ((c.tc : Thread nD τ).loc main_arg1)) (m ((c.tc : Thread nD τ).loc main_arg2))) = (fun _ => 1#1)) :
    BlocksOK m := by
  intro c t k hk
  have hk50 : k.val < 50 := k.isLt
  have ht64 : t.val < 64 := t.isLt
  have h := congrFun (hp c) (ix2 ⟨t.val, ht64⟩ ⟨k.val, hk50⟩)
  have h1 := bit_of_cond1 _ hk
  have e1 := wd2_blk m c t (k0_off1 k) (k0_off1_inb k) (ix2 ⟨t.val, ht64⟩ ⟨k.val * 5 + 1, by omega⟩) rfl (by rw [k0_off1_eq]; show k.val * 5 + 1 = 5 * k.val + 1; omega)
  have e0 := wd2_blk m c t (k0_off3 k) (k0_off3_inb k) (ix2 ⟨t.val, ht64⟩ ⟨k.val * 5, by omega⟩) rfl (by rw [k0_off3_eq]; show k.val * 5 = 5 * k.val; omega)
  unfold present at h1
  unfold clsOf
  rw [e1] at h1
  rw [e0]
  pointwise [Cert.Pre_classes_in_range.fn] at h
  rw [hz] at h1
  rw [hi]
  have c1 := bit_or _ _ h
  rcases c1 with c1 | c1
  · exact (hx _ _ h1 c1).elim
  · exact chk2_of_range _ _ (bit_and _ _ c1).1 (bit_and _ _ c1).2

/-- The scalar unit converts a float to an integer as the vector unit does. -/
theorem fptosi_eq (x : Ideal .f32) : Scalar.fptosi 32 x = FloatOps.fptosi 32 x := rfl

/-- On extended reals, unequal excludes equal. -/
theorem one_oeq (x y : Ideal .f32) : Scalar.cmpf .one x y = 1#1 → FloatOps.cmpf .oeq x y = 1#1 → False := by
  show BitVec.ofBool (decide (x ≠ y)) = 1#1 → BitVec.ofBool (decide (x = y)) = 1#1 → False
  by_cases h : x = y <;> simp [h]

/-- The precondition on the classes is all the body assumes. -/
theorem blocksOK (m : (ℓ : Loc nD τ sig) → Buf (Elt Ideal) ℓ)
    (hp : ∀ c : Dev nD, (Cert.Pre_classes_in_range.fn (F := Ideal) (m ((c.tc : Thread nD τ).loc main_arg0)) (m ((c.tc : Thread nD τ).loc main_arg1)) (m ((c.tc : Thread nD τ).loc main_arg2))) = (fun _ => 1#1)) :
    BlocksOK m := blocksOK_of_pre m one_oeq fptosi_eq rfl hp

end Cert.KernelIdeal.Region
-- ==== Proof.Frames.lean ====
/- The two kernels and the reference run, leave their arguments as found, and end with every semaphore at zero. -/
module

public import proofs.«01_k».proof.Defs
public import proofs.«01_k».proof.Proof.KernelEntry
public import proofs.«01_k».proof.Proof.KernelIdealEntry
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem

/-- The kernel, on float words. -/
theorem quiescent_Kernel : Cert.quiescent_Kernel :=
  fun m g hp => Cert.Kernel.Region.frame_run m g (Cert.Kernel.Region.blocksOK m hp)

/-- The kernel, on extended reals. -/
theorem quiescent_KernelIdeal : Cert.quiescent_KernelIdeal :=
  fun m g hp => Cert.KernelIdeal.Region.frame_run m g (Cert.KernelIdeal.Region.blocksOK m hp)

/-- The reference, on extended reals. -/
theorem quiescent_ReferenceIdeal : Cert.quiescent_ReferenceIdeal :=
  fun m g _ => θ_run_mono (Cert.ReferenceIdeal.Value.run m g) fun r h =>
    ⟨fun c => (h c).2, Idealize.ShloMosaic.sem_eq_zero_of_no_sems (by decide) r.2⟩

end Cert.Proof

end
-- ==== Proof.Loss.lean ====
/- One cell of the grid, as the kernel computes it: the loss's share of the cell, of the cell's twenty-five channels, its
   place, its anchor's sides, the image's fifty boxes and the ten anchor words, in extended reals. -/
module

public import Idealize.ShloMosaic.Lib.Pointwise

@[expose] public section

set_option maxRecDepth 16384

noncomputable section

namespace Cert.Loss

open Idealize.ShloMosaic

/-- The grid's side. -/
def k38 : EReal := Ideal.ofBits .f32 0x42180000#32
/-- One half. -/
def kHalf : EReal := Ideal.ofBits .f32 0x3F000000#32
/-- Two. -/
def kTwo : EReal := Ideal.ofBits .f32 0x40000000#32
/-- Two and a half. -/
def kFive2 : EReal := Ideal.ofBits .f32 0x40200000#32
/-- The overlap from which a cell without an object is spared. -/
def kThr : EReal := Ideal.ofBits .f32 0x3F19999A#32

/-- The column or the row a coordinate falls in. -/
def cell (v : EReal) : BitVec 32 := IntOp.minsi 37#32 (IntOp.maxsi 0#32 (Ideal.fptosi 32 v))
/-- An integer word as an extended real. -/
def ofInt (w : BitVec 32) : EReal := ((w.toInt : ℝ) : EReal)

/-- A box's centre and sides, in cells. -/
def gx (w : Fin 5 → EReal) : EReal := w 1 * k38
def gy (w : Fin 5 → EReal) : EReal := w 2 * k38
def gw (w : Fin 5 → EReal) : EReal := w 3 * k38
def gh (w : Fin 5 → EReal) : EReal := w 4 * k38

/-- How far two intervals, of centres `p` and `g` and lengths `a` and `b`, overlap (not cut at zero). -/
def cut (p a g b : EReal) : EReal :=
  a + b - (max (p + a * kHalf) (g + b * kHalf) - min (p - a * kHalf) (g - b * kHalf))
/-- The area two boxes share. -/
def inter (cw ch : EReal) : EReal :=
  Scalar.select (IntOp.ori (Ideal.cmp .ole cw 0) (Ideal.cmp .ole ch 0)) 0 (cw * ch)
/-- A box's overlap with a predicted box. -/
def iou (px py pw ph : EReal) (w : Fin 5 → EReal) : EReal :=
  Ideal.div (inter (cut px pw (gx w) (gw w)) (cut py ph (gy w) (gh w)))
    (pw * ph + gw w * gh w - inter (cut px pw (gx w) (gw w)) (cut py ph (gy w) (gh w)))

/-- What a box shares with an anchor, both centred, and what the two cover. -/
def aI (p q g h : EReal) : EReal := min p g * min q h
def aU (p q g h : EReal) : EReal := p * q + g * h - aI p q g h

/-- The anchors tried in order: whether anchor 1, 2, 3, 4 is better than the best before it. -/
def ab1 (A : Fin 10 → EReal) (g h : EReal) : BitVec 1 :=
  Ideal.cmp .ogt (aI (A 2) (A 3) g h * aU (A 0) (A 1) g h) (aI (A 0) (A 1) g h * aU (A 2) (A 3) g h)
def ai1 (A : Fin 10 → EReal) (g h : EReal) : EReal := Scalar.select (ab1 A g h) (aI (A 2) (A 3) g h) (aI (A 0) (A 1) g h)
def au1 (A : Fin 10 → EReal) (g h : EReal) : EReal := Scalar.select (ab1 A g h) (aU (A 2) (A 3) g h) (aU (A 0) (A 1) g h)
def ab2 (A : Fin 10 → EReal) (g h : EReal) : BitVec 1 := Ideal.cmp .ogt ((aI (A 4) (A 5) g h) * au1 A g h) (ai1 A g h * (aU (A 4) (A 5) g h))
def ai2 (A : Fin 10 → EReal) (g h : EReal) : EReal := Scalar.select (ab2 A g h) (aI (A 4) (A 5) g h) (ai1 A g h)
def au2 (A : Fin 10 → EReal) (g h : EReal) : EReal := Scalar.select (ab2 A g h) (aU (A 4) (A 5) g h) (au1 A g h)
def ab3 (A : Fin 10 → EReal) (g h : EReal) : BitVec 1 := Ideal.cmp .ogt ((aI (A 6) (A 7) g h) * au2 A g h) (ai2 A g h * (aU (A 6) (A 7) g h))
def ai3 (A : Fin 10 → EReal) (g h : EReal) : EReal := Scalar.select (ab3 A g h) (aI (A 6) (A 7) g h) (ai2 A g h)
def au3 (A : Fin 10 → EReal) (g h : EReal) : EReal := Scalar.select (ab3 A g h) (aU (A 6) (A 7) g h) (au2 A g h)
def ab4 (A : Fin 10 → EReal) (g h : EReal) : BitVec 1 := Ideal.cmp .ogt ((aI (A 8) (A 9) g h) * au3 A g h) (ai3 A g h * (aU (A 8) (A 9) g h))

/-- The number of the best anchor, as four bits choose it. -/
def bnOf (b1 b2 b3 b4 : BitVec 1) : BitVec 32 :=
  Scalar.select b4 4#32 (Scalar.select b3 3#32 (Scalar.select b2 2#32 (Scalar.select b1 1#32 0#32)))
/-- The number of the anchor a box fits best. -/
def bn (A : Fin 10 → EReal) (w : Fin 5 → EReal) : BitVec 32 :=
  bnOf (ab1 A (gw w) (gh w)) (ab2 A (gw w) (gh w)) (ab3 A (gw w) (gh w)) (ab4 A (gw w) (gh w))
/-- Word `2 * n + j` of the anchors, of the best anchor `n`. -/
def ancOf (A : Fin 10 → EReal) (b : BitVec 32) (j : Fin 2) : EReal := if h : 2 * b.toNat + j.val < 10 then A ⟨2 * b.toNat + j.val, h⟩ else 0

/-- The number, in its image, of the cell a box falls in. -/
def place (A : Fin 10 → EReal) (w : Fin 5 → EReal) : BitVec 32 :=
  bn A w * 1444#32 + cell (gy w) * 38#32 + cell (gx w)

/-- The greatest class logit, and the log of the sum of the exponentials of the class logits. -/
def lmax (L : Fin 25 → EReal) : EReal := max (max (max (max (max (max (max (max (max (max (max (max (max (max (max (max (max (max (max (L 5) (L 6)) (L 7)) (L 8)) (L 9)) (L 10)) (L 11)) (L 12)) (L 13)) (L 14)) (L 15)) (L 16)) (L 17)) (L 18)) (L 19)) (L 20)) (L 21)) (L 22)) (L 23)) (L 24)
def lsum (L : Fin 25 → EReal) : EReal := Ideal.exp (L 5 - lmax L) + Ideal.exp (L 6 - lmax L) + Ideal.exp (L 7 - lmax L) + Ideal.exp (L 8 - lmax L) + Ideal.exp (L 9 - lmax L) + Ideal.exp (L 10 - lmax L) + Ideal.exp (L 11 - lmax L) + Ideal.exp (L 12 - lmax L) + Ideal.exp (L 13 - lmax L) + Ideal.exp (L 14 - lmax L) + Ideal.exp (L 15 - lmax L) + Ideal.exp (L 16 - lmax L) + Ideal.exp (L 17 - lmax L) + Ideal.exp (L 18 - lmax L) + Ideal.exp (L 19 - lmax L) + Ideal.exp (L 20 - lmax L) + Ideal.exp (L 21 - lmax L) + Ideal.exp (L 22 - lmax L) + Ideal.exp (L 23 - lmax L) + Ideal.exp (L 24 - lmax L)
def lse (L : Fin 25 → EReal) : EReal := lmax L + Ideal.log (lsum L)
/-- The logit of the class a box names. -/
def logit (L : Fin 25 → EReal) (w : Fin 5 → EReal) : EReal :=
  if h : (5#32 + Ideal.fptosi 32 (w 0)).toNat < 25 then L ⟨(5#32 + Ideal.fptosi 32 (w 0)).toNat, h⟩ else 0

/-- A cell: its channels, its number in the image, its column and row, and its anchor's sides. -/
structure Pt where
  L : Fin 25 → EReal
  fio : BitVec 32
  col : EReal
  row : EReal
  aw : EReal
  ah : EReal

/-- The cell's predicted box overlaps a box of the image by this much. -/
def Pt.iou (P : Pt) (w : Fin 5 → EReal) : EReal :=
  Loss.iou (Ideal.logistic (P.L 0) + P.col) (Ideal.logistic (P.L 1) + P.row) (Ideal.exp (P.L 2) * P.aw) (Ideal.exp (P.L 3) * P.ah) w

/-- What a side's target takes from a squared difference: `t * (t - 2 * v)`. -/
def dSide (t v : EReal) : EReal := t * (t - kTwo * v)
/-- What a centre's target takes: `(1/2 - t) * (2 * v - t - 1/2)`. -/
def dMid (t v : EReal) : EReal := (kHalf - t) * (kTwo * v - t - kHalf)

/-- What a box whose cell this is changes of the cell's loss. -/
def Pt.delta (P : Pt) (A : Fin 10 → EReal) (w : Fin 5 → EReal) : EReal :=
  kHalf * (dMid (gx w - ofInt (cell (gx w))) (Ideal.logistic (P.L 0)) + dMid (gy w - ofInt (cell (gy w))) (Ideal.logistic (P.L 1))
      + dSide (Ideal.log (Ideal.div (gw w) (ancOf A (bn A w) 0))) (P.L 2) + dSide (Ideal.log (Ideal.div (gh w) (ancOf A (bn A w) 1))) (P.L 3))
    + kFive2 * ((Ideal.logistic (P.L 4) - P.iou w) * (Ideal.logistic (P.L 4) - P.iou w))
    + (lse P.L - logit P.L w)

/-- Whether a box's cell is this one. -/
def Pt.hit (P : Pt) (A : Fin 10 → EReal) (w : Fin 5 → EReal) : BitVec 1 := IntOp.cmpi .eq P.fio (place A w)

/-- The three running values of a cell: the corrections, the greatest overlap, whether some box's cell it is. -/
structure Run where
  corr : EReal
  best : EReal
  mask : EReal

/-- One box more. -/
def Pt.step (P : Pt) (A : Fin 10 → EReal) (w : Fin 5 → EReal) (s : Run) : Run :=
  if Ideal.cmp .one (w 1) 0 = 1#1 then
    ⟨s.corr + Scalar.select (P.hit A w) (P.delta A w) 0, max s.best (P.iou w), Scalar.select (P.hit A w) 1 s.mask⟩
  else s

/-- The running values after the first `n` boxes. -/
def Pt.run (P : Pt) (A : Fin 10 → EReal) (W : Fin 50 → Fin 5 → EReal) : ℕ → Run
  | 0 => ⟨0, 0, 0⟩
  | n + 1 => if h : n < 50 then P.step A (W ⟨n, h⟩) (P.run A W n) else P.run A W n

/-- The cell's share when no box's cell it is. -/
def Pt.base (P : Pt) : EReal :=
  (Ideal.logistic (P.L 0) - kHalf) * (Ideal.logistic (P.L 0) - kHalf) + (Ideal.logistic (P.L 1) - kHalf) * (Ideal.logistic (P.L 1) - kHalf)
    + P.L 2 * P.L 2 + P.L 3 * P.L 3

/-- The cell's share of the loss. -/
def Pt.total (P : Pt) (A : Fin 10 → EReal) (W : Fin 50 → Fin 5 → EReal) : EReal :=
  kHalf * (P.base + Scalar.select (IntOp.andi (IntOp.andi (Ideal.cmp .ole (P.run A W 50).best kThr) (Ideal.cmp .oeq (P.run A W 50).mask 0)) (IntOp.cmpi .sge P.fio 0#32))
      (Ideal.logistic (P.L 4) * Ideal.logistic (P.L 4)) 0)
    + (P.run A W 50).corr

/-- Cell `e` of image `b`: anchor `e / 1444`, row `e % 1444 / 38`, column `e % 38`. -/
def at_ (O : Fin 64 → Fin 125 → Fin 38 → Fin 38 → EReal) (A : Fin 10 → EReal) (b : Fin 64) (e : Fin 7220) : Pt :=
  ⟨fun ch => O b ⟨e.val / 1444 * 25 + ch.val, by omega⟩ ⟨e.val % 1444 / 38, by omega⟩ ⟨e.val % 38, by omega⟩, BitVec.ofNat 32 e.val,
    (((e.val % 38 : ℕ) : ℝ) : EReal), (((e.val % 1444 / 38 : ℕ) : ℝ) : EReal), A ⟨2 * (e.val / 1444), by omega⟩, A ⟨2 * (e.val / 1444) + 1, by omega⟩⟩
/-- A cell past the last. -/
def pad : Pt := ⟨fun _ => 0, 4294967295#32, 0, 0, 0, 0⟩
/-- The words of an image's boxes. -/
def boxes (T : Fin 64 → Fin 250 → EReal) (b : Fin 64) (k : Fin 50) (f : Fin 5) : EReal := T b ⟨5 * k.val + f.val, by omega⟩

end Cert.Loss

end
-- ==== Proof.KernelIdealRead.lean ====
/- What the body stores, read cell by cell. -/
module

public import proofs.«01_k».proof.Proof.KernelIdealEntry
public import proofs.«01_k».proof.Proof.Loss

@[expose] public section

set_option maxRecDepth 16384

noncomputable section

namespace Cert.KernelIdeal.Region

open Idealize.ShloMosaic Idealize.ShloMosaic.TcCoe Idealize.ShloMosaic.Tactic
open Idealize
open Cert.KernelIdeal Cert.KernelIdeal.Gen
open Cert.Loss (Pt)

/-- The five words of box `k` of the boxes' block. -/
def boxOf (x1 : Vec Ideal S1x1x250 .f32) (k : Fin 50) (f : Fin 5) : EReal := x1 (ix3 0 0 ⟨5 * k.val + f.val, by omega⟩)
/-- The ten anchor words. -/
def ancsOf (x2 : Vec Ideal S1x10 .f32) (n : Fin 10) : EReal := x2 (ix2 0 n)
/-- The cell at a place of the blocks. -/
def ptOf (x0 : Vec Ideal S1x25x60x128 .f32) (x3 : Vec Ideal S60x128 .i32) (x4 x5 x6 x7 : Vec Ideal S60x128 .f32) (y : S60x128.Idx) : Pt :=
  ⟨fun ch => x0 (ix4 0 ch (y 0) (y 1)), x3 y, x4 y, x5 y, x6 y, x7 y⟩

/-- One element of the boxes' block. -/
theorem wd2_at (x1 : Vec Ideal S1x1x250 .f32) (off : Fin 3 → Nat) (h : ∀ a, off a + S1x1x1.size a ≤ S1x1x250.size a) (n : Fin 250) (hn : off 2 = n.val) :
    wd2 (ofBlock x1) off h = x1 (ix3 0 0 n) := by
  have h0 := h 0
  have h1 := h 1
  refine congrArg x1 (funext fun a => Fin.ext ?_)
  have key : ∀ a, ((Rect.unit (s := S1x1x250) off S1x1x1.size h).toLoadRect.idx (Shape.Idx.first ((numel1_S1x1x1).symm ▸ Nat.one_pos)) a).val = off a := by
    intro a
    show off a + 1 * _ = off a
    simp [Shape.Idx.first]
  rw [key]
  fin_cases a
  · show off 0 = 0
    have : off 0 + 1 ≤ 1 := h0
    omega
  · show off 1 = 0
    have : off 1 + 1 ≤ 1 := h1
    omega
  · exact hn

/-- One element of the anchors' block. -/
theorem wd3_at (x2 : Vec Ideal S1x10 .f32) (off : Fin 2 → Nat) (h : ∀ a, off a + S1x1.size a ≤ S1x10.size a) (n : Fin 10) (hn : off 1 = n.val) :
    wd3 (ofBlock x2) off h = ancsOf x2 n := by
  have h0 := h 0
  refine congrArg x2 (funext fun a => Fin.ext ?_)
  have key : ∀ a, ((Rect.unit (s := S1x10) off S1x1.size h).toLoadRect.idx (Shape.Idx.first ((numel1_S1x1).symm ▸ Nat.one_pos)) a).val = off a := by
    intro a
    show off a + 1 * _ = off a
    simp [Shape.Idx.first]
  rw [key]
  fin_cases a
  · show off 0 = 0
    have : off 0 + 1 ≤ 1 := h0
    omega
  · exact hn

/-- The word the load of the best anchor's first and second side reads. -/
theorem off45 : ∀ b1 b2 b3 b4 : BitVec 1, k0_off4 b1 b2 b3 b4 1 = 2 * (Loss.bnOf b1 b2 b3 b4).toNat + 0 ∧ k0_off5 b1 b2 b3 b4 1 = 2 * (Loss.bnOf b1 b2 b3 b4).toNat + 1 := by
  unfold Loss.bnOf k0_off4 k0_off5
  decide

theorem bnOf_lt : ∀ b1 b2 b3 b4 : BitVec 1, (Loss.bnOf b1 b2 b3 b4).toNat < 5 := by
  unfold Loss.bnOf
  decide

variable (x0 : Vec Ideal S1x25x60x128 .f32) (x1 : Vec Ideal S1x1x250 .f32) (x2 : Vec Ideal S1x10 .f32) (x3 : Vec Ideal S60x128 .i32) (x4 x5 x6 x7 : Vec Ideal S60x128 .f32)

theorem chan_apply {off : Fin 4 → Nat} (h : ∀ a, off a + S1x1x60x128.size a ≤ S1x25x60x128.size a) (n : Fin 25) (h1 : off 1 = n.val) (h2 : off 2 = 0) (h3 : off 3 = 0)
   (y : S1x1x60x128.Idx) : chan x0 h y = x0 (ix4 0 n (y 2) (y 3)) := by
  have h0 := h 0
  refine congrArg x0 (funext fun a => Fin.ext ?_)
  show off a + 1 * (y a).val = _
  fin_cases a
  · have : off 0 + 1 ≤ 1 := h0
    have hy := (y 0).isLt
    have : (y 0).val < 1 := hy
    show off 0 + 1 * (y 0).val = 0
    omega
  · have hy := (y 1).isLt
    have : (y 1).val < 1 := hy
    show off 1 + 1 * (y 1).val = n.val
    omega
  · show off 2 + 1 * (y 2).val = (y 2).val
    omega
  · show off 3 + 1 * (y 3).val = (y 3).val
    omega

theorem grid_eq {e : EltTy} (x : Vec Ideal S60x128 e) : grid x = x := by
  funext y
  refine congrArg x (funext fun a => Fin.ext ?_)
  show (![0, 0] : Fin 2 → Nat) a + 1 * (y a).val = _
  fin_cases a <;> simp

/-- A channel's element. -/
theorem chan_at (n : ℕ) (hn : n < 25) (h : ∀ a, (![0, n, 0, 0] : Fin 4 → Nat) a + S1x1x60x128.size a ≤ S1x25x60x128.size a) (r : Fin 60) (l : Fin 128) :
    chan x0 h (ix4 0 0 r l) = x0 (ix4 0 ⟨n, hn⟩ r l) := chan_apply x0 h ⟨n, hn⟩ rfl rfl rfl _

/-- The log of the sum of the exponentials of a cell's class logits. -/
theorem lse_apply (y : S60x128.Idx) : lse x0 y = Loss.lse (fun ch => x0 (ix4 0 ch (y 0) (y 1))) := by
  idx_vars y
  pointwise [lse, sum22, sum15, mxAll, mx22, k0_pay58, k0_pay59, k0_pay60, k0_pay61, k0_pay62, k0_pay63, k0_pay64, k0_pay65]
  simp only [chan_at x0 0 (by decide) inb_S1x25x60x128_S1x1x60x128_0_0_0_0, chan_at x0 1 (by decide) inb_S1x25x60x128_S1x1x60x128_0_1_0_0, chan_at x0 2 (by decide) inb_S1x25x60x128_S1x1x60x128_0_2_0_0, chan_at x0 3 (by decide) inb_S1x25x60x128_S1x1x60x128_0_3_0_0, chan_at x0 4 (by decide) inb_S1x25x60x128_S1x1x60x128_0_4_0_0, chan_at x0 5 (by decide) inb_S1x25x60x128_S1x1x60x128_0_5_0_0, chan_at x0 6 (by decide) inb_S1x25x60x128_S1x1x60x128_0_6_0_0, chan_at x0 7 (by decide) inb_S1x25x60x128_S1x1x60x128_0_7_0_0, chan_at x0 8 (by decide) inb_S1x25x60x128_S1x1x60x128_0_8_0_0, chan_at x0 9 (by decide) inb_S1x25x60x128_S1x1x60x128_0_9_0_0, chan_at x0 10 (by decide) inb_S1x25x60x128_S1x1x60x128_0_10_0_0, chan_at x0 11 (by decide) inb_S1x25x60x128_S1x1x60x128_0_11_0_0, chan_at x0 12 (by decide) inb_S1x25x60x128_S1x1x60x128_0_12_0_0, chan_at x0 13 (by decide) inb_S1x25x60x128_S1x1x60x128_0_13_0_0, chan_at x0 14 (by decide) inb_S1x25x60x128_S1x1x60x128_0_14_0_0, chan_at x0 15 (by decide) inb_S1x25x60x128_S1x1x60x128_0_15_0_0, chan_at x0 16 (by decide) inb_S1x25x60x128_S1x1x60x128_0_16_0_0, chan_at x0 17 (by decide) inb_S1x25x60x128_S1x1x60x128_0_17_0_0, chan_at x0 18 (by decide) inb_S1x25x60x128_S1x1x60x128_0_18_0_0, chan_at x0 19 (by decide) inb_S1x25x60x128_S1x1x60x128_0_19_0_0, chan_at x0 20 (by decide) inb_S1x25x60x128_S1x1x60x128_0_20_0_0, chan_at x0 21 (by decide) inb_S1x25x60x128_S1x1x60x128_0_21_0_0, chan_at x0 22 (by decide) inb_S1x25x60x128_S1x1x60x128_0_22_0_0, chan_at x0 23 (by decide) inb_S1x25x60x128_S1x1x60x128_0_23_0_0, chan_at x0 24 (by decide) inb_S1x25x60x128_S1x1x60x128_0_24_0_0]
  rfl

/-- The load of the best anchor's first side. -/
theorem anc0 (b1 b2 b3 b4 : BitVec 1) (h : ∀ a, k0_off4 b1 b2 b3 b4 a + S1x1.size a ≤ S1x10.size a) :
    wd3 (ofBlock x2) (k0_off4 b1 b2 b3 b4) h = Loss.ancOf (ancsOf x2) (Loss.bnOf b1 b2 b3 b4) 0 := by
  have hl := bnOf_lt b1 b2 b3 b4
  have hh : 2 * (Loss.bnOf b1 b2 b3 b4).toNat + (0 : Fin 2).val < 10 := by show _ + 0 < 10; omega
  unfold Loss.ancOf
  rw [dif_pos hh]
  exact wd3_at x2 _ h _ (off45 b1 b2 b3 b4).1
/-- The load of the best anchor's second side. -/
theorem anc1 (b1 b2 b3 b4 : BitVec 1) (h : ∀ a, k0_off5 b1 b2 b3 b4 a + S1x1.size a ≤ S1x10.size a) :
    wd3 (ofBlock x2) (k0_off5 b1 b2 b3 b4) h = Loss.ancOf (ancsOf x2) (Loss.bnOf b1 b2 b3 b4) 1 := by
  have hl := bnOf_lt b1 b2 b3 b4
  have hh : 2 * (Loss.bnOf b1 b2 b3 b4).toNat + (1 : Fin 2).val < 10 := by show _ + 1 < 10; omega
  unfold Loss.ancOf
  rw [dif_pos hh]
  exact wd3_at x2 _ h _ (off45 b1 b2 b3 b4).2

/-- The words of box `k`, as the loads read them. -/
theorem w1_at (k : Fin k0_t1_loop.trips) (h : ∀ a, k0_off1 k a + S1x1x1.size a ≤ S1x1x250.size a) :
    wd2 (ofBlock x1) (k0_off1 k) h = boxOf x1 k 1 := wd2_at x1 _ h _ (by rw [k0_off1_eq]; rfl)
theorem w2_at (k : Fin k0_t1_loop.trips) (h : ∀ a, k0_off2 k 2#32 a + S1x1x1.size a ≤ S1x1x250.size a) :
    wd2 (ofBlock x1) (k0_off2 k 2#32) h = boxOf x1 k 2 := wd2_at x1 _ h _ (by exact congrFun (k0_off2_eq k 0) 2)
theorem w3_at (k : Fin k0_t1_loop.trips) (h : ∀ a, k0_off2 k 3#32 a + S1x1x1.size a ≤ S1x1x250.size a) :
    wd2 (ofBlock x1) (k0_off2 k 3#32) h = boxOf x1 k 3 := wd2_at x1 _ h _ (by exact congrFun (k0_off2_eq k 1) 2)
theorem w4_at (k : Fin k0_t1_loop.trips) (h : ∀ a, k0_off2 k 4#32 a + S1x1x1.size a ≤ S1x1x250.size a) :
    wd2 (ofBlock x1) (k0_off2 k 4#32) h = boxOf x1 k 4 := wd2_at x1 _ h _ (by exact congrFun (k0_off2_eq k 2) 2)
theorem w0_at (k : Fin k0_t1_loop.trips) (h : ∀ a, k0_off3 k a + S1x1x1.size a ≤ S1x1x250.size a) :
    wd2 (ofBlock x1) (k0_off3 k) h = boxOf x1 k 0 := wd2_at x1 _ h _ (by rw [k0_off3_eq]; rfl)

theorem a_at (n : ℕ) (hn : n < 10) (h : ∀ a, (![0, n] : Fin 2 → Nat) a + S1x1.size a ≤ S1x10.size a) :
    wd3 (ofBlock x2) ![0, n] h = ancsOf x2 ⟨n, hn⟩ := wd3_at x2 _ h ⟨n, hn⟩ rfl

/-- The condition of the box's branch is its presence bit. -/
theorem cond_bit : ∀ b : BitVec 1, k0_cond1 b = b := by
  unfold k0_cond1; decide

/-- The class logit the branch loads. -/
theorem logitOf_apply (k : Fin k0_t1_loop.trips) (h1 : k0_cond1 (present (ofBlock x1) k) = 1#1) (r : Fin 60) (l : Fin 128) :
    logitOf (ofBlock x0) (ofBlock x1) k h1 (ix4 0 0 r l) = Loss.logit (fun ch => x0 (ix4 0 ch r l)) (boxOf x1 k) := by
  have e : clsOf (ofBlock x1) k = Ideal.fptosi 32 (boxOf x1 k 0) := by
    unfold clsOf; rw [w0_at]; rfl
  have hc : k0_chk2 (present (ofBlock x1) k) (clsOf (ofBlock x1) k) ↔ (5#32 + Ideal.fptosi 32 (boxOf x1 k 0)).toNat < 25 := by
    rw [e]
    constructor
    · intro h; exact h h1 1
    · intro h _ d
      fin_cases d
      · show 0 + 1 ≤ 1; omega
      · exact h
      · show 0 + 60 ≤ 60; omega
      · show 0 + 128 ≤ 128; omega
  unfold logitOf Loss.logit
  by_cases h : k0_chk2 (present (ofBlock x1) k) (clsOf (ofBlock x1) k)
  · rw [dif_pos h, dif_pos (hc.mp h)]
    refine chan_apply x0 _ _ ?_ rfl rfl _
    show (5#32 + clsOf (ofBlock x1) k).toNat = (5#32 + Ideal.fptosi 32 (boxOf x1 k 0)).toNat
    exact congrArg (fun q => (5#32 + q).toNat) e
  · rw [dif_neg h, dif_neg (fun q => h (hc.mpr q))]
    exact Ideal.ofBits_zero_f32

/-- Whether anchor 1 is better than the best before it, as the body computes it. -/
theorem b1_eq (w : Fin 5 → EReal) (A : Fin 10 → EReal) : (Scalar.cmpf (F := Ideal) (φ := .f32) .ogt (k0_pay14 (F := Ideal) (k0_pay4 (w 3)) (k0_pay5 (w 4)) (k0_pay8 (w 3) (w 4)) (k0_pay9 (w 3) (A 0)) (A 1) (A 0) (A 1) (A 2) (A 3)) (k0_pay15 (F := Ideal) (k0_pay4 (w 3)) (k0_pay5 (w 4)) (k0_pay8 (w 3) (w 4)) (k0_pay9 (w 3) (A 0)) (A 1) (A 2) (A 3) (A 2) (A 3))) = (Loss.ab1 A (Loss.gw w) (Loss.gh w)) := rfl
/-- Whether anchor 2 is better than the best before it, as the body computes it. -/
theorem b2_eq (w : Fin 5 → EReal) (A : Fin 10 → EReal) : (Scalar.cmpf (F := Ideal) (φ := .f32) .ogt (k0_pay20 (F := Ideal) (k0_pay4 (w 3)) (k0_pay5 (w 4)) (k0_pay8 (w 3) (w 4)) (k0_pay9 (w 3) (A 0)) (A 1) (A 0) (A 1) (A 2) (A 3) (A 2) (A 3) (A 4) (A 5)) (k0_pay21 (F := Ideal) (k0_pay4 (w 3)) (k0_pay5 (w 4)) (k0_pay8 (w 3) (w 4)) (k0_pay9 (w 3) (A 0)) (A 1) (A 0) (A 1) (A 2) (A 3) (A 2) (A 3) (A 4) (A 5) (A 4) (A 5))) = (Loss.ab2 A (Loss.gw w) (Loss.gh w)) := rfl
/-- Whether anchor 3 is better than the best before it, as the body computes it. -/
theorem b3_eq (w : Fin 5 → EReal) (A : Fin 10 → EReal) : (Scalar.cmpf (F := Ideal) (φ := .f32) .ogt (k0_pay26 (F := Ideal) (k0_pay4 (w 3)) (k0_pay5 (w 4)) (k0_pay17 (F := Ideal) (k0_pay4 (w 3)) (k0_pay5 (w 4)) (k0_pay8 (w 3) (w 4)) (k0_pay9 (w 3) (A 0)) (A 1) (A 0) (A 1) (A 2) (A 3) (A 2) (A 3)) (k0_pay19 (F := Ideal) (k0_pay4 (w 3)) (k0_pay5 (w 4)) (k0_pay8 (w 3) (w 4)) (A 4) (A 5) (A 4) (A 5)) (Loss.ab2 A (Loss.gw w) (Loss.gh w)) (A 6) (A 7)) (k0_pay27 (F := Ideal) (k0_pay4 (w 3)) (k0_pay5 (w 4)) (k0_pay8 (w 3) (w 4)) (k0_pay16 (F := Ideal) (k0_pay4 (w 3)) (k0_pay5 (w 4)) (k0_pay8 (w 3) (w 4)) (k0_pay9 (w 3) (A 0)) (A 1) (A 0) (A 1) (A 2) (A 3) (A 2) (A 3)) (k0_pay18 (F := Ideal) (k0_pay4 (w 3)) (k0_pay5 (w 4)) (A 4) (A 5)) (Loss.ab2 A (Loss.gw w) (Loss.gh w)) (A 6) (A 7) (A 6) (A 7))) = (Loss.ab3 A (Loss.gw w) (Loss.gh w)) := rfl
/-- Whether anchor 4 is better than the best before it, as the body computes it. -/
theorem b4_eq (w : Fin 5 → EReal) (A : Fin 10 → EReal) : (Scalar.cmpf (F := Ideal) (φ := .f32) .ogt (k0_pay29 (F := Ideal) (k0_pay4 (w 3)) (k0_pay5 (w 4)) (k0_pay8 (w 3) (w 4)) (k0_pay16 (F := Ideal) (k0_pay4 (w 3)) (k0_pay5 (w 4)) (k0_pay8 (w 3) (w 4)) (k0_pay9 (w 3) (A 0)) (A 1) (A 0) (A 1) (A 2) (A 3) (A 2) (A 3)) (k0_pay17 (F := Ideal) (k0_pay4 (w 3)) (k0_pay5 (w 4)) (k0_pay8 (w 3) (w 4)) (k0_pay9 (w 3) (A 0)) (A 1) (A 0) (A 1) (A 2) (A 3) (A 2) (A 3)) (k0_pay18 (F := Ideal) (k0_pay4 (w 3)) (k0_pay5 (w 4)) (A 4) (A 5)) (k0_pay19 (F := Ideal) (k0_pay4 (w 3)) (k0_pay5 (w 4)) (k0_pay8 (w 3) (w 4)) (A 4) (A 5) (A 4) (A 5)) (Loss.ab2 A (Loss.gw w) (Loss.gh w)) (A 6) (A 7) (A 6) (A 7) (A 8) (A 9)) (k0_pay30 (F := Ideal) (k0_pay4 (w 3)) (k0_pay5 (w 4)) (k0_pay8 (w 3) (w 4)) (k0_pay16 (F := Ideal) (k0_pay4 (w 3)) (k0_pay5 (w 4)) (k0_pay8 (w 3) (w 4)) (k0_pay9 (w 3) (A 0)) (A 1) (A 0) (A 1) (A 2) (A 3) (A 2) (A 3)) (k0_pay17 (F := Ideal) (k0_pay4 (w 3)) (k0_pay5 (w 4)) (k0_pay8 (w 3) (w 4)) (k0_pay9 (w 3) (A 0)) (A 1) (A 0) (A 1) (A 2) (A 3) (A 2) (A 3)) (k0_pay18 (F := Ideal) (k0_pay4 (w 3)) (k0_pay5 (w 4)) (A 4) (A 5)) (k0_pay19 (F := Ideal) (k0_pay4 (w 3)) (k0_pay5 (w 4)) (k0_pay8 (w 3) (w 4)) (A 4) (A 5) (A 4) (A 5)) (Loss.ab2 A (Loss.gw w) (Loss.gh w)) (A 6) (A 7) (A 6) (A 7) (A 8) (A 9) (A 8) (A 9))) = (Loss.ab4 A (Loss.gw w) (Loss.gh w)) := rfl
theorem a0_at : wd3 (ofBlock x2) ![0, 0] inb_S1x10_S1x1_0_0 = ancsOf x2 0 := wd3_at x2 _ _ 0 rfl
theorem a1_at : wd3 (ofBlock x2) ![0, 1] inb_S1x10_S1x1_0_1 = ancsOf x2 1 := wd3_at x2 _ _ 1 rfl
theorem a2_at : wd3 (ofBlock x2) ![0, 2] inb_S1x10_S1x1_0_2 = ancsOf x2 2 := wd3_at x2 _ _ 2 rfl
theorem a3_at : wd3 (ofBlock x2) ![0, 3] inb_S1x10_S1x1_0_3 = ancsOf x2 3 := wd3_at x2 _ _ 3 rfl
theorem a4_at : wd3 (ofBlock x2) ![0, 4] inb_S1x10_S1x1_0_4 = ancsOf x2 4 := wd3_at x2 _ _ 4 rfl
theorem a5_at : wd3 (ofBlock x2) ![0, 5] inb_S1x10_S1x1_0_5 = ancsOf x2 5 := wd3_at x2 _ _ 5 rfl
theorem a6_at : wd3 (ofBlock x2) ![0, 6] inb_S1x10_S1x1_0_6 = ancsOf x2 6 := wd3_at x2 _ _ 6 rfl
theorem a7_at : wd3 (ofBlock x2) ![0, 7] inb_S1x10_S1x1_0_7 = ancsOf x2 7 := wd3_at x2 _ _ 7 rfl
theorem a8_at : wd3 (ofBlock x2) ![0, 8] inb_S1x10_S1x1_0_8 = ancsOf x2 8 := wd3_at x2 _ _ 8 rfl
theorem a9_at : wd3 (ofBlock x2) ![0, 9] inb_S1x10_S1x1_0_9 = ancsOf x2 9 := wd3_at x2 _ _ 9 rfl

/-- The accumulators a taken trip leaves, in the blocks. -/
abbrev tk (k : Fin k0_t1_loop.trips) (h1 : k0_cond1 (present (ofBlock x1) k) = 1#1) (s : Acc Ideal) : Acc Ideal :=
  taken (ofBlock x1) (ofBlock x2) (k0_pay48 (chan x0 inb_S1x25x60x128_S1x1x60x128_0_0_0_0)) (k0_pay49 (chan x0 inb_S1x25x60x128_S1x1x60x128_0_1_0_0)) (k0_pay50 (chan x0 inb_S1x25x60x128_S1x1x60x128_0_2_0_0)) (k0_pay51 (chan x0 inb_S1x25x60x128_S1x1x60x128_0_3_0_0)) (k0_pay52 (chan x0 inb_S1x25x60x128_S1x1x60x128_0_4_0_0)) (k0_pay53 (chan x0 inb_S1x25x60x128_S1x1x60x128_0_0_0_0) x4) (k0_pay54 (chan x0 inb_S1x25x60x128_S1x1x60x128_0_1_0_0) x5) (k0_pay55 (chan x0 inb_S1x25x60x128_S1x1x60x128_0_2_0_0) x6) (k0_pay56 (chan x0 inb_S1x25x60x128_S1x1x60x128_0_3_0_0) x7) (k0_pay57 (chan x0 inb_S1x25x60x128_S1x1x60x128_0_2_0_0) (chan x0 inb_S1x25x60x128_S1x1x60x128_0_3_0_0) x6 x7) (lse x0) x3 k h1 (logitOf (ofBlock x0) (ofBlock x1) k h1) s
/-- The accumulators after the first `n` trips, in the blocks. -/
abbrev rn (s : Acc Ideal) (n : ℕ) : Acc Ideal := run (ofBlock x0) (ofBlock x1) (ofBlock x2) (k0_pay48 (chan x0 inb_S1x25x60x128_S1x1x60x128_0_0_0_0)) (k0_pay49 (chan x0 inb_S1x25x60x128_S1x1x60x128_0_1_0_0)) (k0_pay50 (chan x0 inb_S1x25x60x128_S1x1x60x128_0_2_0_0)) (k0_pay51 (chan x0 inb_S1x25x60x128_S1x1x60x128_0_3_0_0)) (k0_pay52 (chan x0 inb_S1x25x60x128_S1x1x60x128_0_4_0_0)) (k0_pay53 (chan x0 inb_S1x25x60x128_S1x1x60x128_0_0_0_0) x4) (k0_pay54 (chan x0 inb_S1x25x60x128_S1x1x60x128_0_1_0_0) x5) (k0_pay55 (chan x0 inb_S1x25x60x128_S1x1x60x128_0_2_0_0) x6) (k0_pay56 (chan x0 inb_S1x25x60x128_S1x1x60x128_0_3_0_0) x7) (k0_pay57 (chan x0 inb_S1x25x60x128_S1x1x60x128_0_2_0_0) (chan x0 inb_S1x25x60x128_S1x1x60x128_0_3_0_0) x6 x7) (lse x0) x3 s n

/-- A taken trip marks the cell when the box's cell it is. -/
theorem mask_apply (k : Fin k0_t1_loop.trips) (h1 : k0_cond1 (present (ofBlock x1) k) = 1#1) (s : Acc Ideal) (r : Fin 60) (l : Fin 128) :
    (tk x0 x1 x2 x3 x4 x5 x6 x7 k h1 s).mask (ix2 r l)
      = Scalar.select ((ptOf x0 x3 x4 x5 x6 x7 (ix2 r l)).hit (ancsOf x2) (boxOf x1 k)) 1 (s.mask (ix2 r l)) := by
  unfold tk taken
  simp only [w1_at, w2_at, w3_at, w4_at, a0_at, a1_at, a2_at, a3_at, a4_at, a5_at, a6_at, a7_at, a8_at, a9_at, b1_eq, b2_eq, b3_eq, b4_eq]
  pointwise [k0_pay2, k0_pay3, k0_pay4, k0_pay5, k0_pay6, k0_pay7, k0_pay8, k0_pay9, k0_pay10, k0_pay11, k0_pay12, k0_pay13, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
  rfl

/-- A taken trip raises the cell's greatest overlap to the box's. -/
theorem best_apply (k : Fin k0_t1_loop.trips) (h1 : k0_cond1 (present (ofBlock x1) k) = 1#1) (s : Acc Ideal) (r : Fin 60) (l : Fin 128) :
    (tk x0 x1 x2 x3 x4 x5 x6 x7 k h1 s).best (ix2 r l)
      = max (s.best (ix2 r l)) ((ptOf x0 x3 x4 x5 x6 x7 (ix2 r l)).iou (boxOf x1 k)) := by
  unfold tk taken
  simp only [w1_at, w2_at, w3_at, w4_at, a0_at, a1_at, a2_at, a3_at, a4_at, a5_at, a6_at, a7_at, a8_at, a9_at]
  pointwise [k0_pay2, k0_pay3, k0_pay4, k0_pay5, k0_pay6, k0_pay7, k0_pay8, k0_pay9, k0_pay10, k0_pay11, k0_pay12, k0_pay13, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
  simp only [chan_at x0 0 (by decide) inb_S1x25x60x128_S1x1x60x128_0_0_0_0, chan_at x0 1 (by decide) inb_S1x25x60x128_S1x1x60x128_0_1_0_0, chan_at x0 2 (by decide) inb_S1x25x60x128_S1x1x60x128_0_2_0_0, chan_at x0 3 (by decide) inb_S1x25x60x128_S1x1x60x128_0_3_0_0, chan_at x0 4 (by decide) inb_S1x25x60x128_S1x1x60x128_0_4_0_0]
  rfl

set_option maxHeartbeats 1600000 in
/-- A taken trip adds the box's correction where its cell it is. -/
theorem corr_apply (k : Fin k0_t1_loop.trips) (h1 : k0_cond1 (present (ofBlock x1) k) = 1#1) (s : Acc Ideal) (r : Fin 60) (l : Fin 128) :
    (tk x0 x1 x2 x3 x4 x5 x6 x7 k h1 s).corr (ix2 r l)
      = s.corr (ix2 r l) + Scalar.select ((ptOf x0 x3 x4 x5 x6 x7 (ix2 r l)).hit (ancsOf x2) (boxOf x1 k))
          ((ptOf x0 x3 x4 x5 x6 x7 (ix2 r l)).delta (ancsOf x2) (boxOf x1 k)) 0 := by
  unfold tk taken
  simp only [w1_at, w2_at, w3_at, w4_at, a0_at, a1_at, a2_at, a3_at, a4_at, a5_at, a6_at, a7_at, a8_at, a9_at, anc0, anc1, b1_eq, b2_eq, b3_eq, b4_eq]
  have hl := lse_apply x0 (ix2 r l)
  have hg := logitOf_apply x0 x1 k h1 r l
  generalize logitOf (ofBlock x0) (ofBlock x1) k h1 = lg at hg ⊢
  generalize lse x0 = ls at hl ⊢
  pointwise [k0_pay2, k0_pay3, k0_pay4, k0_pay5, k0_pay6, k0_pay7, k0_pay8, k0_pay9, k0_pay10, k0_pay11, k0_pay12, k0_pay13, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
  simp only [chan_at x0 0 (by decide) inb_S1x25x60x128_S1x1x60x128_0_0_0_0, chan_at x0 1 (by decide) inb_S1x25x60x128_S1x1x60x128_0_1_0_0, chan_at x0 2 (by decide) inb_S1x25x60x128_S1x1x60x128_0_2_0_0, chan_at x0 3 (by decide) inb_S1x25x60x128_S1x1x60x128_0_3_0_0, chan_at x0 4 (by decide) inb_S1x25x60x128_S1x1x60x128_0_4_0_0]
  rw [hg, hl]
  rfl

/-- The accumulators after `n` trips, at a cell, are the cell's running values after `n` boxes. -/
theorem run_apply (r : Fin 60) (l : Fin 128) (n : ℕ) :
    (rn x0 x1 x2 x3 x4 x5 x6 x7 acc0 n).corr (ix2 r l) = ((ptOf x0 x3 x4 x5 x6 x7 (ix2 r l)).run (ancsOf x2) (boxOf x1) n).corr
    ∧ (rn x0 x1 x2 x3 x4 x5 x6 x7 acc0 n).best (ix2 r l) = ((ptOf x0 x3 x4 x5 x6 x7 (ix2 r l)).run (ancsOf x2) (boxOf x1) n).best
    ∧ (rn x0 x1 x2 x3 x4 x5 x6 x7 acc0 n).mask (ix2 r l) = ((ptOf x0 x3 x4 x5 x6 x7 (ix2 r l)).run (ancsOf x2) (boxOf x1) n).mask := by
  induction n with
  | zero =>
    refine ⟨?_, ?_, ?_⟩
    · show k0_pay67 (F := Ideal) (ix2 r l) = 0
      pointwise [k0_pay67, k0_pay66]
    · show k0_pay68 (F := Ideal) (ix2 r l) = 0
      pointwise [k0_pay68, k0_pay66]
    · show k0_pay69 (F := Ideal) (ix2 r l) = 0
      pointwise [k0_pay69, k0_pay66]
  | succ n ih =>
    obtain ⟨h1, h2, h3⟩ := ih
    unfold rn at h1 h2 h3 ⊢
    unfold run Pt.run
    by_cases hn : n < 50
    · have hn' : n < k0_t1_loop.trips := hn
      rw [dif_pos hn', dif_pos hn]
      have hb : present (ofBlock x1) ⟨n, hn'⟩ = Ideal.cmp .one (boxOf x1 ⟨n, hn⟩ 1) 0 := by
        unfold present
        rw [w1_at]
        show Ideal.cmp .one _ (Ideal.ofBits .f32 0x00000000#32) = _
        rw [Ideal.ofBits_zero_f32]
        rfl
      unfold trip Pt.step
      by_cases hp : Ideal.cmp .one (boxOf x1 ⟨n, hn⟩ 1) 0 = 1#1
      · have hc : k0_cond1 (present (ofBlock x1) ⟨n, hn'⟩) = 1#1 := by rw [cond_bit, hb]; exact hp
        rw [dif_pos hc, if_pos hp]
        refine ⟨?_, ?_, ?_⟩
        · refine (corr_apply x0 x1 x2 x3 x4 x5 x6 x7 ⟨n, hn'⟩ hc _ r l).trans ?_
          rw [h1]
          rfl
        · refine (best_apply x0 x1 x2 x3 x4 x5 x6 x7 ⟨n, hn'⟩ hc _ r l).trans ?_
          rw [h2]
          rfl
        · refine (mask_apply x0 x1 x2 x3 x4 x5 x6 x7 ⟨n, hn'⟩ hc _ r l).trans ?_
          rw [h3]
          rfl
      · have hc : ¬ k0_cond1 (present (ofBlock x1) ⟨n, hn'⟩) = 1#1 := by rw [cond_bit, hb]; exact hp
        rw [dif_neg hc, if_neg hp]
        exact ⟨h1, h2, h3⟩
    · have hn' : ¬ n < k0_t1_loop.trips := hn
      rw [dif_neg hn', dif_neg hn]
      exact ⟨h1, h2, h3⟩

/-- The word the body stores is the sum of the cells' shares. -/
theorem outWord_eq : outWord x0 x1 x2 x3 x4 x5 x6 x7
    = ∑ r : Fin 60, ∑ l : Fin 128, (ptOf x0 x3 x4 x5 x6 x7 (ix2 r l)).total (ancsOf x2) (boxOf x1) := by
  unfold outWord accEnd
  simp only [grid_eq]
  have h := fun r l => run_apply x0 x1 x2 x3 x4 x5 x6 x7 r l 50
  unfold rn at h
  have e50 : k0_t1_loop.trips = 50 := rfl
  rw [e50]
  generalize run (F := Ideal) (ofBlock x0) (ofBlock x1) (ofBlock x2) _ _ _ _ _ _ _ _ _ _ _ _ acc0 50 = e at h ⊢
  pointwise [k0_pay1, k0_pay70, k0_pay48, k0_pay49, k0_pay50, k0_pay51, k0_pay52]
  simp only [chan_at x0 0 (by decide) inb_S1x25x60x128_S1x1x60x128_0_0_0_0, chan_at x0 1 (by decide) inb_S1x25x60x128_S1x1x60x128_0_1_0_0, chan_at x0 2 (by decide) inb_S1x25x60x128_S1x1x60x128_0_2_0_0, chan_at x0 3 (by decide) inb_S1x25x60x128_S1x1x60x128_0_3_0_0, chan_at x0 4 (by decide) inb_S1x25x60x128_S1x1x60x128_0_4_0_0]
  unfold Pt.total
  refine Finset.sum_congr rfl fun r _ => Finset.sum_congr rfl fun l _ => ?_
  rw [(h r l).1, (h r l).2.1, (h r l).2.2]
  rfl

end Cert.KernelIdeal.Region

end
-- ==== Proof.LitA.lean ====
/- The constant that numbers the cells. -/
module

public import proofs.«01_k».proof.KernelIdeal

@[expose] public section

set_option maxRecDepth 100000

noncomputable section

namespace Cert.KernelIdeal

open Idealize.ShloMosaic

/-- Cells past the last have number -1. -/
theorem lit2_eq : ∀ n : Fin 7680, lit2 n = if n.val < 7220 then BitVec.ofNat 32 n.val else 4294967295#32 := by decide +kernel

end Cert.KernelIdeal

end
-- ==== Proof.LitB.lean ====
/- The constants that keep the cells of the grid and name their anchor. -/
module

public import proofs.«01_k».proof.KernelIdeal

@[expose] public section

set_option maxRecDepth 100000

noncomputable section

namespace Cert.KernelIdeal

open Idealize.ShloMosaic

/-- One on the grid, zero past it. -/
theorem lit0_eq : ∀ n : Fin 7680, lit0 n = if n.val < 7220 then 0x3F800000#32 else 0#32 := by decide +kernel

/-- The anchor of a cell. -/
theorem lit1_eq : ∀ n : Fin 7680, lit1 n = BitVec.ofNat 32 (min (n.val / 1444) 4) := by decide +kernel

end Cert.KernelIdeal

end
-- ==== Proof.LitC.lean ====
/- The constant that gives the cells' columns. -/
module

public import proofs.«01_k».proof.KernelIdeal

@[expose] public section

set_option maxRecDepth 100000

noncomputable section

namespace Cert.KernelIdeal

open Idealize.ShloMosaic

/-- The word of a small natural number as a float. -/
def wordOf (i : ℕ) : BitVec 32 :=
  if i = 0 then 0#32 else BitVec.ofNat 32 ((127 + Nat.log2 i) * 2 ^ 23 + (i - 2 ^ Nat.log2 i) * 2 ^ (23 - Nat.log2 i))

/-- The column of a cell; zero past the last. -/
theorem lit3_eq : ∀ n : Fin 7680, lit3 n = if n.val < 7220 then wordOf (n.val % 38) else 0#32 := by decide +kernel

end Cert.KernelIdeal

end
-- ==== Proof.LitD.lean ====
/- The constant that gives the cells' rows. -/
module

public import proofs.«01_k».proof.KernelIdeal

@[expose] public section

set_option maxRecDepth 100000

noncomputable section

namespace Cert.KernelIdeal

open Idealize.ShloMosaic

/-- The word of a small natural number as a float. -/
def rowWord (i : ℕ) : BitVec 32 :=
  if i = 0 then 0#32 else BitVec.ofNat 32 ((127 + Nat.log2 i) * 2 ^ 23 + (i - 2 ^ Nat.log2 i) * 2 ^ (23 - Nat.log2 i))

/-- The row of a cell; zero past the last. -/
theorem lit4_eq : ∀ n : Fin 7680, lit4 n = if n.val < 7220 then rowWord (n.val % 1444 / 38) else 0#32 := by decide +kernel

end Cert.KernelIdeal

end
-- ==== Proof.KernelIdealBlocks.lean ====
/- What the blocks of the channels, the anchors, the cells' numbers, columns and rows and the anchors' sides hold at a point of the grid. -/
module

public import proofs.«01_k».proof.Proof.KernelIdealRead
public import proofs.«01_k».proof.Proof.LitA
public import proofs.«01_k».proof.Proof.LitB
public import proofs.«01_k».proof.Proof.LitC
public import proofs.«01_k».proof.Proof.LitD
public import Idealize.ShloMosaic.Lib.Routing.OpsSet

@[expose] public section

set_option maxRecDepth 16384

noncomputable section

namespace Cert.KernelIdeal.Region

open Idealize.ShloMosaic Idealize.ShloMosaic.TcCoe Idealize.ShloMosaic.Tactic
open Idealize
open Cert.KernelIdeal Cert.KernelIdeal.Gen

variable (m : (ℓ : Loc nD τ sig) → Buf (Elt Ideal) ℓ)

/-- The three arguments of a device. -/
def argO (c : Dev nD) : FVec Ideal S64x125x38x38 .f32 := m ((c : Thread nD τ).loc main_arg0)
def argT (c : Dev nD) : FVec Ideal S64x250 .f32 := m ((c : Thread nD τ).loc main_arg1)
def argA (c : Dev nD) : FVec Ideal S10 .f32 := m ((c : Thread nD τ).loc main_arg2)

/-- The anchors' array, when the region starts. -/
theorem entry26 (c : Dev nD) : (V m c main_call0_v26 : Vec Ideal S1x10 .f32) = shapeCast S1x10 (argA m c) shapeCasts_S10_S1x10 := by
  show StableHlo.after (List.flatten [hostOps0]) (fun b => m (c, b)) (Proc.devRef .tc main_call0_v26) = _
  simp only [hostOps0, List.flatten_cons, List.flatten_nil, List.append_nil, List.cons_append, List.nil_append]
  after_results_simp
  rfl

/-- The cells' numbers. -/
theorem entryc2 (c : Dev nD) : (V m c main_call0_c_2 : IVec S60x128 32) = fun i => lit2 (S60x128.rowMajor i) := by
  show StableHlo.after (List.flatten [hostOps0]) (fun b => m (c, b)) (Proc.devRef .tc main_call0_c_2) = _
  simp only [hostOps0, List.flatten_cons, List.flatten_nil, List.append_nil, List.cons_append, List.nil_append]
  after_results_simp
  rfl
/-- The cells' columns. -/
theorem entryc3 (c : Dev nD) : (V m c main_call0_cst_3 : FVec Ideal S60x128 .f32) = fun i => Ideal.ofBits .f32 (lit3 (S60x128.rowMajor i)) := by
  show StableHlo.after (List.flatten [hostOps0]) (fun b => m (c, b)) (Proc.devRef .tc main_call0_cst_3) = _
  simp only [hostOps0, List.flatten_cons, List.flatten_nil, List.append_nil, List.cons_append, List.nil_append]
  after_results_simp
  rfl
/-- The cells' rows. -/
theorem entryc4 (c : Dev nD) : (V m c main_call0_cst_4 : FVec Ideal S60x128 .f32) = fun i => Ideal.ofBits .f32 (lit4 (S60x128.rowMajor i)) := by
  show StableHlo.after (List.flatten [hostOps0]) (fun b => m (c, b)) (Proc.devRef .tc main_call0_cst_4) = _
  simp only [hostOps0, List.flatten_cons, List.flatten_nil, List.append_nil, List.cons_append, List.nil_append]
  after_results_simp
  rfl

/-- At point `t` the channels' block is image `t`. -/
theorem idx0 (t : Fin grid0.N) : win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0) t
/-- The block is the whole array, at every point. -/
theorem idx2 (t : Fin grid0.N) : win0_2.index t 0 = 0 ∧ win0_2.index t 1 = 0 :=
  (by decide +kernel : ∀ t : Fin grid0.N, win0_2.index t 0 = 0 ∧ win0_2.index t 1 = 0) t
/-- The block is the whole array, at every point. -/
theorem idx3 (t : Fin grid0.N) : win0_3.index t 0 = 0 ∧ win0_3.index t 1 = 0 :=
  (by decide +kernel : ∀ t : Fin grid0.N, win0_3.index t 0 = 0 ∧ win0_3.index t 1 = 0) t
/-- The block is the whole array, at every point. -/
theorem idx4 (t : Fin grid0.N) : win0_4.index t 0 = 0 ∧ win0_4.index t 1 = 0 :=
  (by decide +kernel : ∀ t : Fin grid0.N, win0_4.index t 0 = 0 ∧ win0_4.index t 1 = 0) t
/-- The block is the whole array, at every point. -/
theorem idx5 (t : Fin grid0.N) : win0_5.index t 0 = 0 ∧ win0_5.index t 1 = 0 :=
  (by decide +kernel : ∀ t : Fin grid0.N, win0_5.index t 0 = 0 ∧ win0_5.index t 1 = 0) t
/-- The block is the whole array, at every point. -/
theorem idx6 (t : Fin grid0.N) : win0_6.index t 0 = 0 ∧ win0_6.index t 1 = 0 :=
  (by decide +kernel : ∀ t : Fin grid0.N, win0_6.index t 0 = 0 ∧ win0_6.index t 1 = 0) t
/-- The block is the whole array, at every point. -/
theorem idx7 (t : Fin grid0.N) : win0_7.index t 0 = 0 ∧ win0_7.index t 1 = 0 :=
  (by decide +kernel : ∀ t : Fin grid0.N, win0_7.index t 0 = 0 ∧ win0_7.index t 1 = 0) t

/-- A word of the anchors' block. -/
theorem blk2 (c : Dev nD) (t : Fin cfg0.N) (n : Fin 10) :
    (iblk m c 2 t : Vec Ideal S1x10 .f32) (ix2 0 n) = (argA m c) (ix1 n) := by
  have e : (iblk m c 2 t : Vec Ideal S1x10 .f32) (ix2 0 n) = (V m c main_call0_v26 : Vec Ideal S1x10 .f32) (ix2 0 n) := by
    blk_ext [iblk, idx2 t]
  rw [e, entry26]
  pointwise

/-- A word of the block of the cells' numbers. -/
theorem blk3 (c : Dev nD) (t : Fin cfg0.N) (r : Fin 60) (l : Fin 128) :
    (iblk m c 3 t : IVec S60x128 32) (ix2 r l) = lit2 ⟨r.val * 128 + l.val, by omega⟩ := by
  have e : (iblk m c 3 t : IVec S60x128 32) (ix2 r l) = (V m c main_call0_c_2 : IVec S60x128 32) (ix2 r l) := by
    blk_ext [iblk, idx3 t]
  rw [e, entryc2]
  exact congrArg lit2 (Fin.ext (Shape.rowMajor_val_two _))

/-- A word of the block of columns. -/
theorem blk4 (c : Dev nD) (t : Fin cfg0.N) (r : Fin 60) (l : Fin 128) :
    (iblk m c 4 t : FVec Ideal S60x128 .f32) (ix2 r l) = Ideal.ofBits .f32 (lit3 ⟨r.val * 128 + l.val, by omega⟩) := by
  have e : (iblk m c 4 t : FVec Ideal S60x128 .f32) (ix2 r l) = (V m c main_call0_cst_3 : FVec Ideal S60x128 .f32) (ix2 r l) := by
    blk_ext [iblk, idx4 t]
  rw [e, entryc3]
  exact congrArg (fun q => Ideal.ofBits .f32 (lit3 q)) (Fin.ext (Shape.rowMajor_val_two _))

/-- A word of the block of rows. -/
theorem blk5 (c : Dev nD) (t : Fin cfg0.N) (r : Fin 60) (l : Fin 128) :
    (iblk m c 5 t : FVec Ideal S60x128 .f32) (ix2 r l) = Ideal.ofBits .f32 (lit4 ⟨r.val * 128 + l.val, by omega⟩) := by
  have e : (iblk m c 5 t : FVec Ideal S60x128 .f32) (ix2 r l) = (V m c main_call0_cst_4 : FVec Ideal S60x128 .f32) (ix2 r l) := by
    blk_ext [iblk, idx5 t]
  rw [e, entryc4]
  exact congrArg (fun q => Ideal.ofBits .f32 (lit4 q)) (Fin.ext (Shape.rowMajor_val_two _))

/-- The channels' array, when the region starts: the cells of an image in one row, padded with zeros. -/
theorem entry24 (c : Dev nD) : ∃ z : FVec Ideal S_ .f32, (z (fun a => a.elim0) = 0) ∧ (V m c main_call0_v24 : FVec Ideal S64x25x60x128 .f32)
    = shapeCast S64x25x60x128 (pad S64x25x7680 ![0, 0, 0] ![0, 0, 460] ![0, 0, 0] (shapeCast S64x25x7220 (transpose S64x25x5x1444 [0, 2, 1, 3] (shapeCast S64x5x25x1444 (argO m c) shapeCasts_S64x125x38x38_S64x5x25x1444) transposes_S64x5x25x1444_S64x25x5x1444_0_2_1_3) shapeCasts_S64x25x5x1444_S64x25x7220) z pads_S64x25x7220_S64x25x7680_000_000_04600 h_S_) shapeCasts_S64x25x7680_S64x25x60x128 := by
  refine ⟨sitofp .f32 (constantI S_ 32 0#32), ?_, ?_⟩
  · show ((((0#32 : BitVec 32).toInt : ℝ)) : EReal) = 0
    simp
  show StableHlo.after (List.flatten [hostOps0]) (fun b => m (c, b)) (Proc.devRef .tc main_call0_v24) = _
  simp only [hostOps0, List.flatten_cons, List.flatten_nil, List.append_nil, List.cons_append, List.nil_append]
  after_results_simp
  rfl

/-- A word of the channels' block: zero past the last cell. -/
theorem blk0 (c : Dev nD) (t : Fin cfg0.N) (ch : Fin 25) (r : Fin 60) (l : Fin 128) :
    (iblk m c 0 t : FVec Ideal S1x25x60x128 .f32) (ix4 0 ch r l) =
      if h : r.val * 128 + l.val < 7220 then argO m c
        (ix4 ⟨t.val, t.isLt⟩ ⟨(r.val * 128 + l.val) / 1444 * 25 + ch.val, by omega⟩ ⟨(r.val * 128 + l.val) % 1444 / 38, by omega⟩ ⟨(r.val * 128 + l.val) % 38, by omega⟩) else 0 := by
  have e : (iblk m c 0 t : FVec Ideal S1x25x60x128 .f32) (ix4 0 ch r l) = (V m c main_call0_v24 : FVec Ideal S64x25x60x128 .f32) (ix4 ⟨t.val, t.isLt⟩ ch r l) := by
    blk_ext [iblk, idx0 t]
  obtain ⟨z, hz, e24⟩ := entry24 m c
  rw [e, e24]
  generalize argO m c = o
  clear e e24
  pointwise
  have hz' : z (Shape.Idx.first h_S_) = 0 := (congrArg z (funext fun a => a.elim0)).trans hz
  rw [hz']
  by_cases h : r.val * 128 + l.val < 7220
  · rw [dif_pos h, dif_pos h]
    refine congrArg o ?_
    refine congrArg (ix4 _ _ _) (Fin.ext ?_)
    show (r.val * 128 + l.val) % 1444 % 38 = (r.val * 128 + l.val) % 38
    omega
  · rw [dif_neg h, dif_neg h]

/-- The array of the anchors' widths. -/
theorem entry12 (c : Dev nD) : (V m c main_call0_v12 : FVec Ideal S60x128 .f32) = shapeCast S60x128 (mulf (Host.gather gather_S5_S7680x1_S7680_n_0_n_n_0_1_1 (shapeCast S5 (extractStridedSlice S5x1 ![0, 0] (shapeCast S5x2 (argA m c) shapeCasts_S10_S5x2) slices_S5x2_S5x1_0_0) shapeCasts_S5x1_S5)
    (broadcastInDim S7680x1 ![0] bcast_S7680_S7680x1_0 (select (constantI S7680 1 0#1) (addi (fun i => lit1 (S7680.rowMajor i)) (broadcastInDim S7680 ![] bcast_S_S7680 (constantI S_ 32 5#32))) (fun i => lit1 (S7680.rowMajor i)))))
    (fun i => Ideal.ofBits .f32 (lit0 (S7680.rowMajor i)))) shapeCasts_S7680_S60x128 := by
  show StableHlo.after (List.flatten [hostOps0]) (fun b => m (c, b)) (Proc.devRef .tc main_call0_v12) = _
  simp only [hostOps0, List.flatten_cons, List.flatten_nil, List.append_nil, List.cons_append, List.nil_append]
  after_results_simp
  rfl
/-- The array of the anchors' heights. -/
theorem entry19 (c : Dev nD) : (V m c main_call0_v19 : FVec Ideal S60x128 .f32) = shapeCast S60x128 (mulf (Host.gather gather_S5_S7680x1_S7680_n_0_n_n_0_1_1 (shapeCast S5 (extractStridedSlice S5x1 ![0, 1] (shapeCast S5x2 (argA m c) shapeCasts_S10_S5x2) slices_S5x2_S5x1_0_1) shapeCasts_S5x1_S5)
    (broadcastInDim S7680x1 ![0] bcast_S7680_S7680x1_0 (select (constantI S7680 1 0#1) (addi (fun i => lit1 (S7680.rowMajor i)) (broadcastInDim S7680 ![] bcast_S_S7680 (constantI S_ 32 5#32))) (fun i => lit1 (S7680.rowMajor i)))))
    (fun i => Ideal.ofBits .f32 (lit0 (S7680.rowMajor i)))) shapeCasts_S7680_S60x128 := by
  show StableHlo.after (List.flatten [hostOps0]) (fun b => m (c, b)) (Proc.devRef .tc main_call0_v19) = _
  simp only [hostOps0, List.flatten_cons, List.flatten_nil, List.append_nil, List.cons_append, List.nil_append]
  after_results_simp
  rfl

/-- The number of an entry of a vector. -/
theorem lit_row (n : Fin 7680) : S7680.rowMajor (ix1 n) = n := Fin.ext (Shape.rowMajor_val_one _)

/-- A word of the block of the anchors' widths. -/
theorem blk6 (c : Dev nD) (t : Fin cfg0.N) (r : Fin 60) (l : Fin 128) :
    (iblk m c 6 t : FVec Ideal S60x128 .f32) (ix2 r l) = argA m c (ix1 ⟨2 * (min ((r.val * 128 + l.val) / 1444) 4), by omega⟩) * Ideal.ofBits .f32 (lit0 ⟨r.val * 128 + l.val, by omega⟩) := by
  have e : (iblk m c 6 t : FVec Ideal S60x128 .f32) (ix2 r l) = (V m c main_call0_v12 : FVec Ideal S60x128 .f32) (ix2 r l) := by
    blk_ext [iblk, idx6 t]
  rw [e, entry12]
  generalize argA m c = a
  clear e
  pointwise
  refine congrArg₂ (fun x y : EReal => x * y) ((Routing.gather_take1 gather_S5_S7680x1_S7680_n_0_n_n_0_1_1 rfl rfl rfl rfl _ _ ⟨r.val * 128 + l.val, by omega⟩ ⟨min ((r.val * 128 + l.val) / 1444) 4, by omega⟩ ?_ (by decide)).trans ?_) (congrArg (fun q => Ideal.ofBits .f32 (lit0 q)) (lit_row _))
  · show lit1 (S7680.rowMajor (ix1 ⟨r.val * 128 + l.val, _⟩)) = _
    exact (congrArg lit1 (lit_row _)).trans (lit1_eq _)
  · show shapeCast S5 (extractStridedSlice S5x1 ![0, 0] (shapeCast S5x2 a shapeCasts_S10_S5x2) slices_S5x2_S5x1_0_0) shapeCasts_S5x1_S5 (ix1 ⟨min ((r.val * 128 + l.val) / 1444) 4, _⟩) = _
    pointwise
    exact congrArg a (congrArg ix1 (Fin.ext (Nat.mul_comm _ _)))

/-- A word of the block of the anchors' heights. -/
theorem blk7 (c : Dev nD) (t : Fin cfg0.N) (r : Fin 60) (l : Fin 128) :
    (iblk m c 7 t : FVec Ideal S60x128 .f32) (ix2 r l) = argA m c (ix1 ⟨2 * (min ((r.val * 128 + l.val) / 1444) 4) + 1, by omega⟩) * Ideal.ofBits .f32 (lit0 ⟨r.val * 128 + l.val, by omega⟩) := by
  have e : (iblk m c 7 t : FVec Ideal S60x128 .f32) (ix2 r l) = (V m c main_call0_v19 : FVec Ideal S60x128 .f32) (ix2 r l) := by
    blk_ext [iblk, idx7 t]
  rw [e, entry19]
  generalize argA m c = a
  clear e
  pointwise
  refine congrArg₂ (fun x y : EReal => x * y) ((Routing.gather_take1 gather_S5_S7680x1_S7680_n_0_n_n_0_1_1 rfl rfl rfl rfl _ _ ⟨r.val * 128 + l.val, by omega⟩ ⟨min ((r.val * 128 + l.val) / 1444) 4, by omega⟩ ?_ (by decide)).trans ?_) (congrArg (fun q => Ideal.ofBits .f32 (lit0 q)) (lit_row _))
  · show lit1 (S7680.rowMajor (ix1 ⟨r.val * 128 + l.val, _⟩)) = _
    exact (congrArg lit1 (lit_row _)).trans (lit1_eq _)
  · show shapeCast S5 (extractStridedSlice S5x1 ![0, 1] (shapeCast S5x2 a shapeCasts_S10_S5x2) slices_S5x2_S5x1_0_1) shapeCasts_S5x1_S5 (ix1 ⟨min ((r.val * 128 + l.val) / 1444) 4, _⟩) = _
    pointwise
    exact congrArg a (congrArg ix1 (Fin.ext (congrArg (· + 1) (Nat.mul_comm _ _))))

end Cert.KernelIdeal.Region
end
-- ==== Proof.KernelIdealFinal.lean ====
/- What the result holds at the end: the sum over the images and their cells of the cells' shares of the loss. -/
module

public import proofs.«01_k».proof.Proof.KernelIdealBlocks

@[expose] public section

set_option maxRecDepth 16384

noncomputable section

namespace Cert.KernelIdeal.Region

open Idealize.ShloMosaic Idealize.ShloMosaic.TcCoe Idealize.ShloMosaic.Tactic
open Idealize
open Cert.KernelIdeal Cert.KernelIdeal.Gen

variable (m : (ℓ : Loc nD τ sig) → Buf (Elt Ideal) ℓ)

/-- The arguments' words, by their coordinates. -/
def fO (c : Dev nD) (b : Fin 64) (ch : Fin 125) (j i : Fin 38) : EReal := argO m c (ix4 b ch j i)
def fT (c : Dev nD) (b : Fin 64) (i : Fin 250) : EReal := argT m c (ix2 b i)
def fA (c : Dev nD) (n : Fin 10) : EReal := argA m c (ix1 n)

/-- The words of columns and rows are those numbers. -/
theorem ofBits_col : ∀ i : Fin 38, Ideal.ofBits .f32 (wordOf i.val) = (((i.val : ℕ) : ℝ) : EReal) := by
  intro i
  fin_cases i <;> (simp [wordOf, Nat.log2, Ideal.ofBits, Ideal.ieee, -EReal.coe_mul]; try norm_num)
/-- The two tables are one. -/
theorem rowWord_eq (i : ℕ) : rowWord i = wordOf i := rfl

/-- A cell of the block is that cell of the image, or a cell past the last. -/
theorem ptOf_eq (c : Dev nD) (t : Fin cfg0.N) (r : Fin 60) (l : Fin 128) :
    ptOf (iblk m c 0 t) (iblk m c 3 t) (iblk m c 4 t) (iblk m c 5 t) (iblk m c 6 t) (iblk m c 7 t) (ix2 r l)
      = if h : r.val * 128 + l.val < 7220 then Loss.at_ (fO m c) (fA m c) ⟨t.val, t.isLt⟩ ⟨r.val * 128 + l.val, h⟩ else Loss.pad := by
  have hL : (ptOf (iblk m c 0 t) (iblk m c 3 t) (iblk m c 4 t) (iblk m c 5 t) (iblk m c 6 t) (iblk m c 7 t) (ix2 r l)).L = fun ch => (iblk m c 0 t : FVec Ideal S1x25x60x128 .f32) (ix4 0 ch r l) := rfl
  have e3 := blk3 m c t r l
  have e4 := blk4 m c t r l
  have e5 := blk5 m c t r l
  have e6 := blk6 m c t r l
  have e7 := blk7 m c t r l
  rw [lit2_eq] at e3
  rw [lit3_eq] at e4
  rw [lit4_eq, rowWord_eq] at e5
  rw [lit0_eq] at e6 e7
  by_cases h : r.val * 128 + l.val < 7220
  · rw [dif_pos h]
    simp only [h, if_true] at e3 e4 e5 e6 e7
    rw [ofBits_col ⟨_, Nat.mod_lt _ (by decide)⟩] at e4
    rw [ofBits_col ⟨(r.val * 128 + l.val) % 1444 / 38, by omega⟩] at e5
    rw [Ideal.ofBits_one_f32, mul_one] at e6 e7
    have hm : min ((r.val * 128 + l.val) / 1444) 4 = (r.val * 128 + l.val) / 1444 := by omega
    unfold ptOf Loss.at_
    refine Loss.Pt.mk.injEq .. |>.mpr ⟨?_, e3, e4, e5, e6.trans ?_, e7.trans ?_⟩
    · funext ch
      exact (blk0 m c t ch r l).trans (dif_pos h)
    · exact congrArg (fun q => argA m c (ix1 q)) (Fin.ext (by show 2 * _ = 2 * _; rw [hm]))
    · exact congrArg (fun q => argA m c (ix1 q)) (Fin.ext (by show 2 * _ + 1 = 2 * _ + 1; rw [hm]))
  · rw [dif_neg h]
    simp only [h, if_false] at e3 e4 e5 e6 e7
    rw [Ideal.ofBits_zero_f32] at e4 e5
    rw [Ideal.ofBits_zero_f32, mul_zero] at e6 e7
    unfold ptOf Loss.pad
    refine Loss.Pt.mk.injEq .. |>.mpr ⟨?_, e3, e4, e5, e6, e7⟩
    funext ch
    exact (blk0 m c t ch r l).trans (dif_neg h)

/-- The anchors' block holds the anchors. -/
theorem ancs_eq (c : Dev nD) (t : Fin cfg0.N) : ancsOf (iblk m c 2 t) = fA m c := funext fun n => blk2 m c t n

/-- The boxes' block at point `t` holds image `t`'s boxes. -/
theorem boxes_eq (c : Dev nD) (t : Fin cfg0.N) : boxOf (iblk m c 1 t) = Loss.boxes (fT m c) ⟨t.val, t.isLt⟩ := by
  funext k f
  exact blk1 m c t _ (ix2 ⟨t.val, t.isLt⟩ ⟨5 * k.val + f.val, by omega⟩) rfl rfl

/-- The word stored at point `t` is the sum of the shares of image `t`'s cells (a cell past the last among them). -/
theorem wordAt_eq (c : Dev nD) (t : Fin cfg0.N) : wordAt m c t = ∑ r : Fin 60, ∑ l : Fin 128,
    (if h : r.val * 128 + l.val < 7220 then Loss.at_ (fO m c) (fA m c) ⟨t.val, t.isLt⟩ ⟨r.val * 128 + l.val, h⟩ else Loss.pad).total
      (fA m c) (Loss.boxes (fT m c) ⟨t.val, t.isLt⟩) := by
  unfold wordAt
  rw [outWord_eq]
  refine Finset.sum_congr rfl fun r _ => Finset.sum_congr rfl fun l _ => ?_
  rw [ptOf_eq, ancs_eq, boxes_eq]

/-- The array of the points' words. -/
def words (c : Dev nD) : FVec Ideal S64x1x1 .f32 := fun i => wordAt m c ⟨(i 0).val, (i 0).isLt⟩

/-- At point `t` the output's block is word `t`. -/
theorem idx8 (t : Fin grid0.N) : win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0) t

/-- What point `t` writes back is its word of the array of words. -/
theorem flushed_eq (c : Dev nD) (t : Fin cfg0.N) :
    (lossDats m 0 c).flushed 8 t = (win0_8.blk t).view.read (Elt Ideal) (words m c) := by
  show (cfg0.win 8).cut (grid0.coords t) ((lossDats m 0 c).after 8 t) = _
  rw [left_8]
  funext i
  have h0 : (i 0 : Nat) < 1 := (i 0).isLt
  refine congrArg (wordAt m c) (Fin.ext ?_)
  show t.val = win0_8.index t 0 * 1 + 1 * (i 0).val
  rw [(idx8 t).1]
  omega

/-- A word is in point `t`'s block when it is word `t`. -/
theorem mem_blk (t : Fin cfg0.N) (i : S64x1x1.Idx) : i ∈ ((cfg0.win 8).blk t).view.set ↔ (i 0).val = t.val := by
  show i ∈ ((View.whole main_call0_v27).slice (win0_8.rect t)).set ↔ _
  rw [View.set_slice_whole, Rect.mem_set_unit]
  have h1 : (i 1 : Nat) < 1 := (i 1).isLt
  have h2 : (i 2 : Nat) < 1 := (i 2).isLt
  refine ⟨fun h => ?_, fun h a => ?_⟩
  · have h' : win0_8.index t 0 * 1 ≤ (i 0 : Nat) ∧ (i 0 : Nat) < win0_8.index t 0 * 1 + 1 := h 0
    rw [(idx8 t).1] at h'
    omega
  · match a with
    | ⟨0, _⟩ => show win0_8.index t 0 * 1 ≤ (i 0 : Nat) ∧ (i 0 : Nat) < win0_8.index t 0 * 1 + 1
                rw [(idx8 t).1]; omega
    | ⟨1, _⟩ => show win0_8.index t 1 * 1 ≤ (i 1 : Nat) ∧ (i 1 : Nat) < win0_8.index t 1 * 1 + 1
                rw [(idx8 t).2.1]; omega
    | ⟨2, _⟩ => show win0_8.index t 2 * 1 ≤ (i 2 : Nat) ∧ (i 2 : Nat) < win0_8.index t 2 * 1 + 1
                rw [(idx8 t).2.2]; omega

/-- The blocks cover the array. -/
theorem cover (i : S64x1x1.Idx) : ∃ t : Fin cfg0.N, (cfg0.win 8).flush t = true ∧ i ∈ ((cfg0.win 8).blk t).view.set :=
  ⟨⟨(i 0).val, (i 0).isLt⟩, flush0_8 _, (mem_blk _ i).mpr rfl⟩

/-- The output array ends as the array of the points' words. -/
theorem final_o (c : Dev nD) : (lossDats m 0 c).arrAt 8 cfg0.N = words m c :=
  (lossDats m 0 c).arrAt_eq_of_cover 8 (words m c) (fun t _ => flushed_eq m c t) cover

/-- The result: the sum of the points' words. -/
theorem tail_eq (c : Dev nD) : (Pipeline.afterTail₀ cfgs (lossDats m) 0 (V0 m) [hostOps1] c main_v0 : FVec Ideal S_ .f32) (fun a => a.elim0) = ∑ t : Fin cfg0.N, wordAt m c t := by
  unfold Pipeline.afterTail₀
  simp only [hostOps1, List.flatten_cons, List.flatten_nil, List.append_nil, List.cons_append, List.nil_append]
  after_results_simp
  have e : Pipeline.withArrays (cfgs 0).spec c (V0 m c) (fun w => (lossDats m 0 c).arrAt w (cfgs 0).N) (Proc.tc.devRef main_call0_v27) = words m c :=
    (Pipeline.withArrays_arr spec0 (by decide) c (V0 m c) (fun w => (lossDats m 0 c).arrAt w (cfgs 0).N) 8).trans (final_o m c)
  rw [e]
  show Host.reduceAdd (words m c) (constant S_ .f32 0x00000000#32) reducesTo_S64x1x1_S_d0_1_2 h_S_ (fun a => a.elim0) = _
  pointwise
  show (∑ k0 : Fin 64, _) = ∑ b : Fin 64, wordAt m c b
  refine Finset.sum_congr rfl fun b _ => ?_
  rw [Fin.sum_univ_one, Fin.sum_univ_one]
  rfl

/-- The run: the result is the sum of the points' words, the arguments as they were. -/
theorem run_loss (ρ : Dev nD → PrngReg) (hok : BlocksOK m) : θ_run defs (onTc (τ := τ) (main (F := Ideal))) ⟨m, fun _ => 0, ρ⟩ (fun r => (∀ c : Dev nD,
      (r.2.mem ((c.tc : Thread nD τ).loc main_v0) : FVec Ideal S_ .f32) (fun a => a.elim0) = ∑ t : Fin cfg0.N, wordAt m c t
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun r h c => ⟨(congrFun ((h.1 c).2 main_v0 (Pipeline.mem_restRefs_of main_v0 (by decide) (by decide))) _).trans (tail_eq m c),
      (((h.1 c).2 main_arg0 (Pipeline.mem_restRefs_of main_arg0 (by decide) (by decide))).trans (W_main_arg0 m (lossDats m) c)),
      (((h.1 c).2 main_arg1 (Pipeline.mem_restRefs_of main_arg1 (by decide) (by decide))).trans (W_main_arg1 m (lossDats m) c)),
      (((h.1 c).2 main_arg2 (Pipeline.mem_restRefs_of main_arg2 (by decide) (by decide))).trans (W_main_arg2 m (lossDats m) c))⟩) (launch_run m ρ hok)

end Cert.KernelIdeal.Region
end
-- ==== Proof.ReferenceRead.lean ====
/- The reference's arrays read at an index: the predictions, the boxes, the anchors, the overlaps of boxes with anchors and
   with predicted boxes, and the number of the cell of a box. -/
module

public import proofs.«01_k».proof.Proof.Gen.ReferenceIdeal.Run
public import proofs.«01_k».proof.Proof.Loss
public import Idealize.ShloMosaic.Lib.Pipeline.ValueKit
public import Idealize.ShloMosaic.Lib.Routing.OpsSet

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

variable (V0 : Valuation τ sig (Elt Ideal))

def xO : FVec Ideal S64x125x38x38 .f32 := V0 (Proc.devRef .tc main_arg0)
def xT : FVec Ideal S64x250 .f32 := V0 (Proc.devRef .tc main_arg1)
def xA : FVec Ideal S10 .f32 := V0 (Proc.devRef .tc main_arg2)
/-- The predictions, the boxes' words and the anchors, by coordinates. -/
def rO (b : Fin 64) (ch : Fin 125) (j i : Fin 38) : EReal := xO V0 (ix4 b ch j i)
def rT (b : Fin 64) (i : Fin 250) : EReal := xT V0 (ix2 b i)
def rA (n : Fin 10) : EReal := xA V0 (ix1 n)
/-- Cell `e` of image `b`, and the boxes of image `b`. -/
def rP (b : Fin 64) (e : Fin 7220) : Loss.Pt := Loss.at_ (rO V0) (rA V0) b e
def rW (b : Fin 64) : Fin 50 → Fin 5 → EReal := Loss.boxes (rT V0) b

theorem v0_at (b : Fin 64) (a : Fin 5) (ch : Fin 25) (j i : Fin 38) :
    ((res_main_v0 V0 : FVec Ideal S64x5x25x38x38 .f32) (ix5 b a ch j i) : EReal) = rO V0 b ⟨a.val * 25 + ch.val, by omega⟩ j i := by
  show shapeCast S64x5x25x38x38 (xO V0) shapeCasts_S64x125x38x38_S64x5x25x38x38 (ix5 b a ch j i) = xO V0 _
  generalize xO V0 = x
  pointwise

theorem v8_at (b : Fin 64) (a : Fin 5) (j i : Fin 38) :
    ((res_main_v8 V0 : FVec Ideal S64x5x38x38 .f32) (ix4 b a j i) : EReal) = Ideal.logistic (rO V0 b ⟨a.val * 25 + 0, by omega⟩ j i) := by
  have h := v0_at V0 b a 0 j i
  unfold res_main_v8
  generalize (res_main_v0 V0 : FVec Ideal S64x5x25x38x38 .f32) = x at h ⊢
  pointwise
  rw [h]; rfl
theorem v16_at (b : Fin 64) (a : Fin 5) (j i : Fin 38) :
    ((res_main_v16 V0 : FVec Ideal S64x5x38x38 .f32) (ix4 b a j i) : EReal) = Ideal.logistic (rO V0 b ⟨a.val * 25 + 1, by omega⟩ j i) := by
  have h := v0_at V0 b a 1 j i
  unfold res_main_v16
  generalize (res_main_v0 V0 : FVec Ideal S64x5x25x38x38 .f32) = x at h ⊢
  pointwise
  rw [h]; rfl
theorem v18_at (b : Fin 64) (a : Fin 5) (j i : Fin 38) :
    ((res_main_v18 V0 : FVec Ideal S64x5x38x38 .f32) (ix4 b a j i) : EReal) = rO V0 b ⟨a.val * 25 + 2, by omega⟩ j i := by
  have h := v0_at V0 b a 2 j i
  unfold res_main_v18
  generalize (res_main_v0 V0 : FVec Ideal S64x5x25x38x38 .f32) = x at h ⊢
  pointwise
  exact h
theorem v20_at (b : Fin 64) (a : Fin 5) (j i : Fin 38) :
    ((res_main_v20 V0 : FVec Ideal S64x5x38x38 .f32) (ix4 b a j i) : EReal) = rO V0 b ⟨a.val * 25 + 3, by omega⟩ j i := by
  have h := v0_at V0 b a 3 j i
  unfold res_main_v20
  generalize (res_main_v0 V0 : FVec Ideal S64x5x25x38x38 .f32) = x at h ⊢
  pointwise
  exact h
theorem v31_at (b : Fin 64) (e : Fin 7220) (k : Fin 20) (n : Fin 462080) (hn : n.val = b.val * 7220 + e.val) :
    ((res_main_v31 V0 : FVec Ideal S462080x20 .f32) (ix2 n k) : EReal) = (rP V0 b e).L ⟨5 + k.val, by omega⟩ := by
  have h := v0_at V0 b ⟨e.val / 1444, by omega⟩ ⟨5 + k.val, by omega⟩ ⟨e.val % 1444 / 38, by omega⟩ ⟨e.val % 38, by omega⟩
  unfold res_main_v31
  generalize (res_main_v0 V0 : FVec Ideal S64x5x25x38x38 .f32) = x at h ⊢
  pointwise
  refine Eq.trans (congrArg x ?_) h
  have h1 : n.val / 7220 = b.val := by omega
  have h2 : n.val / 1444 % 5 = e.val / 1444 := by omega
  have h3 : n.val / 38 % 38 = e.val % 1444 / 38 := by omega
  have h4 : n.val % 38 = e.val % 38 := by omega
  simp only [h1, h2, h3, h4]
theorem v34_at (n : Fin 5) : ((res_main_v34 V0 : FVec Ideal S5 .f32) (ix1 n) : EReal) = rA V0 ⟨2 * n.val, by omega⟩ := by
  unfold res_main_v34
  show shapeCast S5 (extractStridedSlice S5x1 ![0, 0] (shapeCast S5x2 (xA V0) shapeCasts_S10_S5x2) slices_S5x2_S5x1_0_0) shapeCasts_S5x1_S5 (ix1 n) = xA V0 _
  generalize xA V0 = x
  pointwise
  exact congrArg x (congrArg ix1 (Fin.ext (Nat.mul_comm _ _)))
theorem v37_at (n : Fin 5) : ((res_main_v37 V0 : FVec Ideal S5 .f32) (ix1 n) : EReal) = rA V0 ⟨2 * n.val + 1, by omega⟩ := by
  unfold res_main_v37
  show shapeCast S5 (extractStridedSlice S5x1 ![0, 1] (shapeCast S5x2 (xA V0) shapeCasts_S10_S5x2) slices_S5x2_S5x1_0_1) shapeCasts_S5x1_S5 (ix1 n) = xA V0 _
  generalize xA V0 = x
  pointwise
  exact congrArg x (congrArg ix1 (Fin.ext (by show n.val * 2 + 1 = 2 * n.val + 1; omega)))
theorem v60_at (b : Fin 64) (k : Fin 50) (f : Fin 5) : ((res_main_v60 V0 : FVec Ideal S64x50x5 .f32) (ix3 b k f) : EReal) = rW V0 b k f := by
  unfold res_main_v60
  show shapeCast S64x50x5 (xT V0) shapeCasts_S64x250_S64x50x5 (ix3 b k f) = xT V0 _
  generalize xT V0 = x
  pointwise
  exact congrArg x (congrArg (ix2 b) (Fin.ext (by show k.val * 5 + f.val = 5 * k.val + f.val; omega)))
theorem v70_at (b : Fin 64) (k : Fin 50) : ((res_main_v70 V0 : FVec Ideal S64x50 .f32) (ix2 b k) : EReal) = Loss.gx (rW V0 b k) := by
  unfold res_main_v70 Loss.gx
  rw [← v60_at]
  generalize (res_main_v60 V0 : FVec Ideal S64x50x5 .f32) = x
  pointwise
  rfl
theorem v74_at (b : Fin 64) (k : Fin 50) : ((res_main_v74 V0 : FVec Ideal S64x50 .f32) (ix2 b k) : EReal) = Loss.gy (rW V0 b k) := by
  unfold res_main_v74 Loss.gy
  rw [← v60_at]
  generalize (res_main_v60 V0 : FVec Ideal S64x50x5 .f32) = x
  pointwise
  rfl
theorem v78_at (b : Fin 64) (k : Fin 50) : ((res_main_v78 V0 : FVec Ideal S64x50 .f32) (ix2 b k) : EReal) = Loss.gw (rW V0 b k) := by
  unfold res_main_v78 Loss.gw
  rw [← v60_at]
  generalize (res_main_v60 V0 : FVec Ideal S64x50x5 .f32) = x
  pointwise
  rfl
theorem v82_at (b : Fin 64) (k : Fin 50) : ((res_main_v82 V0 : FVec Ideal S64x50 .f32) (ix2 b k) : EReal) = Loss.gh (rW V0 b k) := by
  unfold res_main_v82 Loss.gh
  rw [← v60_at]
  generalize (res_main_v60 V0 : FVec Ideal S64x50x5 .f32) = x
  pointwise
  rfl
theorem v235_at (b : Fin 64) (k : Fin 50) : (res_main_v235 V0 : IVec S64x50 32) (ix2 b k) = Loss.cell (Loss.gx (rW V0 b k)) := by
  have h := v70_at V0 b k
  unfold res_main_v235 Loss.cell
  generalize (res_main_v70 V0 : FVec Ideal S64x50 .f32) = x at h ⊢
  pointwise
  rw [← h]; rfl
theorem v237_at (b : Fin 64) (k : Fin 50) : (res_main_v237 V0 : IVec S64x50 32) (ix2 b k) = Loss.cell (Loss.gy (rW V0 b k)) := by
  have h := v74_at V0 b k
  unfold res_main_v237 Loss.cell
  generalize (res_main_v74 V0 : FVec Ideal S64x50 .f32) = x at h ⊢
  pointwise
  rw [← h]; rfl
theorem v226_at (b : Fin 64) (k : Fin 50) (n : Fin 5) : ((res_main_v226 V0 : FVec Ideal S64x50x5 .f32) (ix3 b k n) : EReal)
    = Ideal.div (Loss.aI (rA V0 ⟨2 * n.val, by omega⟩) (rA V0 ⟨2 * n.val + 1, by omega⟩) (Loss.gw (rW V0 b k)) (Loss.gh (rW V0 b k)))
      (Loss.aU (rA V0 ⟨2 * n.val, by omega⟩) (rA V0 ⟨2 * n.val + 1, by omega⟩) (Loss.gw (rW V0 b k)) (Loss.gh (rW V0 b k))) := by
  have h1 := v34_at V0 n
  have h2 := v37_at V0 n
  have h3 := v78_at V0 b k
  have h4 := v82_at V0 b k
  unfold res_main_v226 res_main_v216
  rw [← h1, ← h2, ← h3, ← h4]
  generalize (res_main_v78 V0 : FVec Ideal S64x50 .f32) = x8
  generalize (res_main_v82 V0 : FVec Ideal S64x50 .f32) = x16
  generalize (res_main_v34 V0 : FVec Ideal S5 .f32) = x34
  generalize (res_main_v37 V0 : FVec Ideal S5 .f32) = x37
  pointwise
  rfl
theorem sitofp_nat (n : ℕ) (hn : n < 2147483648) : (FloatOps.sitofp FTy.f32 (BitVec.ofNat 32 n) : Ideal .f32) = (((n : ℕ) : ℝ) : EReal) := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this]; norm_num
/-- The four words of a predicted box. -/
def pred (P : Loss.Pt) (f : Fin 4) : EReal :=
  match f with
  | 0 => Ideal.logistic (P.L 0) + P.col
  | 1 => Ideal.logistic (P.L 1) + P.row
  | 2 => Ideal.exp (P.L 2) * P.aw
  | 3 => Ideal.exp (P.L 3) * P.ah
theorem v59_at0 (b : Fin 64) (e : Fin 7220) : ((res_main_v59 V0 : FVec Ideal S64x7220x4 .f32) (ix3 b e 0) : EReal) = pred (rP V0 b e) 0 := by
  have h := v8_at V0 b ⟨e.val / 1444, by omega⟩ ⟨e.val % 1444 / 38, by omega⟩ ⟨e.val % 38, by omega⟩
  unfold res_main_v59
  generalize (res_main_v8 V0 : FVec Ideal S64x5x38x38 .f32) = x8 at h ⊢
  generalize (res_main_v16 V0 : FVec Ideal S64x5x38x38 .f32) = x16
  generalize (res_main_v18 V0 : FVec Ideal S64x5x38x38 .f32) = x18
  generalize (res_main_v20 V0 : FVec Ideal S64x5x38x38 .f32) = x20
  generalize (res_main_v34 V0 : FVec Ideal S5 .f32) = x34
  generalize (res_main_v37 V0 : FVec Ideal S5 .f32) = x37
  pointwise
  have hr : e.val / 38 % 38 = e.val % 1444 / 38 := by omega
  simp only [hr]
  rw [h, sitofp_nat _ (by omega)]; rfl
theorem v59_at1 (b : Fin 64) (e : Fin 7220) : ((res_main_v59 V0 : FVec Ideal S64x7220x4 .f32) (ix3 b e 1) : EReal) = pred (rP V0 b e) 1 := by
  have h := v16_at V0 b ⟨e.val / 1444, by omega⟩ ⟨e.val % 1444 / 38, by omega⟩ ⟨e.val % 38, by omega⟩
  unfold res_main_v59
  generalize (res_main_v8 V0 : FVec Ideal S64x5x38x38 .f32) = x8
  generalize (res_main_v16 V0 : FVec Ideal S64x5x38x38 .f32) = x16 at h ⊢
  generalize (res_main_v18 V0 : FVec Ideal S64x5x38x38 .f32) = x18
  generalize (res_main_v20 V0 : FVec Ideal S64x5x38x38 .f32) = x20
  generalize (res_main_v34 V0 : FVec Ideal S5 .f32) = x34
  generalize (res_main_v37 V0 : FVec Ideal S5 .f32) = x37
  pointwise
  have hr : e.val / 38 % 38 = e.val % 1444 / 38 := by omega
  simp only [hr]
  rw [h, sitofp_nat _ (by omega)]; rfl
theorem v59_at2 (b : Fin 64) (e : Fin 7220) : ((res_main_v59 V0 : FVec Ideal S64x7220x4 .f32) (ix3 b e 2) : EReal) = pred (rP V0 b e) 2 := by
  have h := v18_at V0 b ⟨e.val / 1444, by omega⟩ ⟨e.val % 1444 / 38, by omega⟩ ⟨e.val % 38, by omega⟩
  have h' := v34_at V0 ⟨e.val / 1444, by omega⟩
  unfold res_main_v59
  generalize (res_main_v8 V0 : FVec Ideal S64x5x38x38 .f32) = x8
  generalize (res_main_v16 V0 : FVec Ideal S64x5x38x38 .f32) = x16
  generalize (res_main_v18 V0 : FVec Ideal S64x5x38x38 .f32) = x18 at h ⊢
  generalize (res_main_v20 V0 : FVec Ideal S64x5x38x38 .f32) = x20
  generalize (res_main_v34 V0 : FVec Ideal S5 .f32) = x34 at h' ⊢
  generalize (res_main_v37 V0 : FVec Ideal S5 .f32) = x37
  pointwise
  have hr : e.val / 38 % 38 = e.val % 1444 / 38 := by omega
  simp only [hr]
  exact congrArg₂ (fun x y : EReal => Ideal.exp x * y) h h'
theorem v59_at3 (b : Fin 64) (e : Fin 7220) : ((res_main_v59 V0 : FVec Ideal S64x7220x4 .f32) (ix3 b e 3) : EReal) = pred (rP V0 b e) 3 := by
  have h := v20_at V0 b ⟨e.val / 1444, by omega⟩ ⟨e.val % 1444 / 38, by omega⟩ ⟨e.val % 38, by omega⟩
  have h' := v37_at V0 ⟨e.val / 1444, by omega⟩
  unfold res_main_v59
  generalize (res_main_v8 V0 : FVec Ideal S64x5x38x38 .f32) = x8
  generalize (res_main_v16 V0 : FVec Ideal S64x5x38x38 .f32) = x16
  generalize (res_main_v18 V0 : FVec Ideal S64x5x38x38 .f32) = x18
  generalize (res_main_v20 V0 : FVec Ideal S64x5x38x38 .f32) = x20 at h ⊢
  generalize (res_main_v34 V0 : FVec Ideal S5 .f32) = x34
  generalize (res_main_v37 V0 : FVec Ideal S5 .f32) = x37 at h' ⊢
  pointwise
  have hr : e.val / 38 % 38 = e.val % 1444 / 38 := by omega
  simp only [hr]
  exact congrArg₂ (fun x y : EReal => Ideal.exp x * y) h h'
theorem v253_at (b : Fin 64) (k : Fin 50) (q : Fin 3200) (hq : q.val = b.val * 50 + k.val) : (res_main_v253 V0 : IVec S3200 32) (ix1 q)
    = if (0 : EReal) < (res_main_v66 V0 : FVec Ideal S64x50 .f32) (ix2 b k) then (res_main_v249 V0 : IVec S64x50 32) (ix2 b k) else 462080#32 := by
  unfold res_main_v253
  generalize (res_main_v249 V0 : IVec S64x50 32) = x9
  generalize (res_main_v66 V0 : FVec Ideal S64x50 .f32) = x10
  pointwise
  have h1 : q.val / 50 = b.val := by omega
  have h2 : q.val % 50 = k.val := by omega
  simp only [h1, h2]
  rfl
theorem v249_at (b : Fin 64) (k : Fin 50) : (res_main_v249 V0 : IVec S64x50 32) (ix2 b k)
    = ((BitVec.ofNat 32 b.val * 5#32 + (res_main_v233 V0 : IVec S64x50 32) (ix2 b k)) * 38#32 + Loss.cell (Loss.gy (rW V0 b k))) * 38#32
      + Loss.cell (Loss.gx (rW V0 b k)) := by
  have h1 := v235_at V0 b k
  have h2 := v237_at V0 b k
  unfold res_main_v249
  generalize (res_main_v233 V0 : IVec S64x50 32) = x8
  generalize (res_main_v235 V0 : IVec S64x50 32) = x9 at h1 ⊢
  generalize (res_main_v237 V0 : IVec S64x50 32) = x10 at h2 ⊢
  pointwise
  rw [h1, h2]; rfl

end Cert.ReferenceIdeal.Value

end
-- ==== Proof.ReferenceOps.lean ====
/- The reference's gathers, scatters, running minimum and reductions, read at an index. -/
module

public import proofs.«01_k».proof.Proof.Gen.ReferenceIdeal
public import Idealize.ShloMosaic.Lib.Pipeline.ValueKit
public import Idealize.ShloMosaic.Lib.Routing.OpsSet

@[expose] public section

set_option maxRecDepth 16384

noncomputable section

namespace Cert.ReferenceIdeal.Ops

open Idealize.ShloMosaic Idealize.ShloMosaic.TcCoe Idealize.ShloMosaic.Tactic
open Idealize
open Cert.ReferenceIdeal Cert.ReferenceIdeal.Gen

theorem toInt_small (n : ℕ) (h : n < 2147483648) : (BitVec.ofNat 32 n).toInt = (n : Int) := by
  rw [BitVec.toInt_eq_toNat_cond, BitVec.toNat_ofNat, Nat.mod_eq_of_lt (by omega), if_pos (by omega)]

/-- The rows of the predictions taken at the boxes' cells. -/
theorem gather_pred {α : Type} (x : S462080x4.Idx → α) (idx : IVec S64x50x1 32) (b : Fin 64) (k : Fin 50) (f : Fin 4) (n : Fin 462080)
    (h : idx (ix3 b k 0) = BitVec.ofNat 32 n.val) :
    Host.gather gather_S462080x4_S64x50x1_S64x50x4_2_0_n_n_0_2_14 x idx (ix3 b k f) = x (ix2 n f) := by
  unfold Host.gather
  refine congrArg x (funext fun a => Fin.ext ?_)
  have hs : ∀ c, gather_S462080x4_S64x50x1_S64x50x4_2_0_n_n_0_2_14.siIdx (ix3 b k f) c = ix3 b k 0 := by
    intro c
    funext b'
    match b' with
    | ⟨0, _⟩ => rfl
    | ⟨1, _⟩ => rfl
    | ⟨2, _⟩ => exact Subsingleton.elim (α := Fin 1) _ _
  have hn := n.isLt
  match a with
  | ⟨0, _⟩ =>
    show min (idx (gather_S462080x4_S64x50x1_S64x50x4_2_0_n_n_0_2_14.siIdx (ix3 b k f) _)).toInt.toNat (462080 - 1) + 0 + 0 = n.val
    rw [hs, h, toInt_small _ (by omega)]
    omega
  | ⟨1, _⟩ =>
    show 0 + 0 + f.val = f.val
    omega

/-- The anchors' sides taken at the boxes' best anchors. -/
theorem gather_anc {α : Type} (x : S5.Idx → α) (idx : IVec S64x50x1 32) (b : Fin 64) (k : Fin 50) (n : Fin 5)
    (h : idx (ix3 b k 0) = BitVec.ofNat 32 n.val) :
    Host.gather gather_S5_S64x50x1_S64x50_n_0_n_n_0_2_1 x idx (ix2 b k) = x (ix1 n) := by
  unfold Host.gather
  refine congrArg x (funext fun a => Fin.ext ?_)
  have hs : ∀ c, gather_S5_S64x50x1_S64x50_n_0_n_n_0_2_1.siIdx (ix2 b k) c = ix3 b k 0 := by
    intro c
    funext b'
    match b' with
    | ⟨0, _⟩ => rfl
    | ⟨1, _⟩ => rfl
    | ⟨2, _⟩ => exact Subsingleton.elim (α := Fin 1) _ _
  have hn := n.isLt
  match a with
  | ⟨0, _⟩ =>
    show min (idx (gather_S5_S64x50x1_S64x50_n_0_n_n_0_2_1.siIdx (ix2 b k) _)).toInt.toNat (5 - 1) + 0 + 0 = n.val
    rw [hs, h, toInt_small _ (by omega)]
    omega

/-- The class log-probability taken at a cell's class. -/
theorem gather_cls {α : Type} (x : S462080x20.Idx → α) (idx : IVec S462080x1x1 32) (n : Fin 462080) (c : Fin 20)
    (h : idx (ix3 n 0 0) = BitVec.ofNat 32 c.val) :
    Host.gather gather_S462080x20_S462080x1x1_S462080x1_n_1_0_0_1_2_11 x idx (ix2 n 0) = x (ix2 n c) := by
  unfold Host.gather
  refine congrArg x (funext fun a => Fin.ext ?_)
  have hs : ∀ c, gather_S462080x20_S462080x1x1_S462080x1_n_1_0_0_1_2_11.siIdx (ix2 n 0) c = ix3 n 0 0 := by
    intro c
    funext b'
    match b' with
    | ⟨0, _⟩ => rfl
    | ⟨1, _⟩ => rfl
    | ⟨2, _⟩ => exact Subsingleton.elim (α := Fin 1) _ _
  have hn := c.isLt
  match a with
  | ⟨0, _⟩ =>
    show 0 + n.val + 0 = n.val
    omega
  | ⟨1, _⟩ =>
    show min (idx (gather_S462080x20_S462080x1x1_S462080x1_n_1_0_0_1_2_11.siIdx (ix2 n 0) _)).toInt.toNat (20 - 1) + 0 + 0 = c.val
    rw [hs, h, toInt_small _ (by omega)]
    omega

/-- Where an update of the scatter lands: at the entry its index word names. -/
theorem lands (idx : IVec S3200x1 32) (q : Fin 3200) (n : Fin 462080) :
    scatter_S462080_S3200x1_S3200_n_0_0_1.resultIdx? (ix1 q) idx = some (ix1 n) ↔ (idx (ix2 q 0)).toInt = (n.val : Int) := by
  have hs : ∀ c, scatter_S462080_S3200x1_S3200_n_0_0_1.siIdx (ix1 q) c = ix2 q 0 := by
    intro c
    funext b'
    match b' with
    | ⟨0, _⟩ => rfl
    | ⟨1, _⟩ => exact Subsingleton.elim (α := Fin 1) _ _
  refine (Routing.resultIdx?_ix1 (N := 462080) _ (ix1 q) idx n).trans ?_
  show (idx (scatter_S462080_S3200x1_S3200_n_0_0_1.siIdx (ix1 q) _)).toInt + ((0 : ℕ) : Int) = _ ↔ _
  rw [hs]
  simp

/-- An entry that one update names takes it. -/
theorem scatter_hit {α : Type} (x : S462080.Idx → α) (idx : IVec S3200x1 32) (u : S3200.Idx → α) (q : Fin 3200) (n : Fin 462080)
    (h : (idx (ix2 q 0)).toInt = (n.val : Int)) (hu : ∀ q' : Fin 3200, (idx (ix2 q' 0)).toInt = (n.val : Int) → q' = q) :
    Host.scatter scatter_S462080_S3200x1_S3200_n_0_0_1 (fun _ b => b) x idx u (ix1 n) = u (ix1 q) := by
  refine Routing.scatter_set_hit _ x idx u (ix1 n) _ ?_ (ix1 q) ((lands idx q n).2 h)
  intro k hk
  have e : k = ix1 (k 0) := by
    funext a
    match a with
    | ⟨0, _⟩ => rfl
  rw [e] at hk ⊢
  exact congrArg (fun z : Fin 3200 => u (ix1 z)) (hu _ ((lands idx _ n).1 hk))

/-- An entry that no update names keeps its word. -/
theorem scatter_miss {α : Type} (x : S462080.Idx → α) (idx : IVec S3200x1 32) (u : S3200.Idx → α) (n : Fin 462080)
    (h : ∀ q : Fin 3200, (idx (ix2 q 0)).toInt ≠ (n.val : Int)) :
    Host.scatter scatter_S462080_S3200x1_S3200_n_0_0_1 (fun _ b => b) x idx u (ix1 n) = x (ix1 n) := by
  refine Routing.scatter_set_miss _ x idx u (ix1 n) ?_
  intro k hk
  have e : k = ix1 (k 0) := by
    funext a
    match a with
    | ⟨0, _⟩ => rfl
  rw [e] at hk
  exact h _ ((lands idx _ n).1 hk)

/-- The fold of a minimum from `v` is the least of `v` and the terms. -/
theorem foldl_min_le {ι : Type} (f : ι → EReal) (l : List ι) (v c : EReal) :
    c ≤ l.foldl (fun r n => min r (f n)) v ↔ c ≤ v ∧ ∀ n ∈ l, c ≤ f n := by
  induction l generalizing v with
  | nil => simp
  | cons a l ih => simp [ih, and_assoc]

/-- The running minimum of a row is at least `c` when the entries up to it are, and only then. -/
theorem cummin_le (x : S64x50.Idx → EReal) (init : S_.Idx → EReal) (b : Fin 64) (k : Fin 50) (c : EReal) (hi : ∀ i, init i = (⊤ : EReal)) :
    c ≤ Host.reduceWindow (α := EReal) min ![1, 50] ![1, 1] ![0, 49] ![0, 0] x init reduceWindows_S64x50_S64x50_w1s1p0_0_w50s1p49_0 h_S_ (ix2 b k)
      ↔ ∀ l : Fin 50, l ≤ k → c ≤ x (ix2 b l) := by
  unfold Host.reduceWindow
  refine (foldl_min_le _ _ _ c).trans ?_
  rw [hi]
  constructor
  · rintro ⟨-, h⟩ l hl
    have hl' : l.val ≤ k.val := hl
    have h1 := h (Shape.rowMajor (s := ⟨2, ![1, 50]⟩) (ix2 (0 : Fin 1) (⟨l.val + 49 - k.val, by omega⟩ : Fin 50))) (List.mem_finRange _)
    have ew := Equiv.symm_apply_apply (Shape.rowMajor (s := ⟨2, ![1, 50]⟩)) (ix2 (0 : Fin 1) (⟨l.val + 49 - k.val, by omega⟩ : Fin 50))
    have e0 := congrArg (fun w : Shape.Idx ⟨2, ![1, 50]⟩ => (w 0).val) ew
    have e1 := congrArg (fun w : Shape.Idx ⟨2, ![1, 50]⟩ => (w 1).val) ew
    generalize (Shape.rowMajor (s := ⟨2, ![1, 50]⟩) (ix2 (0 : Fin 1) (⟨l.val + 49 - k.val, by omega⟩ : Fin 50))) = n at h1 e0 e1
    change ((Shape.rowMajor (s := ⟨2, ![1, 50]⟩)).symm n 0).val = 0 at e0
    change ((Shape.rowMajor (s := ⟨2, ![1, 50]⟩)).symm n 1).val = l.val + 49 - k.val at e1
    dsimp only at h1
    rw [dif_pos] at h1
    · refine h1.trans (le_of_eq (congrArg x (funext fun a => Fin.ext ?_)))
      match a with
      | ⟨0, _⟩ => show b.val * 1 + ((Shape.rowMajor (s := ⟨2, ![1, 50]⟩)).symm n 0).val - 0 = b.val; omega
      | ⟨1, _⟩ => show k.val * 1 + ((Shape.rowMajor (s := ⟨2, ![1, 50]⟩)).symm n 1).val - 49 = l.val; omega
    · intro a
      match a with
      | ⟨0, _⟩ => show 0 ≤ b.val * 1 + ((Shape.rowMajor (s := ⟨2, ![1, 50]⟩)).symm n 0).val ∧ b.val * 1 + ((Shape.rowMajor (s := ⟨2, ![1, 50]⟩)).symm n 0).val - 0 < 64; omega
      | ⟨1, _⟩ => show 49 ≤ k.val * 1 + ((Shape.rowMajor (s := ⟨2, ![1, 50]⟩)).symm n 1).val ∧ k.val * 1 + ((Shape.rowMajor (s := ⟨2, ![1, 50]⟩)).symm n 1).val - 49 < 50; omega
  · intro h
    refine ⟨le_top, fun n _ => ?_⟩
    dsimp only
    split
    · next hin =>
      have h0 := hin 0
      have h1 := hin 1
      have w0 : ((Shape.rowMajor (s := ⟨2, ![1, 50]⟩)).symm n 0).val < 1 := ((Shape.rowMajor (s := ⟨2, ![1, 50]⟩)).symm n 0).isLt
      have w1 : ((Shape.rowMajor (s := ⟨2, ![1, 50]⟩)).symm n 1).val < 50 := ((Shape.rowMajor (s := ⟨2, ![1, 50]⟩)).symm n 1).isLt
      change 0 ≤ b.val * 1 + ((Shape.rowMajor (s := ⟨2, ![1, 50]⟩)).symm n 0).val ∧ b.val * 1 + ((Shape.rowMajor (s := ⟨2, ![1, 50]⟩)).symm n 0).val - 0 < 64 at h0
      change 49 ≤ k.val * 1 + ((Shape.rowMajor (s := ⟨2, ![1, 50]⟩)).symm n 1).val ∧ k.val * 1 + ((Shape.rowMajor (s := ⟨2, ![1, 50]⟩)).symm n 1).val - 49 < 50 at h1
      refine (h ⟨k.val * 1 + ((Shape.rowMajor (s := ⟨2, ![1, 50]⟩)).symm n 1).val - 49, by omega⟩
        (by show k.val * 1 + ((Shape.rowMajor (s := ⟨2, ![1, 50]⟩)).symm n 1).val - 49 ≤ k.val; omega)).trans (le_of_eq (congrArg x (funext fun a => Fin.ext ?_)))
      match a with
      | ⟨0, _⟩ => show b.val = b.val * 1 + ((Shape.rowMajor (s := ⟨2, ![1, 50]⟩)).symm n 0).val - 0; omega
      | ⟨1, _⟩ => rfl
    · exact le_top

/-- The least signed word of five is the one that is at most each and is one of them. -/
theorem minsi_five (x : S64x50x5.Idx → BitVec 32) (b : Fin 64) (k : Fin 50) (init : S_.Idx → BitVec 32) (hi : ∀ i, init i = 2147483647#32)
    (z : BitVec 32) (n0 : Fin 5) (h0 : x (ix3 b k n0) = z) (hz : ∀ n : Fin 5, z.toInt ≤ (x (ix3 b k n)).toInt) :
    Host.reduce IntOp.minsi x init reducesTo_S64x50x5_S64x50_d2 h_S_ (ix2 b k) = z := by
  have hle : ∀ (l : List S64x50x5.Idx) (v : BitVec 32) (c : Int),
      c ≤ (l.foldl (fun r i => IntOp.minsi r (x i)) v).toInt ↔ c ≤ v.toInt ∧ ∀ i ∈ l, c ≤ (x i).toInt := by
    intro l
    induction l with
    | nil => intro v c; simp
    | cons a l ih =>
      intro v c
      have hm : (IntOp.minsi v (x a)).toInt = min v.toInt (x a).toInt := by
        unfold IntOp.minsi
        split
        · next h => rw [BitVec.slt_iff_toInt_lt] at h; omega
        · next h => rw [BitVec.slt_iff_toInt_lt] at h; omega
      simp [ih, hm, and_assoc]
  rw [Host.reduce_eq_foldl, hi]
  apply BitVec.eq_of_toInt_eq
  have hd : ∀ i : S64x50x5.Idx, (reducesTo_S64x50x5_S64x50_d2).drop i = ix2 b k ↔ ∃ n : Fin 5, ix3 b k n = i := by
    intro i
    refine (Shape.ReducesTo.fiber_r3_a2 (n0 := 64) (n1 := 50) (n2 := 5) reducesTo_S64x50x5_S64x50_d2 (ix2 b k) i).trans ?_
    rfl
  have hmem : ∀ i, i ∈ ((List.finRange S64x50x5.numel).map S64x50x5.rowMajor.symm).filter (fun i => decide ((reducesTo_S64x50x5_S64x50_d2).drop i = ix2 b k)) ↔ ∃ n : Fin 5, ix3 b k n = i := by
    intro i
    rw [List.mem_filter, decide_eq_true_iff, hd]
    exact ⟨fun h => h.2, fun h => ⟨List.mem_map.2 ⟨S64x50x5.rowMajor i, List.mem_finRange _, Equiv.symm_apply_apply _ _⟩, h⟩⟩
  apply le_antisymm
  · have := ((hle _ 2147483647#32 _).1 (le_refl _)).2 (ix3 b k n0) ((hmem _).2 ⟨n0, rfl⟩)
    rw [h0] at this
    exact this
  · refine (hle _ _ _).2 ⟨?_, ?_⟩
    · have := BitVec.toInt_lt (x := z)
      have e : (2147483647#32).toInt = 2147483647 := by decide
      omega
    · intro i hi'
      obtain ⟨n, rfl⟩ := (hmem i).1 hi'
      exact hz n

end Cert.ReferenceIdeal.Ops

end
-- ==== Proof.RegularFacts.lean ====
/- The side conditions of the precondition's operations: shapes of reshapes, slices and broadcasts. -/
module

public import proofs.«01_k».proof.Pre_regular

@[expose] public section

namespace Cert.Pre_regular

open Idealize.ShloMosaic

/-- The shapes fit. -/
instance shapesFit : Facts where
  shapeCasts_S64x250_S64x50x5 := by decide
  slices_S64x50x5_S64x50x1_0_0_1 := by decide
  shapeCasts_S64x50x1_S64x50 := by decide
  slices_S64x50x5_S64x50x1_0_0_0 := by decide
  bcast_S_S64x50 := by decide
  slices_S64x50x5_S64x50x1_0_0_2 := by decide
  bcast_S64x50_S64x50x1_0_1 := by decide
  bcast_S64x50_S64x1x50_0_2 := by decide
  bcast_S64x50x1_S64x50x50_0_1_2 := by decide
  bcast_S64x1x50_S64x50x50_0_1_2 := by decide
  bcast_S50_S1x50x1_1 := by decide
  bcast_S50_S1x1x50_2 := by decide
  bcast_S1x50x1_S1x50x50_0_1_2 := by decide
  bcast_S1x1x50_S1x50x50_0_1_2 := by decide
  bcast_S_S64x125x38x38 := by decide
  bcast_S_S64x250 := by decide
  bcast_S_S10 := by decide
  slices_S64x50x5_S64x50x1_0_0_3 := by decide
  slices_S64x50x5_S64x50x1_0_0_4 := by decide
  bcast_S1x50x50_S64x50x50_0_1_2 := by decide

end Cert.Pre_regular

end
-- ==== Proof.Regular.lean ====
/- What the precondition says of the arguments' words: real words, positive anchors, boxes in range and in cells of their own. -/
module
public import proofs.«01_k».proof.Pre_regular
public import proofs.«01_k».proof.Proof.RegularFacts
public import proofs.«01_k».proof.Proof.Loss
public import Idealize.ShloMosaic.Lib.Pipeline.ValueKit
@[expose] public section
set_option maxRecDepth 16384
noncomputable section
namespace Cert.Loss
open Idealize.ShloMosaic
open Cert.Pre_regular

/-- Bits as propositions. -/
theorem ori_one (a b : BitVec 1) : IntOp.ori a b = 1#1 ↔ a = 1#1 ∨ b = 1#1 := by revert a b; decide
theorem andi_one (a b : BitVec 1) : IntOp.andi a b = 1#1 ↔ a = 1#1 ∧ b = 1#1 := by revert a b; decide
theorem not_one (a : BitVec 1) : ~~~a = 1#1 ↔ ¬ a = 1#1 := by revert a; decide
theorem ofBool_one (p : Prop) [Decidable p] : BitVec.ofBool (decide p) = 1#1 ↔ p := by by_cases h : p <;> simp [h]
theorem slt_one (a b : BitVec 32) : IntOp.cmpi .slt a b = 1#1 ↔ a.toInt < b.toInt := ofBool_one _
theorem sge_one (a b : BitVec 32) : IntOp.cmpi .sge a b = 1#1 ↔ b.toInt ≤ a.toInt := ofBool_one _
theorem sle_one (a b : BitVec 32) : IntOp.cmpi .sle a b = 1#1 ↔ a.toInt ≤ b.toInt := ofBool_one _
theorem eq_one (a b : BitVec 32) : IntOp.cmpi .eq a b = 1#1 ↔ a = b := ofBool_one _
/-- The greatest extended real. -/
theorem ofBits_inf : Ideal.ofBits .f32 0x7F800000#32 = ⊤ := by simp [Ideal.ofBits, Ideal.ieee]
/-- Below the greatest, on both sides of zero: a real. -/
theorem real_of_abs (x : EReal) (h : max x (-x) < ⊤) : ∃ r : ℝ, x = (r : EReal) := by
  induction x with
  | bot => simp at h
  | top => simp at h
  | coe r => exact ⟨r, rfl⟩
theorem toInt_small (n : ℕ) (h : n < 2 ^ 31) : (BitVec.ofNat 32 n).toInt = (n : Int) := by
  rw [BitVec.toInt_eq_toNat_cond, BitVec.toNat_ofNat, Nat.mod_eq_of_lt (by omega), if_pos (by omega)]

/-- What a regular input is: real words, positive anchors; a present box has positive sides and a class below twenty, no present
    box comes after an absent one, and no two present boxes of an image fall in one cell. -/
structure Reg (O : Fin 64 → Fin 125 → Fin 38 → Fin 38 → EReal) (T : Fin 64 → Fin 250 → EReal) (A : Fin 10 → EReal) : Prop where
  o : ∀ b ch j i, ∃ r : ℝ, O b ch j i = (r : EReal)
  t : ∀ b i, ∃ r : ℝ, T b i = (r : EReal)
  a : ∀ n, ∃ r : ℝ, 0 < r ∧ A n = (r : EReal)
  pos : ∀ b k, boxes T b k 1 ≠ 0 → 0 < boxes T b k 3 ∧ 0 < boxes T b k 4 ∧ 0 ≤ (Ideal.fptosi 32 (boxes T b k 0)).toInt ∧ (Ideal.fptosi 32 (boxes T b k 0)).toInt < 20
  trail : ∀ b (k l : Fin 50), k < l → boxes T b k 1 = 0 → boxes T b l 1 = 0
  cells : ∀ b (k l : Fin 50), k < l → cell (gx (boxes T b k)) = cell (gx (boxes T b l)) → cell (gy (boxes T b k)) = cell (gy (boxes T b l)) → boxes T b l 1 = 0

variable (x0 : FVec Ideal S64x125x38x38 .f32) (x1 : FVec Ideal S64x250 .f32) (x2 : FVec Ideal S10 .f32)

/-- The precondition gives a regular input. -/
theorem reg_of (h0 : (fn x0 x1 x2).1 = fun _ => 1#1) (h1 : (fn x0 x1 x2).2.1 = fun _ => 1#1) (h2 : (fn x0 x1 x2).2.2.1 = fun _ => 1#1)
   (h3 : (fn x0 x1 x2).2.2.2.1 = fun _ => 1#1) (h4 : (fn x0 x1 x2).2.2.2.2.1 = fun _ => 1#1) (h5 : (fn x0 x1 x2).2.2.2.2.2 = fun _ => 1#1) :
   Reg (fun b ch j i => x0 (ix4 b ch j i)) (fun b i => x1 (ix2 b i)) (fun n => x2 (ix1 n)) where
  o b ch j i := by
    have h := congrFun h0 (ix4 b ch j i)
    pointwise [fn, fn_part1, fn_part2, fn_part3] at h
    rw [ofBool_one, ofBits_inf] at h
    exact real_of_abs _ h
  t b i := by
    have h := congrFun h1 (ix2 b i)
    pointwise [fn, fn_part1, fn_part2, fn_part3] at h
    rw [ofBool_one, ofBits_inf] at h
    exact real_of_abs _ h
  a n := by
    have h := congrFun h2 (ix1 n)
    pointwise [fn, fn_part1, fn_part2, fn_part3] at h
    rw [andi_one, ofBool_one, ofBool_one, ofBits_inf] at h
    obtain ⟨p, q⟩ := h
    generalize (x2 (ix1 n) : EReal) = v at p q ⊢
    change EReal at v
    induction v using EReal.rec with
    | bot => exact absurd p (by simp)
    | top => exact absurd q (by simp)
    | coe r => exact ⟨r, by exact_mod_cast p, rfl⟩
  pos b k := by
    have h := congrFun h3 (ix2 b k)
    pointwise [fn, fn_part1, fn_part2, fn_part3] at h
    rw [ori_one, andi_one, andi_one, andi_one, ofBool_one, ofBool_one, ofBool_one, sge_one, slt_one] at h
    have e : ∀ f : Fin 5, boxes (fun b i => x1 (ix2 b i)) b k f = x1 (ix2 b ⟨k.val * 5 + f.val, by omega⟩) := fun f =>
      congrArg (fun q => x1 (ix2 b q)) (Fin.ext (by show 5 * k.val + f.val = k.val * 5 + f.val; omega))
    rw [e 1, e 3, e 4, e 0]
    intro hp
    rcases h with h | ⟨⟨⟨h1, h2⟩, h3⟩, h4⟩
    · exact absurd h hp
    · exact ⟨h1, h2, h3, h4⟩
  trail b k l := by
    have h := congrFun h4 (ix3 b k l)
    pointwise [fn, fn_part1, fn_part2, fn_part3] at h
    rw [ori_one, not_one, andi_one, ofBool_one, ofBool_one, slt_one, toInt_small _ (by omega), toInt_small _ (by omega)] at h
    have e : ∀ (k : Fin 50) (f : Fin 5), boxes (fun b i => x1 (ix2 b i)) b k f = x1 (ix2 b ⟨k.val * 5 + f.val, by omega⟩) := fun k f =>
      congrArg (fun q => x1 (ix2 b q)) (Fin.ext (by show 5 * k.val + f.val = k.val * 5 + f.val; omega))
    rw [e k 1, e l 1]
    intro hl hk
    rcases h with h | h
    · exact absurd ⟨by exact_mod_cast hl, hk⟩ h
    · exact h
  cells b k l := by
    have h := congrFun h5 (ix3 b k l)
    pointwise [fn, fn_part1, fn_part2, fn_part3, fn_clip] at h
    rw [ori_one, not_one, andi_one, andi_one, ofBool_one, slt_one, eq_one, eq_one, toInt_small _ (by omega), toInt_small _ (by omega)] at h
    have e : ∀ (k : Fin 50) (f : Fin 5), boxes (fun b i => x1 (ix2 b i)) b k f = x1 (ix2 b ⟨k.val * 5 + f.val, by omega⟩) := fun k f =>
      congrArg (fun q => x1 (ix2 b q)) (Fin.ext (by show 5 * k.val + f.val = k.val * 5 + f.val; omega))
    unfold gx gy
    rw [e k 1, e l 1, e k 2, e l 2]
    intro hl hx hy
    rcases h with h | h
    · exact absurd ⟨by exact_mod_cast hl, hx, hy⟩ h
    · exact h
end Cert.Loss
end
-- ==== Proof.CellRun.lean ====
/- The running values of a cell after the fifty boxes: the greatest overlap, and the correction of the one box whose cell it is. -/
module

public import proofs.«01_k».proof.Proof.Loss
public import proofs.«01_k».proof.Proof.Regular

@[expose] public section

set_option maxRecDepth 16384

noncomputable section

namespace Cert.Loss

open Idealize.ShloMosaic

theorem cmp_one (a b : EReal) : Ideal.cmp .one a b = 1#1 ↔ a ≠ b := ofBool_one _
theorem cmp_oeq (a b : EReal) : Ideal.cmp .oeq a b = 1#1 ↔ a = b := ofBool_one _
theorem cmp_ole (a b : EReal) : Ideal.cmp .ole a b = 1#1 ↔ a ≤ b := ofBool_one _
theorem sel_if {α : Type} (c : BitVec 1) (x y : α) : Scalar.select c x y = if c = 1#1 then x else y := rfl

variable (P : Pt) (A : Fin 10 → EReal) (W : Fin 50 → Fin 5 → EReal)

/-- The greatest overlap is at most `θ` when every present box's is, and only then. -/
theorem best_le (θ : EReal) (n : ℕ) : (P.run A W n).best ≤ θ ↔ 0 ≤ θ ∧ ∀ k : Fin 50, k.val < n → W k 1 ≠ 0 → P.iou (W k) ≤ θ := by
  induction n with
  | zero => exact ⟨fun h => ⟨h, fun k hk => absurd hk (Nat.not_lt_zero _)⟩, fun h => h.1⟩
  | succ n ih =>
    have hs : (P.run A W (n + 1)) = if h : n < 50 then P.step A (W ⟨n, h⟩) (P.run A W n) else P.run A W n := rfl
    rw [hs]
    by_cases h : n < 50
    · rw [dif_pos h]
      unfold Pt.step
      by_cases hp : W ⟨n, h⟩ 1 ≠ 0
      · rw [if_pos ((cmp_one _ _).2 hp)]
        show max (P.run A W n).best (P.iou (W ⟨n, h⟩)) ≤ θ ↔ _
        rw [max_le_iff, ih]
        constructor
        · rintro ⟨⟨h0, h1⟩, h2⟩
          refine ⟨h0, fun k hk hpk => ?_⟩
          rcases Nat.lt_succ_iff_lt_or_eq.1 hk with e | e
          · exact h1 k e hpk
          · have : k = ⟨n, h⟩ := Fin.ext e
            rw [this]; exact h2
        · rintro ⟨h0, h1⟩
          exact ⟨⟨h0, fun k hk hpk => h1 k (Nat.lt_succ_of_lt hk) hpk⟩, h1 ⟨n, h⟩ (Nat.lt_succ_self n) hp⟩
      · rw [if_neg (mt (cmp_one _ _).1 hp), ih]
        constructor
        · rintro ⟨h0, h1⟩
          refine ⟨h0, fun k hk hpk => ?_⟩
          rcases Nat.lt_succ_iff_lt_or_eq.1 hk with e | e
          · exact h1 k e hpk
          · have : k = ⟨n, h⟩ := Fin.ext e
            rw [this] at hpk; exact absurd hpk hp
        · rintro ⟨h0, h1⟩
          exact ⟨h0, fun k hk hpk => h1 k (Nat.lt_succ_of_lt hk) hpk⟩
    · rw [dif_neg h, ih]
      constructor
      · rintro ⟨h0, h1⟩
        exact ⟨h0, fun k hk hpk => h1 k (by have := k.isLt; omega) hpk⟩
      · rintro ⟨h0, h1⟩
        exact ⟨h0, fun k hk hpk => h1 k (Nat.lt_succ_of_lt hk) hpk⟩

/-- A cell of no box has no correction and no mark. -/
theorem run_miss (h : ∀ k, W k 1 ≠ 0 → P.hit A (W k) ≠ 1#1) (n : ℕ) : (P.run A W n).corr = 0 ∧ (P.run A W n).mask = 0 := by
  induction n with
  | zero => exact ⟨rfl, rfl⟩
  | succ n ih =>
    have hs : (P.run A W (n + 1)) = if h : n < 50 then P.step A (W ⟨n, h⟩) (P.run A W n) else P.run A W n := rfl
    rw [hs]
    by_cases hn : n < 50
    · rw [dif_pos hn]
      unfold Pt.step
      by_cases hp : W ⟨n, hn⟩ 1 ≠ 0
      · rw [if_pos ((cmp_one _ _).2 hp)]
        show _ + _ = _ ∧ _
        rw [sel_if, sel_if, if_neg (h _ hp), if_neg (h _ hp), ih.1, ih.2, add_zero]
        exact ⟨rfl, rfl⟩
      · rw [if_neg (mt (cmp_one _ _).1 hp)]; exact ih
    · rw [dif_neg hn]; exact ih

/-- A cell of one box has that box's correction, and the mark. -/
theorem run_hit (k0 : Fin 50) (h0 : W k0 1 ≠ 0) (h1 : P.hit A (W k0) = 1#1) (hu : ∀ k, W k 1 ≠ 0 → P.hit A (W k) = 1#1 → k = k0) (n : ℕ) :
    (P.run A W n).corr = (if k0.val < n then P.delta A (W k0) else 0) ∧ (P.run A W n).mask = if k0.val < n then 1 else 0 := by
  induction n with
  | zero => exact ⟨rfl, rfl⟩
  | succ n ih =>
    have hs : (P.run A W (n + 1)) = if h : n < 50 then P.step A (W ⟨n, h⟩) (P.run A W n) else P.run A W n := rfl
    rw [hs]
    by_cases hn : n < 50
    · rw [dif_pos hn]
      unfold Pt.step
      by_cases hp : W ⟨n, hn⟩ 1 ≠ 0
      · rw [if_pos ((cmp_one _ _).2 hp)]
        show _ + _ = _ ∧ _
        rw [sel_if, sel_if, ih.1, ih.2]
        by_cases hh : P.hit A (W ⟨n, hn⟩) = 1#1
        · have e := hu _ hp hh
          have ev : n = k0.val := congrArg Fin.val e
          rw [if_pos hh, if_pos hh, e, if_neg (by omega), if_pos (by omega), if_pos (by omega), zero_add]
          exact ⟨rfl, rfl⟩
        · have ev : n ≠ k0.val := fun e => hh (by have : (⟨n, hn⟩ : Fin 50) = k0 := Fin.ext e
                                                  rw [this]; exact h1)
          rw [if_neg hh, if_neg hh, add_zero]
          by_cases hk : k0.val < n
          · rw [if_pos hk, if_pos (by omega), if_pos hk, if_pos (by omega)]; exact ⟨rfl, rfl⟩
          · rw [if_neg hk, if_neg (by omega), if_neg hk, if_neg (by omega)]; exact ⟨rfl, rfl⟩
      · have ev : n ≠ k0.val := fun e => hp (by have : (⟨n, hn⟩ : Fin 50) = k0 := Fin.ext e
                                                rw [this]; exact h0)
        rw [if_neg (mt (cmp_one _ _).1 hp), ih.1, ih.2]
        by_cases hk : k0.val < n
        · rw [if_pos hk, if_pos (by omega), if_pos hk, if_pos (by omega)]; exact ⟨rfl, rfl⟩
        · rw [if_neg hk, if_neg (by omega), if_neg hk, if_neg (by omega)]; exact ⟨rfl, rfl⟩
    · have := k0.isLt
      rw [dif_neg hn, ih.1, ih.2, if_pos (by omega), if_pos (by omega), if_pos (by omega), if_pos (by omega)]
      exact ⟨rfl, rfl⟩

/-- The share of a cell of one box. -/
theorem total_hit (k0 : Fin 50) (h0 : W k0 1 ≠ 0) (h1 : P.hit A (W k0) = 1#1) (hu : ∀ k, W k 1 ≠ 0 → P.hit A (W k) = 1#1 → k = k0) :
    P.total A W = kHalf * P.base + P.delta A (W k0) := by
  have hr := run_hit P A W k0 h0 h1 hu 50
  rw [if_pos k0.isLt, if_pos k0.isLt] at hr
  have hz : ¬ ((1 : EReal) = 0) := one_ne_zero
  unfold Pt.total
  rw [hr.1, hr.2, sel_if, if_neg, add_zero]
  rw [andi_one, andi_one, cmp_oeq]
  exact fun h => hz h.1.2

/-- The share of a cell of no box. -/
theorem total_miss (hf : 0 ≤ P.fio.toInt) (h : ∀ k, W k 1 ≠ 0 → P.hit A (W k) ≠ 1#1) :
    P.total A W = kHalf * (P.base + if (0 ≤ kThr ∧ ∀ k : Fin 50, W k 1 ≠ 0 → P.iou (W k) ≤ kThr) then Ideal.logistic (P.L 4) * Ideal.logistic (P.L 4) else 0) := by
  have hr := run_miss P A W h 50
  unfold Pt.total
  rw [hr.1, hr.2, add_zero, sel_if]
  congr 2
  refine if_congr ?_ rfl rfl
  rw [andi_one, andi_one, cmp_oeq, cmp_ole, best_le, sge_one]
  have e : (0#32).toInt = 0 := by decide
  rw [e]
  exact ⟨fun q => ⟨q.1.1.1, fun k hk => q.1.1.2 k k.isLt hk⟩, fun q => ⟨⟨⟨q.1, fun k _ hk => q.2 k hk⟩, rfl⟩, hf⟩⟩

end Cert.Loss

end
-- ==== Proof.BestAnchor.lean ====
/- The anchor a box fits best: the one the kernel's four comparisons of products choose is the first whose ratio of shared to
   covered area is the greatest. -/
module

public import proofs.«01_k».proof.Proof.Loss
public import proofs.«01_k».proof.Proof.Regular

@[expose] public section

set_option maxRecDepth 16384

noncomputable section

namespace Cert.Loss

open Idealize.ShloMosaic

theorem sel_one {α : Type} (c : BitVec 1) (x y : α) : Scalar.select c x y = if c = 1#1 then x else y := rfl
theorem coe_min (a b : ℝ) : ((min a b : ℝ) : EReal) = min (a : EReal) (b : EReal) := EReal.coe_strictMono.monotone.map_min
theorem coe_max (a b : ℝ) : ((max a b : ℝ) : EReal) = max (a : EReal) (b : EReal) := EReal.coe_strictMono.monotone.map_max
theorem cmp_ogt (a b : EReal) : Ideal.cmp .ogt a b = 1#1 ↔ b < a := by
  exact ofBool_one _

/-- The best of the first `m` ratios: its number, its parts, and that it is the first of the greatest. -/
def Best (r : ℕ → ℝ) (m : ℕ) (w : BitVec 32) (I U : EReal) : Prop :=
  ∃ n0, n0 < m ∧ w = BitVec.ofNat 32 n0 ∧ ∃ i u : ℝ, I = (i : EReal) ∧ U = (u : EReal) ∧ 0 < u ∧ r n0 = i / u ∧ (∀ n, n < m → r n ≤ r n0) ∧ ∀ n, n < n0 → r n < r n0

/-- One ratio more. -/
theorem Best.next {r : ℕ → ℝ} {m : ℕ} {w : BitVec 32} {I U : EReal} (h : Best r m w I U) (i' u' : ℝ) (hu : 0 < u') (hr : r m = i' / u') :
    Best r (m + 1) (Scalar.select (Ideal.cmp .ogt ((i' : EReal) * U) (I * (u' : EReal))) (BitVec.ofNat 32 m) w)
      (Scalar.select (Ideal.cmp .ogt ((i' : EReal) * U) (I * (u' : EReal))) (i' : EReal) I)
      (Scalar.select (Ideal.cmp .ogt ((i' : EReal) * U) (I * (u' : EReal))) (u' : EReal) U) := by
  obtain ⟨n0, hn, hw, i, u, rfl, rfl, hu0, hr0, h1, h2⟩ := h
  simp only [sel_one, cmp_ogt, ← EReal.coe_mul, EReal.coe_lt_coe_iff]
  have key : i * u' < i' * u ↔ r n0 < r m := by
    rw [hr, hr0, div_lt_div_iff₀ hu0 hu]
  by_cases hc : i * u' < i' * u
  · simp only [hc, if_true]
    have hk := key.1 hc
    refine ⟨m, Nat.lt_succ_self m, rfl, i', u', rfl, rfl, hu, hr, fun n hn' => ?_, fun n hn' => lt_of_le_of_lt (h1 n hn') hk⟩
    rcases Nat.lt_succ_iff_lt_or_eq.1 hn' with h | h
    · exact (h1 n h).trans hk.le
    · exact le_of_eq (by rw [h])
  · simp only [hc, if_false]
    have hk := not_lt.1 (mt key.2 hc)
    refine ⟨n0, Nat.lt_succ_of_lt hn, hw, i, u, rfl, rfl, hu0, hr0, fun n hn' => ?_, h2⟩
    rcases Nat.lt_succ_iff_lt_or_eq.1 hn' with h | h
    · exact h1 n h
    · rw [h]; exact hk

/-- The shared and the covered area of two positive boxes, as reals. -/
def rI (p q g h : ℝ) : ℝ := min p g * min q h
def rU (p q g h : ℝ) : ℝ := p * q + g * h - rI p q g h
theorem aI_coe (p q g h : ℝ) : aI (p : EReal) q g h = (rI p q g h : EReal) := by
  unfold aI rI; rw [← coe_min, ← coe_min, ← EReal.coe_mul]
theorem aU_coe (p q g h : ℝ) : aU (p : EReal) q g h = (rU p q g h : EReal) := by
  unfold aU rU; rw [aI_coe, ← EReal.coe_mul, ← EReal.coe_mul, ← EReal.coe_add, ← EReal.coe_sub]
theorem rU_pos {p q g h : ℝ} (hp : 0 < p) (hq : 0 < q) (hg : 0 < g) (hh : 0 < h) : 0 < rU p q g h := by
  have h1 : rI p q g h ≤ g * h := mul_le_mul (min_le_right _ _) (min_le_right _ _) (le_min hq.le hh.le) hg.le
  have h2 : 0 < p * q := mul_pos hp hq
  unfold rU; linarith
theorem aDiv_coe {p q g h : ℝ} (hp : 0 < p) (hq : 0 < q) (hg : 0 < g) (hh : 0 < h) :
    Ideal.div (aI (p : EReal) q g h) (aU (p : EReal) q g h) = ((rI p q g h / rU p q g h : ℝ) : EReal) := by
  rw [aI_coe, aU_coe, Ideal.div_coe (rU_pos hp hq hg hh).ne', ← EReal.coe_mul, mul_one_div]

/-- The anchor the comparisons choose is the first whose ratio is the greatest. -/
theorem bn_best (A : Fin 10 → EReal) (w : Fin 5 → EReal) (hA : ∀ n, ∃ r : ℝ, 0 < r ∧ A n = (r : EReal)) {g h : ℝ} (hg : 0 < g) (hh : 0 < h)
    (eg : gw w = (g : EReal)) (eh : gh w = (h : EReal)) :
    ∃ n0 : Fin 5, bn A w = BitVec.ofNat 32 n0.val
      ∧ (∀ n : Fin 5, Ideal.div (aI (A ⟨2 * n.val, by omega⟩) (A ⟨2 * n.val + 1, by omega⟩) (gw w) (gh w)) (aU (A ⟨2 * n.val, by omega⟩) (A ⟨2 * n.val + 1, by omega⟩) (gw w) (gh w))
          ≤ Ideal.div (aI (A ⟨2 * n0.val, by omega⟩) (A ⟨2 * n0.val + 1, by omega⟩) (gw w) (gh w)) (aU (A ⟨2 * n0.val, by omega⟩) (A ⟨2 * n0.val + 1, by omega⟩) (gw w) (gh w)))
      ∧ ∀ n : Fin 5, n < n0 → Ideal.div (aI (A ⟨2 * n.val, by omega⟩) (A ⟨2 * n.val + 1, by omega⟩) (gw w) (gh w)) (aU (A ⟨2 * n.val, by omega⟩) (A ⟨2 * n.val + 1, by omega⟩) (gw w) (gh w))
          < Ideal.div (aI (A ⟨2 * n0.val, by omega⟩) (A ⟨2 * n0.val + 1, by omega⟩) (gw w) (gh w)) (aU (A ⟨2 * n0.val, by omega⟩) (A ⟨2 * n0.val + 1, by omega⟩) (gw w) (gh w)) := by
  choose a ha0 ha using hA
  let r : ℕ → ℝ := fun n => if hn : n < 5 then rI (a ⟨2 * n, by omega⟩) (a ⟨2 * n + 1, by omega⟩) g h / rU (a ⟨2 * n, by omega⟩) (a ⟨2 * n + 1, by omega⟩) g h else 0
  have hr : ∀ n : Fin 5, Ideal.div (aI (A ⟨2 * n.val, by omega⟩) (A ⟨2 * n.val + 1, by omega⟩) (gw w) (gh w)) (aU (A ⟨2 * n.val, by omega⟩) (A ⟨2 * n.val + 1, by omega⟩) (gw w) (gh w)) = ((r n.val : ℝ) : EReal) := by
    intro n
    rw [ha, ha, eg, eh, aDiv_coe (ha0 _) (ha0 _) hg hh]
    show _ = ((dite _ _ _ : ℝ) : EReal)
    rw [dif_pos n.isLt]
  have B0 : Best r 1 0#32 (aI (A 0) (A 1) (gw w) (gh w)) (aU (A 0) (A 1) (gw w) (gh w)) := by
    refine ⟨0, Nat.one_pos, rfl, rI (a 0) (a 1) g h, rU (a 0) (a 1) g h, ?_, ?_, rU_pos (ha0 _) (ha0 _) hg hh, rfl, fun n hn => ?_, fun n hn => absurd hn (Nat.not_lt_zero n)⟩
    · rw [ha, ha, eg, eh, aI_coe]
    · rw [ha, ha, eg, eh, aU_coe]
    · rw [Nat.lt_one_iff.1 hn]
  have B1 := B0.next (rI (a 2) (a 3) g h) (rU (a 2) (a 3) g h) (rU_pos (ha0 _) (ha0 _) hg hh) rfl
  have B2 := B1.next (rI (a 4) (a 5) g h) (rU (a 4) (a 5) g h) (rU_pos (ha0 _) (ha0 _) hg hh) rfl
  have B3 := B2.next (rI (a 6) (a 7) g h) (rU (a 6) (a 7) g h) (rU_pos (ha0 _) (ha0 _) hg hh) rfl
  have B4 := B3.next (rI (a 8) (a 9) g h) (rU (a 8) (a 9) g h) (rU_pos (ha0 _) (ha0 _) hg hh) rfl
  simp only [← aI_coe, ← aU_coe, ← ha, ← eg, ← eh] at B4
  obtain ⟨n0, hn0, hw, -, -, -, -, -, -, h1, h2⟩ := B4
  refine ⟨⟨n0, hn0⟩, hw, fun n => ?_, fun n hn => ?_⟩
  · rw [hr, hr ⟨n0, hn0⟩, EReal.coe_le_coe_iff]; exact h1 n.val n.isLt
  · rw [hr, hr ⟨n0, hn0⟩, EReal.coe_lt_coe_iff]; exact h2 n.val hn

end Cert.Loss

end
-- ==== Proof.CellReal.lean ====
/- The share of a cell in real numbers: what the kernel sums is half the squares the reference sums, less the log-probability of
   the cell's class. -/
module

public import proofs.«01_k».proof.Proof.CellRun
public import proofs.«01_k».proof.Proof.BestAnchor

@[expose] public section

set_option maxRecDepth 16384

noncomputable section

namespace Cert.Loss

open Idealize.ShloMosaic

theorem kHalf_eq : kHalf = ((1 / 2 : ℝ) : EReal) := by
  unfold kHalf; simp [Ideal.ofBits, Ideal.ieee, -EReal.coe_mul]; norm_num
theorem kTwo_eq : kTwo = ((2 : ℝ) : EReal) := by
  unfold kTwo; simp [Ideal.ofBits, Ideal.ieee, -EReal.coe_mul]; try norm_num
theorem kFive2_eq : kFive2 = ((5 / 2 : ℝ) : EReal) := by
  unfold kFive2; simp [Ideal.ofBits, Ideal.ieee, -EReal.coe_mul]; norm_num
theorem k38_eq : k38 = ((38 : ℝ) : EReal) := by
  unfold k38; simp [Ideal.ofBits, Ideal.ieee, -EReal.coe_mul]; norm_num
/-- Five, the weight of a cell with an object. -/
def kFive : EReal := Ideal.ofBits .f32 0x40A00000#32
theorem kFive_eq : kFive = ((5 : ℝ) : EReal) := by
  unfold kFive; simp [Ideal.ofBits, Ideal.ieee, -EReal.coe_mul]; norm_num
theorem kThr_pos : 0 ≤ kThr := by
  unfold kThr; simp [Ideal.ofBits, Ideal.ieee, -EReal.coe_mul]; try norm_num
theorem sqrt_five : Ideal.sqrt kFive = ((Real.sqrt 5 : ℝ) : EReal) := by
  rw [kFive_eq, Ideal.sqrt_coe, if_neg (by norm_num)]
theorem sqrt_one : Ideal.sqrt 1 = ((1 : ℝ) : EReal) := by
  rw [← EReal.coe_one, Ideal.sqrt_coe, if_neg (by norm_num), Real.sqrt_one]
theorem sqrt_zero : Ideal.sqrt 0 = ((0 : ℝ) : EReal) := by
  rw [← EReal.coe_zero, Ideal.sqrt_coe, if_neg (by norm_num), Real.sqrt_zero]

/-- A real's overlap with an interval, and what two boxes share. -/
def rcut (p a g b : ℝ) : ℝ := a + b - (max (p + a * (1 / 2)) (g + b * (1 / 2)) - min (p - a * (1 / 2)) (g - b * (1 / 2)))
def rinter (cw ch : ℝ) : ℝ := if cw ≤ 0 ∨ ch ≤ 0 then 0 else cw * ch
theorem cut_coe (p a g b : ℝ) : cut (p : EReal) a g b = (rcut p a g b : EReal) := by
  unfold cut rcut
  rw [kHalf_eq]
  simp only [EReal.coe_sub, EReal.coe_add, coe_max, coe_min, EReal.coe_mul]
theorem rcut_le (p a g b : ℝ) : rcut p a g b ≤ a ∧ rcut p a g b ≤ b := by
  unfold rcut
  have h1 := le_max_left (p + a * (1 / 2)) (g + b * (1 / 2))
  have h2 := le_max_right (p + a * (1 / 2)) (g + b * (1 / 2))
  have h3 := min_le_left (p - a * (1 / 2)) (g - b * (1 / 2))
  have h4 := min_le_right (p - a * (1 / 2)) (g - b * (1 / 2))
  constructor <;> linarith
theorem inter_coe (cw ch : ℝ) : inter (cw : EReal) ch = (rinter cw ch : EReal) := by
  unfold inter rinter
  simp only [sel_if, ori_one, cmp_ole, ← EReal.coe_mul, ← EReal.coe_zero, EReal.coe_le_coe_iff]
  split <;> rfl

/-- The overlap of two real boxes of positive sides is a real. -/
theorem iou_real (px py pw ph : ℝ) (hw : 0 < pw) (hh : 0 < ph) (w : Fin 5 → EReal) (x y g h : ℝ) (hg : 0 < g) (hh' : 0 < h)
    (ex : gx w = (x : EReal)) (ey : gy w = (y : EReal)) (eg : gw w = (g : EReal)) (eh : gh w = (h : EReal)) :
    ∃ q : ℝ, iou (px : EReal) py pw ph w = (q : EReal) := by
  unfold iou
  rw [ex, ey, eg, eh, cut_coe, cut_coe, inter_coe, ← EReal.coe_mul, ← EReal.coe_mul, ← EReal.coe_add, ← EReal.coe_sub]
  have h0 : 0 < pw * ph + g * h - rinter (rcut px pw x g) (rcut py ph y h) := by
    have h1 : 0 < pw * ph := mul_pos hw hh
    have h2 : 0 < g * h := mul_pos hg hh'
    unfold rinter
    split
    · linarith
    · next hc =>
      push Not at hc
      have := mul_le_mul (rcut_le px pw x g).2 (rcut_le py ph y h).2 hc.2.le hg.le
      linarith
  exact ⟨_, by rw [Ideal.div_coe h0.ne', ← EReal.coe_mul]⟩

/-- The overlap does not depend on which box comes first. -/
theorem iou_comm (px py pw ph x y g h : EReal) :
    Ideal.div (inter (cut x g px pw) (cut y h py ph)) (g * h + pw * ph - inter (cut x g px pw) (cut y h py ph))
      = Ideal.div (inter (cut px pw x g) (cut py ph y h)) (pw * ph + g * h - inter (cut px pw x g) (cut py ph y h)) := by
  have e : ∀ p a g b : EReal, cut g b p a = cut p a g b := by
    intro p a g b
    unfold cut
    rw [add_comm b a, max_comm, min_comm]
  rw [e px pw x g, e py ph y h, add_comm (g * h)]

/-- The log of a ratio of positive reals is a real. -/
theorem log_real {g a : ℝ} (hg : 0 < g) (ha : 0 < a) : Ideal.log (Ideal.div (g : EReal) (a : EReal)) = ((Real.log (g / a) : ℝ) : EReal) := by
  rw [Ideal.div_coe ha.ne', ← EReal.coe_mul, mul_one_div, Ideal.log_coe, if_neg (not_le.2 (div_pos hg ha))]

/-- A squared difference under a mask. -/
def sqd (v t m : EReal) : EReal := (v * m - t * m) * (v * m - t * m)
theorem sqd_coe (v t m : ℝ) : sqd (v : EReal) t m = (((v * m - t * m) * (v * m - t * m) : ℝ) : EReal) := by
  unfold sqd; simp only [EReal.coe_mul, EReal.coe_sub]

/-- The greatest of the class logits, and the log of the sum of their exponentials, are reals. -/
theorem lse_real (L : Fin 25 → EReal) (l : Fin 25 → ℝ) (hL : ∀ c, L c = (l c : EReal)) :
    ∃ M s : ℝ, lmax L = (M : EReal) ∧ Ideal.log (lsum L) = (s : EReal) := by
  have hM : ∃ M : ℝ, lmax L = (M : EReal) := by
    unfold lmax
    simp only [hL, ← coe_max]
    exact ⟨_, rfl⟩
  obtain ⟨M, hM⟩ := hM
  have hs : ∃ t : ℝ, 0 < t ∧ lsum L = (t : EReal) := by
    unfold lsum
    simp only [hL, hM, ← EReal.coe_sub, Ideal.exp_coe, ← EReal.coe_add]
    exact ⟨_, by positivity, rfl⟩
  obtain ⟨t, ht, hs⟩ := hs
  exact ⟨M, Real.log t, hM, by rw [hs, Ideal.log_coe, if_neg (not_le.2 ht)]⟩

/-- The log-probability of the class a box names. -/
def logp (L : Fin 25 → EReal) (v : EReal) : EReal := v - lmax L - Ideal.log (lsum L)

variable (P : Pt) (A : Fin 10 → EReal) (w : Fin 5 → EReal)

/-- The terms of a cell of one box are reals, and the kernel's share is half the squares, less the log-probability. -/
theorem hit_real (l : Fin 25 → ℝ) (hL : ∀ c, P.L c = (l c : EReal)) (col row aw ah : ℝ) (hc : P.col = (col : EReal)) (hr : P.row = (row : EReal))
    (haw : P.aw = (aw : EReal)) (hah : P.ah = (ah : EReal)) (haw0 : 0 < aw) (hah0 : 0 < ah)
    (x y g h : ℝ) (hg : 0 < g) (hh : 0 < h) (ex : gx w = (x : EReal)) (ey : gy w = (y : EReal)) (eg : gw w = (g : EReal)) (eh : gh w = (h : EReal))
    (a0 a1 : ℝ) (h0 : 0 < a0) (h1 : 0 < a1) (e0 : ancOf A (bn A w) 0 = (a0 : EReal)) (e1 : ancOf A (bn A w) 1 = (a1 : EReal))
    (c : Fin 25) (hcl : logit P.L w = P.L c) :
    ∃ rx ry rw rh rc rp : ℝ,
      sqd (Ideal.logistic (P.L 0)) (gx w - ofInt (cell (gx w))) 1 = (rx : EReal) ∧ sqd (Ideal.logistic (P.L 1)) (gy w - ofInt (cell (gy w))) 1 = (ry : EReal)
      ∧ sqd (P.L 2) (Ideal.log (Ideal.div (gw w) (ancOf A (bn A w) 0))) 1 = (rw : EReal) ∧ sqd (P.L 3) (Ideal.log (Ideal.div (gh w) (ancOf A (bn A w) 1))) 1 = (rh : EReal)
      ∧ sqd (Ideal.logistic (P.L 4)) (P.iou w) (Ideal.sqrt kFive) = (rc : EReal) ∧ logp P.L (logit P.L w) * 1 = (rp : EReal)
      ∧ kHalf * P.base + P.delta A w = (((rx + ry + rw + rh + rc) / 2 - rp : ℝ) : EReal) := by
  have hq : ∃ q : ℝ, P.iou w = (q : EReal) := by
    unfold Pt.iou
    rw [hL, hL, hL, hL, hc, hr, haw, hah, Ideal.logistic_coe, Ideal.logistic_coe, Ideal.exp_coe, Ideal.exp_coe, ← EReal.coe_add, ← EReal.coe_add, ← EReal.coe_mul, ← EReal.coe_mul]
    exact iou_real _ _ _ _ (mul_pos (Real.exp_pos _) haw0) (mul_pos (Real.exp_pos _) hah0) w x y g h hg hh ex ey eg eh
  obtain ⟨q, hq⟩ := hq
  obtain ⟨M, s, hM, hs⟩ := lse_real P.L l hL
  have hx : ∃ tx : ℝ, gx w - ofInt (cell (gx w)) = (tx : EReal) := by
    unfold ofInt; rw [ex, ← EReal.coe_sub]; exact ⟨_, rfl⟩
  have hy : ∃ ty : ℝ, gy w - ofInt (cell (gy w)) = (ty : EReal) := by
    unfold ofInt; rw [ey, ← EReal.coe_sub]; exact ⟨_, rfl⟩
  obtain ⟨tx, hx⟩ := hx
  obtain ⟨ty, hy⟩ := hy
  unfold Pt.delta Pt.base lse logp dMid dSide
  rw [hcl, hx, hy, eg, eh, e0, e1, log_real hg h0, log_real hh h1, hq, hM, hs, sqrt_five, kHalf_eq, kTwo_eq, kFive2_eq]
  simp only [hL, Ideal.logistic_coe, ← EReal.coe_one]
  simp only [sqd_coe, ← EReal.coe_mul, ← EReal.coe_add, ← EReal.coe_sub]
  refine ⟨_, _, _, _, _, _, rfl, rfl, rfl, rfl, rfl, rfl, ?_⟩
  rw [EReal.coe_eq_coe_iff]
  have h5 : Real.sqrt 5 * Real.sqrt 5 = 5 := Real.mul_self_sqrt (by norm_num)
  linear_combination (-(((1 + Real.exp (-l 4))⁻¹ - q) * ((1 + Real.exp (-l 4))⁻¹ - q)) / 2) * h5

/-- The terms of a cell of no box are reals, and the kernel's share is half the squares, the class taking no part. -/
theorem miss_real (l : Fin 25 → ℝ) (hL : ∀ c, P.L c = (l c : EReal)) (m : Prop) [Decidable m] (v : EReal) (hv : ∃ r : ℝ, v = (r : EReal)) :
    ∃ rx ry rw rh rc rp : ℝ,
      sqd (Ideal.logistic (P.L 0)) kHalf 1 = (rx : EReal) ∧ sqd (Ideal.logistic (P.L 1)) kHalf 1 = (ry : EReal)
      ∧ sqd (P.L 2) 0 1 = (rw : EReal) ∧ sqd (P.L 3) 0 1 = (rh : EReal)
      ∧ sqd (Ideal.logistic (P.L 4)) 0 (Ideal.sqrt (if m then 1 else 0)) = (rc : EReal) ∧ logp P.L v * 0 = (rp : EReal)
      ∧ kHalf * (P.base + if m then Ideal.logistic (P.L 4) * Ideal.logistic (P.L 4) else 0) = (((rx + ry + rw + rh + rc) / 2 - rp : ℝ) : EReal) := by
  unfold Pt.base
  have hz : logp P.L v * 0 = ((0 : ℝ) : EReal) := by rw [mul_zero, EReal.coe_zero]
  rw [hz, kHalf_eq]
  by_cases hm : m
  · rw [if_pos hm, if_pos hm, sqrt_one]
    simp only [hL, Ideal.logistic_coe, ← EReal.coe_one, ← EReal.coe_zero]
    simp only [sqd_coe, ← EReal.coe_mul, ← EReal.coe_add, ← EReal.coe_sub]
    refine ⟨_, _, _, _, _, _, rfl, rfl, rfl, rfl, rfl, rfl, ?_⟩
    rw [EReal.coe_eq_coe_iff]
    ring
  · rw [if_neg hm, if_neg hm, sqrt_zero]
    simp only [hL, Ideal.logistic_coe, ← EReal.coe_one, ← EReal.coe_zero]
    simp only [sqd_coe, ← EReal.coe_mul, ← EReal.coe_add, ← EReal.coe_sub]
    refine ⟨_, _, _, _, _, _, rfl, rfl, rfl, rfl, rfl, rfl, ?_⟩
    rw [EReal.coe_eq_coe_iff]
    ring

/-- A cell past the last has no share. -/
theorem pad_total (W : Fin 50 → Fin 5 → EReal) (hm : ∀ k, W k 1 ≠ 0 → pad.hit A (W k) ≠ 1#1) : pad.total A W = 0 := by
  have hr := run_miss pad A W hm 50
  have hf : (4294967295#32).toInt = -1 := by decide
  have e : (0#32).toInt = 0 := by decide
  have hl : Ideal.logistic 0 = ((1 / 2 : ℝ) : EReal) := by
    rw [← EReal.coe_zero, Ideal.logistic_coe]; norm_num
  unfold Pt.total
  rw [hr.1, add_zero, sel_if, if_neg]
  · unfold Pt.base
    show kHalf * ((Ideal.logistic 0 - kHalf) * (Ideal.logistic 0 - kHalf) + (Ideal.logistic 0 - kHalf) * (Ideal.logistic 0 - kHalf) + 0 * 0 + 0 * 0 + 0) = 0
    rw [hl, kHalf_eq, ← EReal.coe_sub, sub_self]
    simp
  · rw [andi_one, sge_one]
    show ¬ (_ ∧ (0#32).toInt ≤ (4294967295#32).toInt)
    rw [hf, e]
    omega

end Cert.Loss

end
-- ==== Proof.ReferenceIndex.lean ====
/- Which boxes are present, the anchor each takes, the cell each falls in, and what the reference's scatters leave in a cell. -/
module

public import proofs.«01_k».proof.Proof.ReferenceRead
public import proofs.«01_k».proof.Proof.ReferenceOps
public import proofs.«01_k».proof.Proof.CellReal

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

/-- The word of minus infinity. -/
theorem ofBits_ninf : Ideal.ofBits FTy.f32 0xFF800000#32 = ⊥ := by
  simp [Ideal.ofBits, Ideal.ieee]

/-- The flat number of a cell of an image, as a signed word. -/
theorem flat_int (b n : ℕ) (y x : BitVec 32) (hb : b < 64) (hn : n < 5) (hy : y.toNat < 38) (hx : x.toNat < 38) :
    (((BitVec.ofNat 32 b * 5#32 + BitVec.ofNat 32 n) * 38#32 + y) * 38#32 + x).toInt = ((b * 7220 + (n * 1444 + y.toNat * 38 + x.toNat) : ℕ) : Int) := by
  have h1 : (BitVec.ofNat 32 b * 5#32 + BitVec.ofNat 32 n).toNat = b * 5 + n := by
    simp only [BitVec.toNat_add, BitVec.toNat_mul, BitVec.toNat_ofNat]
    rw [Nat.mod_eq_of_lt (show b < 2 ^ 32 by omega), Nat.mod_eq_of_lt (show n < 2 ^ 32 by omega), Nat.mod_eq_of_lt (show 5 < 2 ^ 32 by omega)]
    omega
  generalize BitVec.ofNat 32 b * 5#32 + BitVec.ofNat 32 n = z at h1 ⊢
  have step : ∀ u v : BitVec 32, u.toNat < 100000 → v.toNat < 38 → (u * 38#32 + v).toNat = u.toNat * 38 + v.toNat := by
    intro u v hu hv
    simp only [BitVec.toNat_add, BitVec.toNat_mul, BitVec.toNat_ofNat]
    rw [Nat.mod_eq_of_lt (show 38 < 2 ^ 32 by omega)]
    omega
  have h2 := step z y (by omega) hy
  have h3 := step (z * 38#32 + y) x (by omega) hx
  rw [BitVec.toInt_eq_toNat_cond, h3, h2, h1]
  rw [if_pos (by omega)]
  congr 1
  omega

variable (V0 : Valuation τ sig (Elt Ideal)) (R : Loss.Reg (rO V0) (rT V0) (rA V0))

include R

/-- The mark of a present box is one, of an absent box zero. -/
theorem v66_at (b : Fin 64) (k : Fin 50) :
    ((res_main_v66 V0 : FVec Ideal S64x50 .f32) (ix2 b k) : EReal) = if rW V0 b k 1 ≠ 0 then (1 : EReal) else (0 : EReal) := by
  have hx : ∀ l : Fin 50, ((uitofp .f32 (cmpf .une (shapeCast S64x50 (extractStridedSlice (s := S64x50x5) S64x50x1 ![0, 0, 1] (res_main_v60 V0) slices_S64x50x5_S64x50x1_0_0_1) shapeCasts_S64x50x1_S64x50 : FVec Ideal S64x50 .f32) (broadcastInDim S64x50 ![] bcast_S_S64x50 (constant S_ .f32 0x00000000#32))) : FVec Ideal S64x50 .f32) (ix2 b l) : EReal)
      = if rW V0 b l 1 ≠ 0 then 1 else 0 := by
    intro l
    have h := v60_at V0 b l 1
    generalize (res_main_v60 V0 : FVec Ideal S64x50x5 .f32) = x at h ⊢
    pointwise
    have e : ∀ p : Prop, ∀ _ : Decidable p, ((FloatOps.uitofp FTy.f32 (BitVec.ofBool (decide p)) : Ideal .f32) : EReal) = if p then (1 : EReal) else (0 : EReal) := by
      intro p _
      by_cases hp : p
      · simp only [hp, decide_true, if_true]
        show (((1#1).toNat : ℝ) : EReal) = 1
        norm_num
      · simp only [hp, decide_false, if_false]
        show (((0#1).toNat : ℝ) : EReal) = 0
        norm_num
    refine (e _ _).trans ?_
    simp only [h]
  have key := fun c => Ops.cummin_le (uitofp .f32 (cmpf .une (shapeCast S64x50 (extractStridedSlice (s := S64x50x5) S64x50x1 ![0, 0, 1] (res_main_v60 V0) slices_S64x50x5_S64x50x1_0_0_1) shapeCasts_S64x50x1_S64x50 : FVec Ideal S64x50 .f32) (broadcastInDim S64x50 ![] bcast_S_S64x50 (constant S_ .f32 0x00000000#32))) : FVec Ideal S64x50 .f32)
    (broadcastInDim S_ ![] bcast_S_S_ (constant (F := Ideal) S_ .f32 0x7F800000#32)) b k c (fun i => Loss.ofBits_inf)
  simp only [hx] at key
  have key' : ∀ c : EReal, c ≤ ((res_main_v66 V0 : FVec Ideal S64x50 .f32) (ix2 b k) : EReal) ↔ ∀ l : Fin 50, l ≤ k → c ≤ (if rW V0 b l 1 ≠ 0 then (1 : EReal) else 0) := key
  obtain ⟨z, hz⟩ : ∃ z : EReal, z = ((res_main_v66 V0 : FVec Ideal S64x50 .f32) (ix2 b k) : EReal) := ⟨_, rfl⟩
  rw [← hz] at key'
  refine hz.symm.trans ?_
  by_cases hp : rW V0 b k 1 ≠ 0
  · have hl : ∀ l : Fin 50, l ≤ k → rW V0 b l 1 ≠ 0 := by
      intro l hl h0
      rcases lt_or_eq_of_le hl with h | h
      · exact hp (R.trail b l k h h0)
      · rw [h] at h0; exact hp h0
    apply le_antisymm
    · exact (key' z).1 (le_refl _) k (le_refl _)
    · refine (key' _).2 fun l h => ?_
      rw [if_pos hp, if_pos (hl l h)]
  · apply le_antisymm
    · exact (key' z).1 (le_refl _) k (le_refl _)
    · refine (key' _).2 fun l h => ?_
      rw [if_neg hp]
      split
      · exact zero_le_one
      · exact le_refl _

/-- The sides of a present box are positive reals. -/
theorem sides (b : Fin 64) (k : Fin 50) (hp : rW V0 b k 1 ≠ 0) :
    ∃ x y g h : ℝ, 0 < g ∧ 0 < h ∧ Loss.gx (rW V0 b k) = (x : EReal) ∧ Loss.gy (rW V0 b k) = (y : EReal) ∧ Loss.gw (rW V0 b k) = (g : EReal) ∧ Loss.gh (rW V0 b k) = (h : EReal) := by
  obtain ⟨h3, h4, -, -⟩ := R.pos b k hp
  have ht : ∀ f, ∃ r : ℝ, rW V0 b k f = (r : EReal) := fun f => R.t b _
  obtain ⟨x, hx⟩ := ht 1
  obtain ⟨y, hy⟩ := ht 2
  obtain ⟨g, hg⟩ := ht 3
  obtain ⟨h, hh⟩ := ht 4
  have h3' : 0 < rW V0 b k 3 := h3
  have h4' : 0 < rW V0 b k 4 := h4
  rw [hg, ← EReal.coe_zero, EReal.coe_lt_coe_iff] at h3'
  rw [hh, ← EReal.coe_zero, EReal.coe_lt_coe_iff] at h4'
  refine ⟨x * 38, y * 38, g * 38, h * 38, by positivity, by positivity, ?_, ?_, ?_, ?_⟩
  · unfold Loss.gx; rw [hx, Loss.k38_eq, EReal.coe_mul]
  · unfold Loss.gy; rw [hy, Loss.k38_eq, EReal.coe_mul]
  · unfold Loss.gw; rw [hg, Loss.k38_eq, EReal.coe_mul]
  · unfold Loss.gh; rw [hh, Loss.k38_eq, EReal.coe_mul]

/-- The best anchor of a present box is the one the kernel's comparisons choose. -/
theorem v233_at (b : Fin 64) (k : Fin 50) (hp : rW V0 b k 1 ≠ 0) :
    (res_main_v233 V0 : IVec S64x50 32) (ix2 b k) = Loss.bn (rA V0) (rW V0 b k) ∧ ∃ n0 : Fin 5, Loss.bn (rA V0) (rW V0 b k) = BitVec.ofNat 32 n0.val := by
  obtain ⟨x, y, g, h, hg, hh, -, -, eg, eh⟩ := sides V0 R b k hp
  obtain ⟨n0, e0, h1, h2⟩ := Loss.bn_best (rA V0) (rW V0 b k) R.a hg hh eg eh
  refine ⟨?_, n0, e0⟩
  rw [e0]
  have hv := v226_at V0 b k
  unfold res_main_v233
  generalize (res_main_v226 V0 : FVec Ideal S64x50x5 .f32) = x at hv ⊢
  simp only [← hv] at h1 h2
  have hM : ((Host.reduce FloatOps.maximumf x (constant S_ .f32 0xFF800000#32) reducesTo_S64x50x5_S64x50_d2 h_S_ : FVec Ideal S64x50 .f32) (ix2 b k) : EReal) = x (ix3 b k n0) := by
    pointwise
    have hd : ∀ i : S64x50x5.Idx, (reducesTo_S64x50x5_S64x50_d2).drop i = ix2 b k ↔ ∃ n : Fin 5, ix3 b k n = i := by
      intro i
      refine (Shape.ReducesTo.fiber_r3_a2 (n0 := 64) (n1 := 50) (n2 := 5) reducesTo_S64x50x5_S64x50_d2 (ix2 b k) i).trans ?_
      rfl
    apply le_antisymm
    · refine (Finset.fold_max_le _).2 ⟨?_, ?_⟩
      · rw [show Ideal.ofBits FTy.f32 4286578688#32 = ⊥ from ofBits_ninf]
        exact bot_le
      · intro i hi
        obtain ⟨n, rfl⟩ := (hd i).1 (Finset.mem_filter.1 hi).2
        exact h1 n
    · exact (Finset.le_fold_max _).2 (Or.inr ⟨_, Finset.mem_filter.2 ⟨Finset.mem_univ _, (hd _).2 ⟨n0, rfl⟩⟩, le_refl _⟩)
  generalize (Host.reduce FloatOps.maximumf x (constant S_ .f32 0xFF800000#32) reducesTo_S64x50x5_S64x50_d2 h_S_ : FVec Ideal S64x50 .f32) = M at hM ⊢
  have hs : ∀ n : Fin 5, (select (cmpf .oeq x (broadcastInDim S64x50x5 ![0, 1, 2] bcast_S64x50x1_S64x50x5_0_1_2 (broadcastInDim S64x50x1 ![0, 1] bcast_S64x50_S64x50x1_0_1 M))) (broadcastInDim S64x50x5 ![2] bcast_S5_S64x50x5_2 (iotaInDim S5 32 0)) (broadcastInDim S64x50x5 ![] bcast_S_S64x50x5 (id (constantI S_ 32 4#32))) : IVec S64x50x5 32) (ix3 b k n)
      = if (x (ix3 b k n) : EReal) = x (ix3 b k n0) then BitVec.ofNat 32 n.val else 4#32 := by
    intro n
    pointwise
    rw [hM]
    rfl
  refine Ops.minsi_five _ b k _ (fun i => rfl) _ n0 ?_ ?_
  · rw [hs, if_pos rfl]
  · intro n
    rw [hs]
    have e4 : (4#32).toInt = 4 := by decide
    have hn0 := n0.isLt
    have hn := n.isLt
    split
    · next he =>
      have : ¬ n < n0 := fun hlt => absurd (h2 n hlt) (by rw [he]; exact lt_irrefl _)
      rw [Ops.toInt_small _ (by omega), Ops.toInt_small _ (by omega)]
      have : n0.val ≤ n.val := not_lt.1 this
      omega
    · rw [e4, Ops.toInt_small _ (by omega)]
      omega

omit R in
/-- A column or a row is one of thirty-eight. -/
theorem cell_lt (v : EReal) : (Loss.cell v).toNat < 38 := by
  unfold Loss.cell
  generalize Ideal.fptosi 32 v = z
  have e0 : (0#32).toInt = 0 := by decide
  have e37 : (37#32).toInt = 37 := by decide
  have hm : ∀ u : BitVec 32, 0 ≤ u.toInt → (IntOp.minsi 37#32 u).toNat < 38 := by
    intro u hu
    have hz := BitVec.toInt_eq_toNat_cond u
    have hb := u.isLt
    unfold IntOp.minsi
    split
    · decide
    · next h =>
      rw [BitVec.slt_iff_toInt_lt] at h
      split at hz <;> omega
  apply hm
  unfold IntOp.maxsi
  split
  · decide
  · next h =>
    rw [BitVec.slt_iff_toInt_lt] at h
    omega

/-- The number of a present box's cell. -/
theorem place_eq (b : Fin 64) (k : Fin 50) (hp : rW V0 b k 1 ≠ 0) (n0 : Fin 5) (e : Loss.bn (rA V0) (rW V0 b k) = BitVec.ofNat 32 n0.val) :
    (Loss.place (rA V0) (rW V0 b k)).toNat = n0.val * 1444 + (Loss.cell (Loss.gy (rW V0 b k))).toNat * 38 + (Loss.cell (Loss.gx (rW V0 b k))).toNat := by
  unfold Loss.place
  rw [e]
  have h1 := cell_lt (Loss.gx (rW V0 b k))
  have h2 := cell_lt (Loss.gy (rW V0 b k))
  have h3 := n0.isLt
  simp only [BitVec.toNat_add, BitVec.toNat_mul, BitVec.toNat_ofNat]
  omega

/-- The word by which a present box's entry is found, and an absent box's. -/
theorem v253_present (b : Fin 64) (k : Fin 50) (q : Fin 3200) (hq : q.val = b.val * 50 + k.val) :
    ((res_main_v253 V0 : IVec S3200 32) (ix1 q)).toInt
      = if rW V0 b k 1 ≠ 0 then ((b.val * 7220 + (Loss.place (rA V0) (rW V0 b k)).toNat : ℕ) : Int) else 462080 := by
  rw [v253_at V0 b k q hq, v66_at V0 R b k]
  by_cases hp : rW V0 b k 1 ≠ 0
  · obtain ⟨e1, n0, e2⟩ := v233_at V0 R b k hp
    rw [if_pos hp, if_pos zero_lt_one, if_pos hp, v249_at, e1, place_eq V0 R b k hp n0 e2, e2]
    exact flat_int b.val n0.val _ _ b.isLt n0.isLt (cell_lt _) (cell_lt _)
  · rw [if_neg hp, if_neg (lt_irrefl _), if_neg hp]
    decide

end Cert.ReferenceIdeal.Value

end
-- ==== Proof.ReferenceScatter.lean ====
/- What the reference's scatters leave in a cell, and what its gathers fetch for a present box. -/
module

public import proofs.«01_k».proof.Proof.ReferenceIndex

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

variable (V0 : Valuation τ sig (Elt Ideal)) (R : Loss.Reg (rO V0) (rT V0) (rA V0))

/-- The slots of the boxes, as the scatters take them. -/
def slots : IVec S3200x1 32 :=
  broadcastInDim S3200x1 ![0] bcast_S3200_S3200x1_0 (select (cmpi .slt (res_main_v253 V0) (broadcastInDim S3200 ![] bcast_S_S3200 (constantI S_ 32 0#32))) (addi (res_main_v253 V0) (broadcastInDim S3200 ![] bcast_S_S3200 (constantI S_ 32 462080#32))) (res_main_v253 V0))

/-- What is left in a cell of the values of the boxes. -/
abbrev scat {α : Type} (x : S462080.Idx → α) (u : S3200.Idx → α) : S462080.Idx → α :=
  Host.scatter scatter_S462080_S3200x1_S3200_n_0_0_1 (fun _ b => b) x (slots V0) u

/-- A word not below zero is not moved. -/
theorem sel_nonneg (z w : BitVec 32) (h : 0 ≤ z.toInt) : Scalar.select (IntOp.cmpi .slt z 0#32) w z = z := by
  refine if_neg ?_
  show ¬ BitVec.ofBool (z.slt 0#32) = 1#1
  have e0 : (0#32).toInt = 0 := by decide
  have h0 : z.slt 0#32 = false := by
    rw [Bool.eq_false_iff, ne_eq, BitVec.slt_iff_toInt_lt]
    omega
  rw [h0]
  decide

include R

theorem slots_at (q : Fin 3200) : slots V0 (ix2 q 0) = (res_main_v253 V0 : IVec S3200 32) (ix1 q) := by
  have hq := q.isLt
  have h := v253_present V0 R ⟨q.val / 50, by omega⟩ ⟨q.val % 50, by omega⟩ q (by show _ = q.val / 50 * 50 + q.val % 50; omega)
  unfold slots
  generalize (res_main_v253 V0 : IVec S3200 32) = x at h ⊢
  pointwise
  refine sel_nonneg _ _ ?_
  rw [h]
  split <;> omega

theorem slot_int (q : Fin 3200) (b : Fin 64) (k : Fin 50) (hq : q.val = b.val * 50 + k.val) :
    (slots V0 (ix2 q 0)).toInt = if rW V0 b k 1 ≠ 0 then ((b.val * 7220 + (Loss.place (rA V0) (rW V0 b k)).toNat : ℕ) : Int) else 462080 := by
  rw [slots_at V0 R, v253_present V0 R b k q hq]

theorem place_lt (b : Fin 64) (k : Fin 50) (hp : rW V0 b k 1 ≠ 0) : (Loss.place (rA V0) (rW V0 b k)).toNat < 7220 := by
  obtain ⟨-, n0, e2⟩ := v233_at V0 R b k hp
  rw [place_eq V0 R b k hp n0 e2]
  have h1 := cell_lt (Loss.gx (rW V0 b k))
  have h2 := cell_lt (Loss.gy (rW V0 b k))
  have h3 := n0.isLt
  omega

/-- Two present boxes of an image with one cell are one box. -/
theorem place_inj (b : Fin 64) (k l : Fin 50) (hk : rW V0 b k 1 ≠ 0) (hl : rW V0 b l 1 ≠ 0)
    (h : (Loss.place (rA V0) (rW V0 b k)).toNat = (Loss.place (rA V0) (rW V0 b l)).toNat) : k = l := by
  obtain ⟨-, n0, e2⟩ := v233_at V0 R b k hk
  obtain ⟨-, n1, e3⟩ := v233_at V0 R b l hl
  rw [place_eq V0 R b k hk n0 e2, place_eq V0 R b l hl n1 e3] at h
  have h1 := cell_lt (Loss.gx (rW V0 b k))
  have h2 := cell_lt (Loss.gy (rW V0 b k))
  have h3 := cell_lt (Loss.gx (rW V0 b l))
  have h4 := cell_lt (Loss.gy (rW V0 b l))
  have h5 := n0.isLt
  have h6 := n1.isLt
  have ex : Loss.cell (Loss.gx (rW V0 b k)) = Loss.cell (Loss.gx (rW V0 b l)) := BitVec.eq_of_toNat_eq (by omega)
  have ey : Loss.cell (Loss.gy (rW V0 b k)) = Loss.cell (Loss.gy (rW V0 b l)) := BitVec.eq_of_toNat_eq (by omega)
  rcases lt_trichotomy k l with hh | hh | hh
  · exact absurd (R.cells b k l hh ex ey) hl
  · exact hh
  · exact absurd (R.cells b l k hh ex.symm ey.symm) hk

/-- A cell a present box falls in holds that box's value. -/
theorem scat_hit {α : Type} (x : S462080.Idx → α) (u : S3200.Idx → α) (b : Fin 64) (k : Fin 50) (e : ℕ) (n : Fin 462080) (q : Fin 3200)
    (hn : n.val = b.val * 7220 + e) (hq : q.val = b.val * 50 + k.val) (hp : rW V0 b k 1 ≠ 0)
    (he : (Loss.place (rA V0) (rW V0 b k)).toNat = e) : scat V0 x u (ix1 n) = u (ix1 q) := by
  have hpl := place_lt V0 R b k hp
  apply Ops.scatter_hit
  · rw [slot_int V0 R q b k hq, if_pos hp, he, hn]
  · intro q' h
    have hq' := q'.isLt
    rw [slot_int V0 R q' ⟨q'.val / 50, by omega⟩ ⟨q'.val % 50, by omega⟩ (by show _ = q'.val / 50 * 50 + q'.val % 50; omega)] at h
    have hb := b.isLt
    split at h
    · next hp' =>
      have hpl' := place_lt V0 R _ _ hp'
      have h' : q'.val / 50 * 7220 + (Loss.place (rA V0) (rW V0 ⟨q'.val / 50, by omega⟩ ⟨q'.val % 50, by omega⟩)).toNat = n.val := by exact_mod_cast h
      have e1 : q'.val / 50 = b.val := by omega
      have e2 : (⟨q'.val / 50, by omega⟩ : Fin 64) = b := Fin.ext e1
      rw [e2] at h' hp'
      have e3 := place_inj V0 R b _ k hp' hp (by omega)
      have e4 : q'.val % 50 = k.val := congrArg Fin.val e3
      apply Fin.ext
      omega
    · omega

/-- A cell no present box falls in keeps what it held. -/
theorem scat_miss {α : Type} (x : S462080.Idx → α) (u : S3200.Idx → α) (b : Fin 64) (e : ℕ) (n : Fin 462080)
    (hn : n.val = b.val * 7220 + e) (hlt : e < 7220)
    (he : ∀ k, rW V0 b k 1 ≠ 0 → (Loss.place (rA V0) (rW V0 b k)).toNat ≠ e) : scat V0 x u (ix1 n) = x (ix1 n) := by
  apply Ops.scatter_miss
  intro q' h
  have hq' := q'.isLt
  rw [slot_int V0 R q' ⟨q'.val / 50, by omega⟩ ⟨q'.val % 50, by omega⟩ (by show _ = q'.val / 50 * 50 + q'.val % 50; omega)] at h
  have hb := b.isLt
  split at h
  · next hp' =>
    have hpl' := place_lt V0 R _ _ hp'
    have h' : q'.val / 50 * 7220 + (Loss.place (rA V0) (rW V0 ⟨q'.val / 50, by omega⟩ ⟨q'.val % 50, by omega⟩)).toNat = n.val := by exact_mod_cast h
    have e1 : q'.val / 50 = b.val := by omega
    have e2 : (⟨q'.val / 50, by omega⟩ : Fin 64) = b := Fin.ext e1
    rw [e2] at h' hp'
    exact he _ hp' (by omega)
  · omega

/-- The prediction fetched for a present box is that of its cell. -/
theorem v262_at (b : Fin 64) (k : Fin 50) (e : Fin 7220) (f : Fin 4) (hp : rW V0 b k 1 ≠ 0)
    (he : (Loss.place (rA V0) (rW V0 b k)).toNat = e.val) :
    ((res_main_v262 V0 : FVec Ideal S64x50x4 .f32) (ix3 b k f) : EReal) = (res_main_v59 V0 : FVec Ideal S64x7220x4 .f32) (ix3 b e f) := by
  have hb := b.isLt
  have hk := k.isLt
  have hee := e.isLt
  obtain ⟨e1, n0, e2⟩ := v233_at V0 R b k hp
  have h249 : ((res_main_v249 V0 : IVec S64x50 32) (ix2 b k)) = BitVec.ofNat 32 (b.val * 7220 + e.val) := by
    have h := v253_present V0 R b k ⟨b.val * 50 + k.val, by omega⟩ rfl
    rw [v253_at V0 b k _ rfl, v66_at V0 R, if_pos hp, if_pos zero_lt_one, if_pos hp, he] at h
    apply BitVec.eq_of_toInt_eq
    refine h.trans ?_
    rw [Ops.toInt_small _ (by omega)]
  unfold res_main_v262 res_main_v255
  generalize (res_main_v249 V0 : IVec S64x50 32) = x at h249 ⊢
  rw [Ops.gather_pred _ _ b k f ⟨b.val * 7220 + e.val, by omega⟩ ?_]
  · generalize (res_main_v59 V0 : FVec Ideal S64x7220x4 .f32) = y
    pointwise
  · pointwise
    rw [h249]
    have i0 : (0#32).toInt = 0 := by decide
    have i1 : (462079#32).toInt = 462079 := by decide
    have hz : (BitVec.ofNat 32 (b.val * 7220 + e.val)).toInt = ((b.val * 7220 + e.val : ℕ) : Int) := Ops.toInt_small _ (by omega)
    generalize BitVec.ofNat 32 (b.val * 7220 + e.val) = z at hz ⊢
    have m1 : IntOp.maxsi 0#32 z = z := by
      unfold IntOp.maxsi
      rw [if_neg]
      rw [BitVec.slt_iff_toInt_lt]
      omega
    have m2 : IntOp.minsi 462079#32 z = z := by
      unfold IntOp.minsi
      split
      · next h => rw [BitVec.slt_iff_toInt_lt] at h; omega
      · rfl
    have m : IntOp.minsi (id (constantI S_ 32 462079#32) ix0) (IntOp.maxsi (id (constantI S_ 32 0#32) ix0) z) = z := by
      show IntOp.minsi 462079#32 (IntOp.maxsi 0#32 z) = z
      rw [m1, m2]
    rw [m]
    exact sel_nonneg _ _ (by omega)

end Cert.ReferenceIdeal.Value

end
-- ==== Proof.ReferenceOverlap.lean ====
/- The overlaps the reference computes: of every cell with every box, and of every present box with its own cell. -/
module

public import proofs.«01_k».proof.Proof.ReferenceScatter

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

variable (V0 : Valuation τ sig (Elt Ideal))

/-- The word of zero. -/
theorem zero_word : Ideal.ofBits .f32 0x00000000#32 = 0 := by simp [Ideal.ofBits, Ideal.ieee]

/-- A common area over what the two boxes cover. -/
def over (z p q g h : EReal) : EReal := Ideal.div z (p * q + g * h - z)

theorem v87_at0 (b : Fin 64) (k : Fin 50) : ((res_main_v87 V0 : FVec Ideal S64x50x4 .f32) (ix3 b k 0) : EReal) = Loss.gx (rW V0 b k) := by
  rw [← v70_at]
  unfold res_main_v87
  generalize (res_main_v70 V0 : FVec Ideal S64x50 .f32) = x0
  generalize (res_main_v74 V0 : FVec Ideal S64x50 .f32) = x1
  generalize (res_main_v78 V0 : FVec Ideal S64x50 .f32) = x2
  generalize (res_main_v82 V0 : FVec Ideal S64x50 .f32) = x3
  pointwise
theorem v87_at1 (b : Fin 64) (k : Fin 50) : ((res_main_v87 V0 : FVec Ideal S64x50x4 .f32) (ix3 b k 1) : EReal) = Loss.gy (rW V0 b k) := by
  rw [← v74_at]
  unfold res_main_v87
  generalize (res_main_v70 V0 : FVec Ideal S64x50 .f32) = x0
  generalize (res_main_v74 V0 : FVec Ideal S64x50 .f32) = x1
  generalize (res_main_v78 V0 : FVec Ideal S64x50 .f32) = x2
  generalize (res_main_v82 V0 : FVec Ideal S64x50 .f32) = x3
  pointwise
theorem v87_at2 (b : Fin 64) (k : Fin 50) : ((res_main_v87 V0 : FVec Ideal S64x50x4 .f32) (ix3 b k 2) : EReal) = Loss.gw (rW V0 b k) := by
  rw [← v78_at]
  unfold res_main_v87
  generalize (res_main_v70 V0 : FVec Ideal S64x50 .f32) = x0
  generalize (res_main_v74 V0 : FVec Ideal S64x50 .f32) = x1
  generalize (res_main_v78 V0 : FVec Ideal S64x50 .f32) = x2
  generalize (res_main_v82 V0 : FVec Ideal S64x50 .f32) = x3
  pointwise
theorem v87_at3 (b : Fin 64) (k : Fin 50) : ((res_main_v87 V0 : FVec Ideal S64x50x4 .f32) (ix3 b k 3) : EReal) = Loss.gh (rW V0 b k) := by
  rw [← v82_at]
  unfold res_main_v87
  generalize (res_main_v70 V0 : FVec Ideal S64x50 .f32) = x0
  generalize (res_main_v74 V0 : FVec Ideal S64x50 .f32) = x1
  generalize (res_main_v78 V0 : FVec Ideal S64x50 .f32) = x2
  generalize (res_main_v82 V0 : FVec Ideal S64x50 .f32) = x3
  pointwise

/-- The common length of a cell's predicted box and a box, along the columns. -/
theorem v170_at (b : Fin 64) (e : Fin 7220) (k : Fin 50) : ((res_main_v170 V0 : FVec Ideal S64x7220x50 .f32) (ix3 b e k) : EReal)
    = Loss.cut (pred (rP V0 b e) 0) (pred (rP V0 b e) 2) (Loss.gx (rW V0 b k)) (Loss.gw (rW V0 b k)) := by
  rw [← v59_at0, ← v59_at2, ← v87_at0, ← v87_at2]
  unfold res_main_v170 res_main_v159 res_main_v163 res_main_v88 res_main_v89
  generalize (res_main_v59 V0 : FVec Ideal S64x7220x4 .f32) = x
  generalize (res_main_v87 V0 : FVec Ideal S64x50x4 .f32) = y
  pointwise
  rfl
/-- The common length of a cell's predicted box and a box, along the rows. -/
theorem v175_at (b : Fin 64) (e : Fin 7220) (k : Fin 50) : ((res_main_v175 V0 : FVec Ideal S64x7220x50 .f32) (ix3 b e k) : EReal)
    = Loss.cut (pred (rP V0 b e) 1) (pred (rP V0 b e) 3) (Loss.gy (rW V0 b k)) (Loss.gh (rW V0 b k)) := by
  rw [← v59_at1, ← v59_at3, ← v87_at1, ← v87_at3]
  unfold res_main_v175 res_main_v161 res_main_v165 res_main_v88 res_main_v89
  generalize (res_main_v59 V0 : FVec Ideal S64x7220x4 .f32) = x
  generalize (res_main_v87 V0 : FVec Ideal S64x50x4 .f32) = y
  pointwise
  rfl
/-- The common area of a cell's predicted box and a box. -/
theorem v182_at (b : Fin 64) (e : Fin 7220) (k : Fin 50) : ((res_main_v182 V0 : FVec Ideal S64x7220x50 .f32) (ix3 b e k) : EReal)
    = Loss.inter ((res_main_v170 V0 : FVec Ideal S64x7220x50 .f32) (ix3 b e k)) ((res_main_v175 V0 : FVec Ideal S64x7220x50 .f32) (ix3 b e k)) := by
  unfold res_main_v182
  generalize (res_main_v170 V0 : FVec Ideal S64x7220x50 .f32) = x
  generalize (res_main_v175 V0 : FVec Ideal S64x7220x50 .f32) = y
  pointwise
  show Scalar.select _ (Ideal.ofBits .f32 0#32) _ = _
  rw [zero_word]
  rfl
/-- The overlap of a cell's predicted box and a box. -/
theorem iou_at (b : Fin 64) (e : Fin 7220) (k : Fin 50) :
    ((Host.divf (res_main_v182 V0) (subf (addf (broadcastInDim S64x7220x50 ![0, 1, 2] bcast_S64x7220x1_S64x7220x50_0_1_2 (mulf (res_main_v159 V0) (res_main_v161 V0))) (broadcastInDim S64x7220x50 ![0, 1, 2] bcast_S64x1x50_S64x7220x50_0_1_2 (mulf (res_main_v163 V0) (res_main_v165 V0)))) (res_main_v182 V0)) : FVec Ideal S64x7220x50 .f32) (ix3 b e k) : EReal)
      = (rP V0 b e).iou (rW V0 b k) := by
  have h : ((Host.divf (res_main_v182 V0) (subf (addf (broadcastInDim S64x7220x50 ![0, 1, 2] bcast_S64x7220x1_S64x7220x50_0_1_2 (mulf (res_main_v159 V0) (res_main_v161 V0))) (broadcastInDim S64x7220x50 ![0, 1, 2] bcast_S64x1x50_S64x7220x50_0_1_2 (mulf (res_main_v163 V0) (res_main_v165 V0)))) (res_main_v182 V0)) : FVec Ideal S64x7220x50 .f32) (ix3 b e k) : EReal)
      = over ((res_main_v182 V0 : FVec Ideal S64x7220x50 .f32) (ix3 b e k)) ((res_main_v59 V0 : FVec Ideal S64x7220x4 .f32) (ix3 b e 2)) ((res_main_v59 V0 : FVec Ideal S64x7220x4 .f32) (ix3 b e 3)) ((res_main_v87 V0 : FVec Ideal S64x50x4 .f32) (ix3 b k 2)) ((res_main_v87 V0 : FVec Ideal S64x50x4 .f32) (ix3 b k 3)) := by
    generalize (res_main_v182 V0 : FVec Ideal S64x7220x50 .f32) = z
    unfold res_main_v159 res_main_v161 res_main_v163 res_main_v165 res_main_v88 res_main_v89
    generalize (res_main_v59 V0 : FVec Ideal S64x7220x4 .f32) = x
    generalize (res_main_v87 V0 : FVec Ideal S64x50x4 .f32) = y
    pointwise
    unfold over
    try rfl
  rw [h, v182_at, v170_at, v175_at, v59_at2, v59_at3, v87_at2, v87_at3]
  rfl

variable (R : Loss.Reg (rO V0) (rT V0) (rA V0))

include R

theorem v262_pred (b : Fin 64) (k : Fin 50) (e : Fin 7220) (f : Fin 4) (hp : rW V0 b k 1 ≠ 0)
    (he : (Loss.place (rA V0) (rW V0 b k)).toNat = e.val) :
    ((res_main_v262 V0 : FVec Ideal S64x50x4 .f32) (ix3 b k f) : EReal) = pred (rP V0 b e) f := by
  rw [v262_at V0 R b k e f hp he]
  match f with
  | 0 => exact v59_at0 V0 b e
  | 1 => exact v59_at1 V0 b e
  | 2 => exact v59_at2 V0 b e
  | 3 => exact v59_at3 V0 b e

/-- The overlap of a present box with its own cell's predicted box. -/
theorem own_at (b : Fin 64) (k : Fin 50) (e : Fin 7220) (hp : rW V0 b k 1 ≠ 0)
    (he : (Loss.place (rA V0) (rW V0 b k)).toNat = e.val) :
    ((Host.divf (res_main_v343 V0) (subf (addf (mulf (res_main_v324 V0) (res_main_v326 V0)) (mulf (res_main_v328 V0) (res_main_v330 V0))) (res_main_v343 V0)) : FVec Ideal S64x50 .f32) (ix2 b k) : EReal)
      = (rP V0 b e).iou (rW V0 b k) := by
  have a0 := v262_pred V0 R b k e 0 hp he
  have a1 := v262_pred V0 R b k e 1 hp he
  have a2 := v262_pred V0 R b k e 2 hp he
  have a3 := v262_pred V0 R b k e 3 hp he
  have h333 : ((res_main_v333 V0 : FVec Ideal S64x50 .f32) (ix2 b k) : EReal)
      = Loss.cut (Loss.gx (rW V0 b k)) (Loss.gw (rW V0 b k)) (pred (rP V0 b e) 0) (pred (rP V0 b e) 2) := by
    rw [← a0, ← a2, ← v87_at0, ← v87_at2]
    unfold res_main_v333 res_main_v324 res_main_v328
    generalize (res_main_v262 V0 : FVec Ideal S64x50x4 .f32) = x
    generalize (res_main_v87 V0 : FVec Ideal S64x50x4 .f32) = y
    pointwise
    rfl
  have h336 : ((res_main_v336 V0 : FVec Ideal S64x50 .f32) (ix2 b k) : EReal)
      = Loss.cut (Loss.gy (rW V0 b k)) (Loss.gh (rW V0 b k)) (pred (rP V0 b e) 1) (pred (rP V0 b e) 3) := by
    rw [← a1, ← a3, ← v87_at1, ← v87_at3]
    unfold res_main_v336 res_main_v326 res_main_v330
    generalize (res_main_v262 V0 : FVec Ideal S64x50x4 .f32) = x
    generalize (res_main_v87 V0 : FVec Ideal S64x50x4 .f32) = y
    pointwise
    rfl
  have h343 : ((res_main_v343 V0 : FVec Ideal S64x50 .f32) (ix2 b k) : EReal)
      = Loss.inter ((res_main_v333 V0 : FVec Ideal S64x50 .f32) (ix2 b k)) ((res_main_v336 V0 : FVec Ideal S64x50 .f32) (ix2 b k)) := by
    unfold res_main_v343
    generalize (res_main_v333 V0 : FVec Ideal S64x50 .f32) = x
    generalize (res_main_v336 V0 : FVec Ideal S64x50 .f32) = y
    pointwise
    show Scalar.select _ (Ideal.ofBits .f32 0#32) _ = _
    rw [zero_word]
    rfl
  have h : ((Host.divf (res_main_v343 V0) (subf (addf (mulf (res_main_v324 V0) (res_main_v326 V0)) (mulf (res_main_v328 V0) (res_main_v330 V0))) (res_main_v343 V0)) : FVec Ideal S64x50 .f32) (ix2 b k) : EReal)
      = over ((res_main_v343 V0 : FVec Ideal S64x50 .f32) (ix2 b k)) ((res_main_v87 V0 : FVec Ideal S64x50x4 .f32) (ix3 b k 2)) ((res_main_v87 V0 : FVec Ideal S64x50x4 .f32) (ix3 b k 3)) ((res_main_v262 V0 : FVec Ideal S64x50x4 .f32) (ix3 b k 2)) ((res_main_v262 V0 : FVec Ideal S64x50x4 .f32) (ix3 b k 3)) := by
    generalize (res_main_v343 V0 : FVec Ideal S64x50 .f32) = z
    unfold res_main_v324 res_main_v326 res_main_v328 res_main_v330
    generalize (res_main_v262 V0 : FVec Ideal S64x50x4 .f32) = x
    generalize (res_main_v87 V0 : FVec Ideal S64x50x4 .f32) = y
    pointwise
    unfold over
    try rfl
  rw [h, h343, h333, h336, a2, a3, v87_at2, v87_at3]
  unfold over
  rw [Loss.iou_comm]
  rfl

end Cert.ReferenceIdeal.Value

end
-- ==== Proof.ReferenceTarget.lean ====
/- The reference's targets in a cell, with a box in it and without, and the differences it squares. -/
module

public import proofs.«01_k».proof.Proof.ReferenceOverlap

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

/-- The number of a cell in its image. -/
def cellOf (a : Fin 5) (j i : Fin 38) : Fin 7220 := ⟨(a.val * 38 + j.val) * 38 + i.val, by omega⟩
/-- The number of a cell in the batch. -/
def flat (b : Fin 64) (e : Fin 7220) : Fin 462080 := ⟨b.val * 7220 + e.val, by omega⟩
/-- The number of a box in the batch. -/
def slot (b : Fin 64) (k : Fin 50) : Fin 3200 := ⟨b.val * 50 + k.val, by omega⟩

theorem at4 (x : FVec Ideal S462080 .f32) (b : Fin 64) (a : Fin 5) (j i : Fin 38) :
    ((shapeCast S64x5x38x38 x shapeCasts_S462080_S64x5x38x38 : FVec Ideal S64x5x38x38 .f32) (ix4 b a j i) : EReal) = x (ix1 (flat b (cellOf a j i))) := by
  pointwise
  refine congrArg (fun n => (x (ix1 n) : EReal)) (Fin.ext ?_)
  show _ = b.val * 7220 + ((a.val * 38 + j.val) * 38 + i.val)
  simp only [Fin.val_mk]
  omega

theorem at3 (x : FVec Ideal S64x50 .f32) (b : Fin 64) (k : Fin 50) :
    ((shapeCast S3200 x shapeCasts_S64x50_S3200 : FVec Ideal S3200 .f32) (ix1 (slot b k)) : EReal) = x (ix2 b k) := by
  have h1 : (b.val * 50 + k.val) / 50 = b.val := by omega
  have h2 : (b.val * 50 + k.val) % 50 = k.val := by omega
  pointwise
  exact congrArg₂ (fun p q => (x (ix2 p q) : EReal)) (Fin.ext h1) (Fin.ext h2)

theorem ancOf_at (w : BitVec 32) (n0 : Fin 5) (hw : w = BitVec.ofNat 32 n0.val) (A : Fin 10 → EReal) :
    Loss.ancOf A w 0 = A ⟨2 * n0.val, by omega⟩ ∧ Loss.ancOf A w 1 = A ⟨2 * n0.val + 1, by omega⟩ := by
  have hn := n0.isLt
  have ht : w.toNat = n0.val := by rw [hw, BitVec.toNat_ofNat]; omega
  unfold Loss.ancOf
  constructor
  · rw [dif_pos (show 2 * w.toNat + (0 : Fin 2).val < 10 by rw [ht]; show 2 * n0.val + 0 < 10; omega)]
    refine congrArg A (Fin.ext ?_)
    show 2 * w.toNat + 0 = _
    rw [ht]; rfl
  · rw [dif_pos (show 2 * w.toNat + (1 : Fin 2).val < 10 by rw [ht]; show 2 * n0.val + 1 < 10; omega)]
    refine congrArg A (Fin.ext ?_)
    show 2 * w.toNat + 1 = _
    rw [ht]

variable (V0 : Valuation τ sig (Elt Ideal))

theorem rP_L (b : Fin 64) (a : Fin 5) (j i : Fin 38) (c : Fin 25) (h : a.val * 25 + c.val < 125) :
    (rP V0 b (cellOf a j i)).L c = rO V0 b ⟨a.val * 25 + c.val, h⟩ j i := by
  have e1 : (cellOf a j i).val / 1444 = a.val := by show ((a.val * 38 + j.val) * 38 + i.val) / 1444 = a.val; omega
  have e2 : (cellOf a j i).val % 1444 / 38 = j.val := by show ((a.val * 38 + j.val) * 38 + i.val) % 1444 / 38 = j.val; omega
  have e3 : (cellOf a j i).val % 38 = i.val := by show ((a.val * 38 + j.val) * 38 + i.val) % 38 = i.val; omega
  unfold rP Loss.at_
  simp only [e1, e2, e3]

/-- The reference's target of a cell's column offset. -/
def tX : FVec Ideal S462080 .f32 := scat V0 (broadcastInDim S462080 ![] bcast_S_S462080 (constant (F := Ideal) S_ .f32 0x3F000000#32)) (shapeCast S3200 (subf (res_main_v70 V0 : FVec Ideal S64x50 .f32) (sitofp .f32 (res_main_v235 V0 : IVec S64x50 32))) shapeCasts_S64x50_S3200)
/-- The reference's target of a cell's row offset. -/
def tY : FVec Ideal S462080 .f32 := scat V0 (broadcastInDim S462080 ![] bcast_S_S462080 (constant (F := Ideal) S_ .f32 0x3F000000#32)) (shapeCast S3200 (subf (res_main_v74 V0 : FVec Ideal S64x50 .f32) (sitofp .f32 (res_main_v237 V0 : IVec S64x50 32))) shapeCasts_S64x50_S3200)
/-- The number of a box's anchor, as the gathers take it. -/
def ancIdx : IVec S64x50x1 32 := broadcastInDim S64x50x1 ![0, 1] bcast_S64x50_S64x50x1_0_1 (select (cmpi .slt (res_main_v233 V0) (broadcastInDim S64x50 ![] bcast_S_S64x50 (constantI S_ 32 0#32))) (addi (res_main_v233 V0) (broadcastInDim S64x50 ![] bcast_S_S64x50 (constantI S_ 32 5#32))) (res_main_v233 V0))
/-- The reference's target of a cell's width. -/
def tW : FVec Ideal S462080 .f32 := scat V0 (broadcastInDim S462080 ![] bcast_S_S462080 (constant (F := Ideal) S_ .f32 0x00000000#32)) (shapeCast S3200 (Host.log (Host.divf (res_main_v78 V0 : FVec Ideal S64x50 .f32) (Host.gather gather_S5_S64x50x1_S64x50_n_0_n_n_0_2_1 (res_main_v34 V0) (ancIdx V0)))) shapeCasts_S64x50_S3200)
/-- The reference's target of a cell's height. -/
def tH : FVec Ideal S462080 .f32 := scat V0 (broadcastInDim S462080 ![] bcast_S_S462080 (constant (F := Ideal) S_ .f32 0x00000000#32)) (shapeCast S3200 (Host.log (Host.divf (res_main_v82 V0 : FVec Ideal S64x50 .f32) (Host.gather gather_S5_S64x50x1_S64x50_n_0_n_n_0_2_1 (res_main_v37 V0) (ancIdx V0)))) shapeCasts_S64x50_S3200)
/-- The reference's target of a cell's confidence. -/
def tC : FVec Ideal S462080 .f32 := scat V0 (broadcastInDim S462080 ![] bcast_S_S462080 (constant (F := Ideal) S_ .f32 0x00000000#32)) (shapeCast S3200 (Host.divf (res_main_v343 V0 : FVec Ideal S64x50 .f32) (subf (addf (mulf (res_main_v324 V0) (res_main_v326 V0)) (mulf (res_main_v328 V0) (res_main_v330 V0))) (res_main_v343 V0))) shapeCasts_S64x50_S3200)
/-- The reference's class of a cell, as a float. -/
def tK : FVec Ideal S462080 .f32 := scat V0 (broadcastInDim S462080 ![] bcast_S_S462080 (constant (F := Ideal) S_ .f32 0x00000000#32)) (shapeCast S3200 (shapeCast S64x50 (extractStridedSlice (s := S64x50x5) S64x50x1 ![0, 0, 0] (res_main_v60 V0) slices_S64x50x5_S64x50x1_0_0_0) shapeCasts_S64x50x1_S64x50 : FVec Ideal S64x50 .f32) shapeCasts_S64x50_S3200)
/-- The reference's mark of the cells with a box. -/
def tM : FVec Ideal S462080 .f32 := scat V0 (broadcastInDim S462080 ![] bcast_S_S462080 (constant (F := Ideal) S_ .f32 0x00000000#32)) (broadcastInDim S3200 ![] bcast_S_S3200 (constant (F := Ideal) S_ .f32 0x3F800000#32))
/-- The greatest overlap of a cell with a present box. -/
def mO : FVec Ideal S64x7220 .f32 := Host.reduce FloatOps.maximumf (mulf (Host.divf (res_main_v182 V0 : FVec Ideal S64x7220x50 .f32) (subf (addf (broadcastInDim S64x7220x50 ![0, 1, 2] bcast_S64x7220x1_S64x7220x50_0_1_2 (mulf (res_main_v159 V0) (res_main_v161 V0))) (broadcastInDim S64x7220x50 ![0, 1, 2] bcast_S64x1x50_S64x7220x50_0_1_2 (mulf (res_main_v163 V0) (res_main_v165 V0)))) (res_main_v182 V0))) (broadcastInDim S64x7220x50 ![0, 1, 2] bcast_S64x1x50_S64x7220x50_0_1_2 (broadcastInDim S64x1x50 ![0, 2] bcast_S64x50_S64x1x50_0_2 (res_main_v66 V0)))) (constant (F := Ideal) S_ .f32 0xFF800000#32) reducesTo_S64x7220x50_S64x7220_d2 h_S_
/-- The weight of a cell without a box: nothing above the bound, else one. -/
def wgt (y : FVec Ideal S64x7220 .f32) : FVec Ideal S462080 .f32 := shapeCast S462080 (select (cmpf .ogt y (broadcastInDim S64x7220 ![] bcast_S_S64x7220 (constant (F := Ideal) S_ .f32 0x3F19999A#32))) (broadcastInDim S64x7220 ![] bcast_S_S64x7220 (constant (F := Ideal) S_ .f32 0x00000000#32)) (broadcastInDim S64x7220 ![] bcast_S_S64x7220 (constant (F := Ideal) S_ .f32 0x3F800000#32)) : FVec Ideal S64x7220 .f32) shapeCasts_S64x7220_S462080
/-- The weights of the cells' confidences, before their root. -/
def tS : FVec Ideal S462080 .f32 := scat V0 (wgt (mO V0)) (broadcastInDim S3200 ![] bcast_S_S3200 (constant (F := Ideal) S_ .f32 0x40A00000#32))

/-- A value and its target, both weighted, and their difference. -/
def dif (v t m : EReal) : EReal := v * m - t * m

variable (R : Loss.Reg (rO V0) (rT V0) (rA V0))

section hit
include R
variable (b : Fin 64) (k : Fin 50) (e : Fin 7220) (hp : rW V0 b k 1 ≠ 0) (he : (Loss.place (rA V0) (rW V0 b k)).toNat = e.val)
include hp he

theorem tX_hit : (tX V0 (ix1 (flat b e)) : EReal) = Loss.gx (rW V0 b k) - Loss.ofInt (Loss.cell (Loss.gx (rW V0 b k))) := by
  unfold tX
  rw [scat_hit V0 R _ _ b k e.val _ (slot b k) rfl rfl hp he, at3]
  have h1 := v70_at V0 b k
  have h2 := v235_at V0 b k
  generalize (res_main_v70 V0 : FVec Ideal S64x50 .f32) = x at h1 ⊢
  generalize (res_main_v235 V0 : IVec S64x50 32) = y at h2 ⊢
  exact congrArg₂ (fun u (v : BitVec 32) => u - Loss.ofInt v) h1 h2

theorem tY_hit : (tY V0 (ix1 (flat b e)) : EReal) = Loss.gy (rW V0 b k) - Loss.ofInt (Loss.cell (Loss.gy (rW V0 b k))) := by
  unfold tY
  rw [scat_hit V0 R _ _ b k e.val _ (slot b k) rfl rfl hp he, at3]
  have h1 := v74_at V0 b k
  have h2 := v237_at V0 b k
  generalize (res_main_v74 V0 : FVec Ideal S64x50 .f32) = x at h1 ⊢
  generalize (res_main_v237 V0 : IVec S64x50 32) = y at h2 ⊢
  exact congrArg₂ (fun u (v : BitVec 32) => u - Loss.ofInt v) h1 h2

omit he in
theorem ancIdx_at (n0 : Fin 5) (e2 : Loss.bn (rA V0) (rW V0 b k) = BitVec.ofNat 32 n0.val) : ancIdx V0 (ix3 b k 0) = BitVec.ofNat 32 n0.val := by
  obtain ⟨e1, -⟩ := v233_at V0 R b k hp
  rw [e2] at e1
  unfold ancIdx
  generalize (res_main_v233 V0 : IVec S64x50 32) = y at e1 ⊢
  pointwise
  rw [e1]
  exact sel_nonneg _ _ (by rw [Ops.toInt_small _ (by omega)]; omega)

theorem tW_hit : (tW V0 (ix1 (flat b e)) : EReal) = Ideal.log (Ideal.div (Loss.gw (rW V0 b k)) (Loss.ancOf (rA V0) (Loss.bn (rA V0) (rW V0 b k)) 0)) := by
  obtain ⟨-, n0, e2⟩ := v233_at V0 R b k hp
  unfold tW
  rw [scat_hit V0 R _ _ b k e.val _ (slot b k) rfl rfl hp he, at3, (ancOf_at _ n0 e2 (rA V0)).1]
  have h1 := v78_at V0 b k
  have h2 := (Ops.gather_anc (res_main_v34 V0 : FVec Ideal S5 .f32) (ancIdx V0) b k n0 (ancIdx_at V0 R b k hp n0 e2)).trans (v34_at V0 n0)
  generalize (res_main_v78 V0 : FVec Ideal S64x50 .f32) = x at h1 ⊢
  generalize (Host.gather gather_S5_S64x50x1_S64x50_n_0_n_n_0_2_1 (res_main_v34 V0 : FVec Ideal S5 .f32) (ancIdx V0) : FVec Ideal S64x50 .f32) = y at h2 ⊢
  exact congrArg₂ (fun u v : EReal => Ideal.log (Ideal.div u v)) h1 h2

theorem tH_hit : (tH V0 (ix1 (flat b e)) : EReal) = Ideal.log (Ideal.div (Loss.gh (rW V0 b k)) (Loss.ancOf (rA V0) (Loss.bn (rA V0) (rW V0 b k)) 1)) := by
  obtain ⟨-, n0, e2⟩ := v233_at V0 R b k hp
  unfold tH
  rw [scat_hit V0 R _ _ b k e.val _ (slot b k) rfl rfl hp he, at3, (ancOf_at _ n0 e2 (rA V0)).2]
  have h1 := v82_at V0 b k
  have h2 := (Ops.gather_anc (res_main_v37 V0 : FVec Ideal S5 .f32) (ancIdx V0) b k n0 (ancIdx_at V0 R b k hp n0 e2)).trans (v37_at V0 n0)
  generalize (res_main_v82 V0 : FVec Ideal S64x50 .f32) = x at h1 ⊢
  generalize (Host.gather gather_S5_S64x50x1_S64x50_n_0_n_n_0_2_1 (res_main_v37 V0 : FVec Ideal S5 .f32) (ancIdx V0) : FVec Ideal S64x50 .f32) = y at h2 ⊢
  exact congrArg₂ (fun u v : EReal => Ideal.log (Ideal.div u v)) h1 h2

theorem tC_hit : (tC V0 (ix1 (flat b e)) : EReal) = (rP V0 b e).iou (rW V0 b k) := by
  unfold tC
  rw [scat_hit V0 R _ _ b k e.val _ (slot b k) rfl rfl hp he, at3]
  exact own_at V0 R b k e hp he

theorem tK_hit : (tK V0 (ix1 (flat b e)) : EReal) = rW V0 b k 0 := by
  unfold tK
  rw [scat_hit V0 R _ _ b k e.val _ (slot b k) rfl rfl hp he, at3]
  have h := v60_at V0 b k 0
  generalize (res_main_v60 V0 : FVec Ideal S64x50x5 .f32) = x at h ⊢
  pointwise
  exact h

theorem tM_hit : (tM V0 (ix1 (flat b e)) : EReal) = Ideal.ofBits .f32 0x3F800000#32 := by
  unfold tM
  rw [scat_hit V0 R _ _ b k e.val _ (slot b k) rfl rfl hp he]
  rfl

theorem tS_hit : (tS V0 (ix1 (flat b e)) : EReal) = Ideal.ofBits .f32 0x40A00000#32 := by
  unfold tS
  rw [scat_hit V0 R _ _ b k e.val _ (slot b k) rfl rfl hp he]
  rfl

end hit

section miss
include R
variable (b : Fin 64) (e : Fin 7220) (he : ∀ k, rW V0 b k 1 ≠ 0 → (Loss.place (rA V0) (rW V0 b k)).toNat ≠ e.val)
include he

theorem tX_miss : (tX V0 (ix1 (flat b e)) : EReal) = Loss.kHalf := by
  unfold tX
  rw [scat_miss V0 R _ _ b e.val _ rfl e.isLt he]
  rfl
theorem tY_miss : (tY V0 (ix1 (flat b e)) : EReal) = Loss.kHalf := by
  unfold tY
  rw [scat_miss V0 R _ _ b e.val _ rfl e.isLt he]
  rfl
theorem tW_miss : (tW V0 (ix1 (flat b e)) : EReal) = 0 := by
  unfold tW
  rw [scat_miss V0 R _ _ b e.val _ rfl e.isLt he]
  exact zero_word
theorem tH_miss : (tH V0 (ix1 (flat b e)) : EReal) = 0 := by
  unfold tH
  rw [scat_miss V0 R _ _ b e.val _ rfl e.isLt he]
  exact zero_word
theorem tC_miss : (tC V0 (ix1 (flat b e)) : EReal) = 0 := by
  unfold tC
  rw [scat_miss V0 R _ _ b e.val _ rfl e.isLt he]
  exact zero_word
theorem tK_miss : (tK V0 (ix1 (flat b e)) : EReal) = 0 := by
  unfold tK
  rw [scat_miss V0 R _ _ b e.val _ rfl e.isLt he]
  exact zero_word
theorem tM_miss : (tM V0 (ix1 (flat b e)) : EReal) = 0 := by
  unfold tM
  rw [scat_miss V0 R _ _ b e.val _ rfl e.isLt he]
  exact zero_word

end miss

/-- The greatest overlap exceeds a bound not below zero exactly where some present box's does. -/
theorem mO_le (hR : Loss.Reg (rO V0) (rT V0) (rA V0)) (b : Fin 64) (e : Fin 7220) (c : EReal) :
    (mO V0 (ix2 b e) : EReal) ≤ c ↔ ∀ k, (rP V0 b e).iou (rW V0 b k) * (if rW V0 b k 1 ≠ 0 then (1 : EReal) else (0 : EReal)) ≤ c := by
  have hx := fun k => iou_at V0 b e k
  have hv := fun k => v66_at V0 hR b k
  unfold mO
  generalize (Host.divf (res_main_v182 V0 : FVec Ideal S64x7220x50 .f32) (subf (addf (broadcastInDim S64x7220x50 ![0, 1, 2] bcast_S64x7220x1_S64x7220x50_0_1_2 (mulf (res_main_v159 V0) (res_main_v161 V0))) (broadcastInDim S64x7220x50 ![0, 1, 2] bcast_S64x1x50_S64x7220x50_0_1_2 (mulf (res_main_v163 V0) (res_main_v165 V0)))) (res_main_v182 V0)) : FVec Ideal S64x7220x50 .f32) = x at hx ⊢
  generalize (res_main_v66 V0 : FVec Ideal S64x50 .f32) = v at hv ⊢
  have hy : ∀ k, ((mulf x (broadcastInDim S64x7220x50 ![0, 1, 2] bcast_S64x1x50_S64x7220x50_0_1_2 (broadcastInDim S64x1x50 ![0, 2] bcast_S64x50_S64x1x50_0_2 v)) : FVec Ideal S64x7220x50 .f32) (ix3 b e k) : EReal) = (rP V0 b e).iou (rW V0 b k) * (if rW V0 b k 1 ≠ 0 then (1 : EReal) else (0 : EReal)) := by
    intro k
    pointwise
    exact congrArg₂ (fun u v : EReal => u * v) (hx k) (hv k)
  generalize (mulf x (broadcastInDim S64x7220x50 ![0, 1, 2] bcast_S64x1x50_S64x7220x50_0_1_2 (broadcastInDim S64x1x50 ![0, 2] bcast_S64x50_S64x1x50_0_2 v)) : FVec Ideal S64x7220x50 .f32) = y at hy ⊢
  have hd : ∀ i : S64x7220x50.Idx, (reducesTo_S64x7220x50_S64x7220_d2).drop i = ix2 b e ↔ ∃ n : Fin 50, ix3 b e n = i := by
    intro i
    refine (Shape.ReducesTo.fiber_r3_a2 (n0 := 64) (n1 := 7220) (n2 := 50) reducesTo_S64x7220x50_S64x7220_d2 (ix2 b e) i).trans ?_
    rfl
  pointwise
  refine (Finset.fold_max_le _).trans ⟨fun h k => ?_, fun h => ⟨?_, ?_⟩⟩
  · rw [← hy k]
    exact h.2 _ (Finset.mem_filter.2 ⟨Finset.mem_univ _, (hd _).2 ⟨k, rfl⟩⟩)
  · rw [ofBits_ninf]
    exact bot_le
  · intro i hi
    obtain ⟨n, rfl⟩ := (hd i).1 (Finset.mem_filter.1 hi).2
    exact (hy n).trans_le (h n)

end Cert.ReferenceIdeal.Value

end
-- ==== Proof.ReferenceWeight.lean ====
/- The weight of the confidence of a cell without a box. -/
module

public import proofs.«01_k».proof.Proof.ReferenceTarget

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

theorem one_word : Ideal.ofBits .f32 0x3F800000#32 = 1 := by simp [Ideal.ofBits, Ideal.ieee, -EReal.coe_mul]; norm_num

theorem wgt_at (y : FVec Ideal S64x7220 .f32) (b : Fin 64) (e : Fin 7220) :
    (wgt y (ix1 (flat b e)) : EReal) = if Loss.kThr < (y (ix2 b e) : EReal) then (0 : EReal) else (1 : EReal) := by
  have h1 : (b.val * 7220 + e.val) / 7220 = b.val := by omega
  have h2 : (b.val * 7220 + e.val) % 7220 = e.val := by omega
  unfold wgt Loss.kThr
  generalize hn : flat b e = n
  have i1 : (⟨n.val / 7220, by omega⟩ : Fin 64) = b := by subst hn; exact Fin.ext h1
  have i2 : (⟨n.val % 7220, by omega⟩ : Fin 7220) = e := by subst hn; exact Fin.ext h2
  pointwise
  simp only [i1, i2]
  try rfl

/-- The bound below which a cell without a box counts, as the greatest overlap and as every present box's. -/
theorem spared (V0 : Valuation τ sig (Elt Ideal)) (b : Fin 64) (e : Fin 7220) (q : EReal)
    (hm : q ≤ Loss.kThr ↔ ∀ k, (rP V0 b e).iou (rW V0 b k) * (if rW V0 b k 1 ≠ 0 then (1 : EReal) else (0 : EReal)) ≤ Loss.kThr) :
    (0 ≤ Loss.kThr ∧ ∀ k, rW V0 b k 1 ≠ 0 → (rP V0 b e).iou (rW V0 b k) ≤ Loss.kThr) ↔ q ≤ Loss.kThr := by
  have hthr := Loss.kThr_pos
  generalize Loss.kThr = c at hm hthr ⊢
  rw [hm]
  refine ⟨fun h k => ?_, fun h => ⟨hthr, fun k hk => ?_⟩⟩
  · by_cases hk : rW V0 b k 1 ≠ 0
    · rw [if_pos hk, mul_one]
      exact h.2 k hk
    · rw [if_neg hk, mul_zero]
      exact hthr
  · have := h k
    rwa [if_pos hk, mul_one] at this

theorem tS_miss (V0 : Valuation τ sig (Elt Ideal)) (hR : Loss.Reg (rO V0) (rT V0) (rA V0)) (b : Fin 64) (e : Fin 7220) (he : ∀ k, rW V0 b k 1 ≠ 0 → (Loss.place (rA V0) (rW V0 b k)).toNat ≠ e.val) [Decidable (0 ≤ Loss.kThr ∧ ∀ k, rW V0 b k 1 ≠ 0 → (rP V0 b e).iou (rW V0 b k) ≤ Loss.kThr)] :
    (tS V0 (ix1 (flat b e)) : EReal) = if 0 ≤ Loss.kThr ∧ ∀ k, rW V0 b k 1 ≠ 0 → (rP V0 b e).iou (rW V0 b k) ≤ Loss.kThr then (1 : EReal) else (0 : EReal) := by
  have hm := spared V0 b e _ (mO_le V0 hR b e Loss.kThr)
  unfold tS
  rw [scat_miss V0 hR _ _ b e.val _ rfl e.isLt he]
  refine (wgt_at (mO V0) b e).trans ?_
  by_cases hc : (mO V0 (ix2 b e) : EReal) ≤ Loss.kThr
  · rw [if_pos (hm.2 hc), if_neg (not_lt.2 hc)]
  · rw [if_neg (fun h => hc (hm.1 h)), if_pos (not_le.1 hc)]

end Cert.ReferenceIdeal.Value

end
-- ==== Proof.ReferenceClass.lean ====
/- The class the reference takes in a cell, and its log-probability. -/
module

public import proofs.«01_k».proof.Proof.ReferenceTarget
public import Idealize.ShloMosaic.Lib.ReduceAll

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

/-- Zero as an integer. -/
theorem fptosi_zero : Ideal.fptosi 32 0 = 0#32 := by
  have h : Ideal.fptosi 32 ((0 : ℝ) : EReal) = 0#32 := by
    have e : ∀ lo hi : Int, Ideal.toIntClamped lo hi ((0 : ℝ) : EReal) = max lo (min hi (if (0 : ℝ) ≤ 0 then ⌊(0 : ℝ)⌋ else ⌈(0 : ℝ)⌉)) := fun _ _ => rfl
    unfold Ideal.fptosi
    rw [e, if_pos (le_refl _), Int.floor_zero]
    rfl
  exact h
/-- The greatest of a row. -/
theorem rowMax (x : FVec Ideal S462080x20 .f32) (n : Fin 462080) :
    ((Host.reduce FloatOps.maximumf x (constant S_ .f32 0xFF800000#32) reducesTo_S462080x20_S462080_d1 h_S_ : FVec Ideal S462080 .f32) (ix1 n) : EReal) = Finset.univ.fold max ⊥ (fun k : Fin 20 => (x (ix2 n k) : EReal)) := by
  pointwise
  rw [ofBits_ninf]
/-- The sum of a row's exponentials. -/
theorem rowSum (x : FVec Ideal S462080x20 .f32) (n : Fin 462080) :
    ((Host.reduceAdd (Host.exp x) (constant S_ .f32 0x00000000#32) reducesTo_S462080x20_S462080_d1 h_S_ : FVec Ideal S462080 .f32) (ix1 n) : EReal) = ∑ k : Fin 20, Ideal.exp (x (ix2 n k)) := by
  pointwise
/-- Every row's class is one of the twenty. -/
theorem inRange_read (y : IVec S462080x1x1 32) (hc : ∀ n, ∃ c : Fin 20, y (ix3 n 0 0) = BitVec.ofNat 32 c.val) (n : Fin 462080) :
   (Host.reduce IntOp.andi (andi (cmpi .sge y (broadcastInDim S462080x1x1 ![] bcast_S_S462080x1x1 (constantI S_ 32 0#32))) (cmpi .sle y (broadcastInDim S462080x1x1 ![0, 1, 2] bcast_S1x1x1_S462080x1x1_0_1_2 (broadcastInDim S1x1x1 ![2] bcast_S1_S1x1x1_2 (constantI S1 32 19#32))))) (constantI S_ 1 1#1) reducesTo_S462080x1x1_S462080x1_d2 h_S_ : IVec S462080x1 1) (ix2 n 0) = 1#1 := by
  refine Host.reduce_andi_one _ _ _ _ _ rfl fun i => ?_
  obtain ⟨p, q, r, rfl⟩ : ∃ (p : Fin 462080) (q r : Fin 1), i = ix3 p q r := ⟨i 0, i 1, i 2, by
    funext a
    match a with
    | ⟨0, _⟩ => rfl
    | ⟨1, _⟩ => rfl
    | ⟨2, _⟩ => rfl⟩
  obtain rfl : q = 0 := Subsingleton.elim _ _
  obtain rfl : r = 0 := Subsingleton.elim _ _
  obtain ⟨c, hc⟩ := hc p
  pointwise
  rw [hc]
  have hd : ∀ c : Fin 20, IntOp.andi (IntOp.cmpi CmpIPredicate.sge (BitVec.ofNat 32 c.val) 0#32) (IntOp.cmpi CmpIPredicate.sle (BitVec.ofNat 32 c.val) 19#32) = 1#1 := by decide
  exact hd c

/-- A row less a column's value. -/
theorem subCol (x : FVec Ideal S462080x20 .f32) (M : FVec Ideal S462080 .f32) (n : Fin 462080) (c : Fin 20) :
    ((subf x (broadcastInDim S462080x20 ![0, 1] bcast_S462080x1_S462080x20_0_1 (broadcastInDim S462080x1 ![0] bcast_S462080_S462080x1_0 (maximumf (broadcastInDim S462080 ![] bcast_S_S462080 (constant S_ .f32 0xFF800000#32)) M))) : FVec Ideal S462080x20 .f32) (ix2 n c) : EReal)
      = x (ix2 n c) - max ⊥ (M (ix1 n)) := by
  pointwise
  rw [ofBits_ninf]
/-- A row less the log of a column's value. -/
theorem subLog (x : FVec Ideal S462080x20 .f32) (M : FVec Ideal S462080 .f32) (n : Fin 462080) (c : Fin 20) :
    ((subf x (broadcastInDim S462080x20 ![0, 1] bcast_S462080x1_S462080x20_0_1 (Host.log (broadcastInDim S462080x1 ![0] bcast_S462080_S462080x1_0 M))) : FVec Ideal S462080x20 .f32) (ix2 n c) : EReal)
      = x (ix2 n c) - Ideal.log (M (ix1 n)) := by
  pointwise
/-- A column's value, where its mark is set. -/
theorem maskCol (u : IVec S462080x1 1) (v : FVec Ideal S462080x1 .f32) (n : Fin 462080) (h : u (ix2 n 0) = 1#1) :
    ((shapeCast S462080 (select u v (broadcastInDim S462080x1 ![] bcast_S_S462080x1 (constant S_ .f32 0x7FC00000#32)) : FVec Ideal S462080x1 .f32) shapeCasts_S462080x1_S462080 : FVec Ideal S462080 .f32) (ix1 n) : EReal) = v (ix2 n 0) := by
  pointwise
  rw [h]
  rfl

variable (V0 : Valuation τ sig (Elt Ideal))

/-- The class of a cell, as the gather takes it. -/
theorem call10_at (n : Fin 462080) (z : BitVec 32) (h : Ideal.fptosi 32 (tK V0 (ix1 n)) = z) (hz : 0 ≤ z.toInt) :
    (res_main_call10_v5 V0 : IVec S462080x1x1 32) (ix3 n 0 0) = z := by
  have h1 : (res_main_v491 V0 : IVec S462080x1 32) (ix2 n 0) = z := by
    have e : (res_main_v491 V0 : IVec S462080x1 32) = broadcastInDim S462080x1 ![0] bcast_S462080_S462080x1_0 (fptosi 32 (tK V0)) := rfl
    rw [e]
    generalize tK V0 = y at h ⊢
    pointwise
    exact h
  unfold res_main_call10_v5
  generalize (res_main_v491 V0 : IVec S462080x1 32) = y at h1 ⊢
  pointwise
  rw [h1]
  exact sel_nonneg _ _ hz

section
variable (R : Loss.Reg (rO V0) (rT V0) (rA V0))
include R

/-- A cell with a box takes the box's class. -/
theorem class_hit (b : Fin 64) (k : Fin 50) (e : Fin 7220) (hp : rW V0 b k 1 ≠ 0) (he : (Loss.place (rA V0) (rW V0 b k)).toNat = e.val) :
    ∃ c : Fin 20, (res_main_call10_v5 V0 : IVec S462080x1x1 32) (ix3 (flat b e) 0 0) = BitVec.ofNat 32 c.val ∧
      Loss.logit (rP V0 b e).L (rW V0 b k) = (rP V0 b e).L ⟨5 + c.val, by omega⟩ := by
  obtain ⟨-, -, h0, h20⟩ := R.pos b k hp
  have h := tK_hit V0 R b k e hp he
  have h0' : 0 ≤ (Ideal.fptosi 32 (rW V0 b k 0)).toInt := h0
  have h20' : (Ideal.fptosi 32 (rW V0 b k 0)).toInt < 20 := h20
  have hc := call10_at V0 (flat b e) _ (congrArg (Ideal.fptosi 32) h) h0'
  rw [hc]
  unfold Loss.logit
  generalize Ideal.fptosi 32 (rW V0 b k 0) = z at h0' h20' ⊢
  have hz := BitVec.toInt_eq_toNat_cond z
  have hb := z.isLt
  have hlt : z.toNat < 20 := by split at hz <;> omega
  have e5 : (5#32 + z).toNat = 5 + z.toNat := by
    rw [BitVec.toNat_add]
    show (5 + z.toNat) % 2 ^ 32 = _
    omega
  refine ⟨⟨z.toNat, hlt⟩, ?_, ?_⟩
  · simp
  · rw [dif_pos (show (5#32 + z).toNat < 25 by omega)]
    exact congrArg _ (Fin.ext e5)

/-- A cell without a box takes class zero. -/
theorem class_miss (b : Fin 64) (e : Fin 7220) (he : ∀ k, rW V0 b k 1 ≠ 0 → (Loss.place (rA V0) (rW V0 b k)).toNat ≠ e.val) :
    (res_main_call10_v5 V0 : IVec S462080x1x1 32) (ix3 (flat b e) 0 0) = BitVec.ofNat 32 (0 : Fin 20).val := by
  have h := tK_miss V0 R b e he
  exact call10_at V0 (flat b e) _ ((congrArg (Ideal.fptosi 32) h).trans fptosi_zero) (by decide)

theorem class_any (n : Fin 462080) : ∃ c : Fin 20, (res_main_call10_v5 V0 : IVec S462080x1x1 32) (ix3 n 0 0) = BitVec.ofNat 32 c.val := by
  have hn : n = flat ⟨n.val / 7220, by omega⟩ ⟨n.val % 7220, by omega⟩ := by
    apply Fin.ext
    show n.val = n.val / 7220 * 7220 + n.val % 7220
    omega
  rw [hn]
  by_cases h : ∃ k, rW V0 ⟨n.val / 7220, by omega⟩ k 1 ≠ 0 ∧ (Loss.place (rA V0) (rW V0 ⟨n.val / 7220, by omega⟩ k)).toNat = n.val % 7220
  · obtain ⟨k, hp, he⟩ := h
    obtain ⟨c, hc, -⟩ := class_hit V0 R _ k ⟨n.val % 7220, by omega⟩ hp he
    exact ⟨c, hc⟩
  · exact ⟨0, class_miss V0 R _ ⟨n.val % 7220, by omega⟩ fun k hp he => h ⟨k, hp, he⟩⟩

/-- Whether a cell's class is one of the twenty. -/
def inRange : IVec S462080x1 1 := Host.reduce IntOp.andi (andi (cmpi .sge (res_main_call10_v5 V0) (broadcastInDim S462080x1x1 ![] bcast_S_S462080x1x1 (constantI S_ 32 0#32))) (cmpi .sle (res_main_call10_v5 V0) (broadcastInDim S462080x1x1 ![0, 1, 2] bcast_S1x1x1_S462080x1x1_0_1_2 (broadcastInDim S1x1x1 ![2] bcast_S1_S1x1x1_2 (constantI S1 32 19#32))))) (constantI S_ 1 1#1) reducesTo_S462080x1x1_S462080x1_d2 h_S_

theorem inRange_at (n : Fin 462080) : inRange V0 (ix2 n 0) = 1#1 := by
  exact inRange_read _ (class_any V0 R) n

end

theorem lmax_le (L : Fin 25 → EReal) (c : EReal) : Loss.lmax L ≤ c ↔ ∀ k : Fin 20, L ⟨5 + k.val, by omega⟩ ≤ c := by
  unfold Loss.lmax
  simp only [max_le_iff, Fin.forall_fin_succ, and_assoc, IsEmpty.forall_iff, and_true]
  exact Iff.rfl

theorem lsum_eq (L : Fin 25 → EReal) : Loss.lsum L = ∑ k : Fin 20, Ideal.exp (L ⟨5 + k.val, by omega⟩ - Loss.lmax L) := by
  unfold Loss.lsum
  simp only [Fin.sum_univ_castSucc, Fin.sum_univ_zero, zero_add]
  rfl

theorem lmax_fold (L : Fin 25 → EReal) : max ⊥ (Finset.univ.fold max ⊥ (fun k : Fin 20 => L ⟨5 + k.val, by omega⟩)) = Loss.lmax L := by
  rw [max_eq_right bot_le]
  apply eq_of_forall_ge_iff
  intro z
  rw [lmax_le, Finset.fold_max_le]
  exact ⟨fun h k => h.2 k (Finset.mem_univ _), fun h => ⟨bot_le, fun k _ => h k⟩⟩

theorem call9_at (b : Fin 64) (e : Fin 7220) (c : Fin 20) : ((res_main_call9_v5 V0 : FVec Ideal S462080x20 .f32) (ix2 (flat b e) c) : EReal)
    = (rP V0 b e).L ⟨5 + c.val, by omega⟩ - Loss.lmax (rP V0 b e).L := by
  refine (subCol (res_main_v31 V0) _ (flat b e) c).trans ?_
  rw [rowMax, ← lmax_fold]
  have hv := fun k => v31_at V0 b e k (flat b e) rfl
  refine congrArg₂ (fun u (v : Fin 20 → EReal) => u - max ⊥ (Finset.univ.fold max ⊥ v)) (hv c) (funext hv)

/-- The log-probabilities of the classes of every cell. -/
def lp : FVec Ideal S462080x20 .f32 := subf (res_main_call9_v5 V0 : FVec Ideal S462080x20 .f32) (broadcastInDim S462080x20 ![0, 1] bcast_S462080x1_S462080x20_0_1 (Host.log (broadcastInDim S462080x1 ![0] bcast_S462080_S462080x1_0 (Host.reduceAdd (Host.exp (res_main_call9_v5 V0 : FVec Ideal S462080x20 .f32)) (constant S_ .f32 0x00000000#32) reducesTo_S462080x20_S462080_d1 h_S_))))

theorem lp_at (b : Fin 64) (e : Fin 7220) (c : Fin 20) : (lp V0 (ix2 (flat b e) c) : EReal) = Loss.logp (rP V0 b e).L ((rP V0 b e).L ⟨5 + c.val, by omega⟩) := by
  refine (subLog (res_main_call9_v5 V0) _ (flat b e) c).trans ?_
  rw [rowSum]
  unfold Loss.logp
  rw [lsum_eq]
  have hv := fun k => call9_at V0 b e k
  exact congrArg₂ (fun u (v : Fin 20 → EReal) => u - Ideal.log (∑ k, Ideal.exp (v k))) (hv c) (funext hv)

/-- The log-probability of every cell's class. -/
def picked : FVec Ideal S462080 .f32 := shapeCast S462080 (select (inRange V0) (Host.gather gather_S462080x20_S462080x1x1_S462080x1_n_1_0_0_1_2_11 (lp V0) (res_main_call10_v5 V0)) (broadcastInDim S462080x1 ![] bcast_S_S462080x1 (constant S_ .f32 0x7FC00000#32)) : FVec Ideal S462080x1 .f32) shapeCasts_S462080x1_S462080

theorem picked_at (R : Loss.Reg (rO V0) (rT V0) (rA V0)) (b : Fin 64) (e : Fin 7220) (c : Fin 20) (hc : (res_main_call10_v5 V0 : IVec S462080x1x1 32) (ix3 (flat b e) 0 0) = BitVec.ofNat 32 c.val) :
    (picked V0 (ix1 (flat b e)) : EReal) = Loss.logp (rP V0 b e).L ((rP V0 b e).L ⟨5 + c.val, by omega⟩) := by
  rw [← lp_at]
  have h1 := inRange_at V0 R (flat b e)
  have h2 := Ops.gather_cls (lp V0) (res_main_call10_v5 V0) (flat b e) c hc
  exact (maskCol (inRange V0) _ (flat b e) h1).trans h2

end Cert.ReferenceIdeal.Value

end
-- ==== Proof.ReferenceCell.lean ====
/- What the reference adds of a cell, and that it is the cell's share of the loss. -/
module

public import proofs.«01_k».proof.Proof.ReferenceWeight
public import proofs.«01_k».proof.Proof.ReferenceClass

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

/-- A weighted difference, at a cell. -/
theorem dif_at (v m : FVec Ideal S64x5x38x38 .f32) (t : FVec Ideal S462080 .f32) (b : Fin 64) (a : Fin 5) (j i : Fin 38) :
    ((subf (mulf v m) (mulf (shapeCast S64x5x38x38 t shapeCasts_S462080_S64x5x38x38) m) : FVec Ideal S64x5x38x38 .f32) (ix4 b a j i) : EReal)
      = dif (v (ix4 b a j i)) (t (ix1 (flat b (cellOf a j i)))) (m (ix4 b a j i)) := by
  rw [← at4 t b a j i]
  rfl

/-- The root of an array, at a cell. -/
theorem sqrt_at (t : FVec Ideal S462080 .f32) (b : Fin 64) (a : Fin 5) (j i : Fin 38) :
    ((shapeCast S64x5x38x38 (Host.sqrt t) shapeCasts_S462080_S64x5x38x38 : FVec Ideal S64x5x38x38 .f32) (ix4 b a j i) : EReal) = Ideal.sqrt (t (ix1 (flat b (cellOf a j i)))) :=
  (at4 (Host.sqrt t) b a j i).trans rfl

/-- The logistic of an array, written out. -/
theorem logistic_at (x : FVec Ideal S64x5x38x38 .f32) (b : Fin 64) (a : Fin 5) (j i : Fin 38) :
    ((Host.divf (broadcastInDim S64x5x38x38 ![] bcast_S_S64x5x38x38 (constant S_ .f32 0x3F800000#32)) (addf (broadcastInDim S64x5x38x38 ![] bcast_S_S64x5x38x38 (constant S_ .f32 0x3F800000#32)) (Host.exp (Host.negf x))) : FVec Ideal S64x5x38x38 .f32) (ix4 b a j i) : EReal) = Ideal.logistic (x (ix4 b a j i)) := by
  pointwise
  rfl

variable (V0 : Valuation τ sig (Elt Ideal)) (R : Loss.Reg (rO V0) (rT V0) (rA V0))

/-- One in every cell. -/
def tO : FVec Ideal S462080 .f32 := scat V0 (broadcastInDim S462080 ![] bcast_S_S462080 (constant (F := Ideal) S_ .f32 0x3F800000#32)) (broadcastInDim S3200 ![] bcast_S_S3200 (constant (F := Ideal) S_ .f32 0x3F800000#32))

include R

theorem tO_at (b : Fin 64) (e : Fin 7220) : (tO V0 (ix1 (flat b e)) : EReal) = 1 := by
  rw [← one_word]
  unfold tO
  by_cases h : ∃ k, rW V0 b k 1 ≠ 0 ∧ (Loss.place (rA V0) (rW V0 b k)).toNat = e.val
  · obtain ⟨k, hp, he⟩ := h
    rw [scat_hit V0 R _ _ b k e.val _ (slot b k) rfl rfl hp he]
    rfl
  · rw [scat_miss V0 R _ _ b e.val _ rfl e.isLt fun k hp he => h ⟨k, hp, he⟩]
    rfl

variable (b : Fin 64) (a : Fin 5) (j i : Fin 38)

theorem v445_at : ((res_main_v445 V0 : FVec Ideal S64x5x38x38 .f32) (ix4 b a j i) : EReal) = (1 : EReal) :=
  (at4 (tO V0) b a j i).trans (tO_at V0 R b _)

theorem v451_at : ((res_main_v451 V0 : FVec Ideal S64x5x38x38 .f32) (ix4 b a j i) : EReal)
    = dif (Ideal.logistic ((rP V0 b (cellOf a j i)).L 0)) (tX V0 (ix1 (flat b (cellOf a j i)))) 1 := by
  refine (dif_at (res_main_v8 V0) (res_main_v445 V0) (tX V0) b a j i).trans ?_
  exact congrArg₂ (fun u v => dif u (tX V0 (ix1 (flat b (cellOf a j i)))) v) ((v8_at V0 b a j i).trans (congrArg Ideal.logistic (rP_L V0 b a j i 0 (by show a.val * 25 + 0 < 125; omega)).symm)) (v445_at V0 R b a j i)
theorem v459_at : ((res_main_v459 V0 : FVec Ideal S64x5x38x38 .f32) (ix4 b a j i) : EReal)
    = dif (Ideal.logistic ((rP V0 b (cellOf a j i)).L 1)) (tY V0 (ix1 (flat b (cellOf a j i)))) 1 := by
  refine (dif_at (res_main_v16 V0) (res_main_v445 V0) (tY V0) b a j i).trans ?_
  exact congrArg₂ (fun u v => dif u (tY V0 (ix1 (flat b (cellOf a j i)))) v) ((v16_at V0 b a j i).trans (congrArg Ideal.logistic (rP_L V0 b a j i 1 (by show a.val * 25 + 1 < 125; omega)).symm)) (v445_at V0 R b a j i)
theorem v467_at : ((res_main_v467 V0 : FVec Ideal S64x5x38x38 .f32) (ix4 b a j i) : EReal)
    = dif ((rP V0 b (cellOf a j i)).L 2) (tW V0 (ix1 (flat b (cellOf a j i)))) 1 := by
  refine (dif_at (res_main_v18 V0) (res_main_v445 V0) (tW V0) b a j i).trans ?_
  exact congrArg₂ (fun u v => dif u (tW V0 (ix1 (flat b (cellOf a j i)))) v) ((v18_at V0 b a j i).trans (rP_L V0 b a j i 2 (by show a.val * 25 + 2 < 125; omega)).symm) (v445_at V0 R b a j i)
theorem v475_at : ((res_main_v475 V0 : FVec Ideal S64x5x38x38 .f32) (ix4 b a j i) : EReal)
    = dif ((rP V0 b (cellOf a j i)).L 3) (tH V0 (ix1 (flat b (cellOf a j i)))) 1 := by
  refine (dif_at (res_main_v20 V0) (res_main_v445 V0) (tH V0) b a j i).trans ?_
  exact congrArg₂ (fun u v => dif u (tH V0 (ix1 (flat b (cellOf a j i)))) v) ((v20_at V0 b a j i).trans (rP_L V0 b a j i 3 (by show a.val * 25 + 3 < 125; omega)).symm) (v445_at V0 R b a j i)

omit R in
theorem v447_at : ((res_main_v447 V0 : FVec Ideal S64x5x38x38 .f32) (ix4 b a j i) : EReal) = Ideal.sqrt (tS V0 (ix1 (flat b (cellOf a j i)))) := by
  have e : (res_main_v447 V0 : FVec Ideal S64x5x38x38 .f32) = shapeCast S64x5x38x38 (Host.sqrt (tS V0)) shapeCasts_S462080_S64x5x38x38 := by
    unfold res_main_v447 tS wgt mO scat slots
    rfl
  rw [e]
  generalize tS V0 = t
  exact sqrt_at t b a j i

omit R in
theorem v485_at : ((res_main_v485 V0 : FVec Ideal S64x5x38x38 .f32) (ix4 b a j i) : EReal)
    = dif (Ideal.logistic ((rP V0 b (cellOf a j i)).L 4)) (tC V0 (ix1 (flat b (cellOf a j i)))) (Ideal.sqrt (tS V0 (ix1 (flat b (cellOf a j i))))) := by
  refine (dif_at _ (res_main_v447 V0) (tC V0) b a j i).trans ?_
  refine congrArg₂ (fun u v => dif u (tC V0 (ix1 (flat b (cellOf a j i)))) v) ((logistic_at _ b a j i).trans (congrArg Ideal.logistic ?_)) (v447_at V0 b a j i)
  have h := v0_at V0 b a 4 j i
  refine Eq.trans ?_ (h.trans (rP_L V0 b a j i 4 (by show a.val * 25 + 4 < 125; omega)).symm)
  generalize (res_main_v0 V0 : FVec Ideal S64x5x25x38x38 .f32) = x
  pointwise

/-- What the reference adds of a cell: five squares and a log-probability, all real, which make the cell's share of the loss. -/
theorem cell_loss : ∃ rx ry rw rh rc rp : ℝ,
    ((mulf (res_main_v451 V0) (res_main_v451 V0) : FVec Ideal S64x5x38x38 .f32) (ix4 b a j i) : EReal) = (rx : EReal)
    ∧ ((mulf (res_main_v459 V0) (res_main_v459 V0) : FVec Ideal S64x5x38x38 .f32) (ix4 b a j i) : EReal) = (ry : EReal)
    ∧ ((mulf (res_main_v467 V0) (res_main_v467 V0) : FVec Ideal S64x5x38x38 .f32) (ix4 b a j i) : EReal) = (rw : EReal)
    ∧ ((mulf (res_main_v475 V0) (res_main_v475 V0) : FVec Ideal S64x5x38x38 .f32) (ix4 b a j i) : EReal) = (rh : EReal)
    ∧ ((mulf (res_main_v485 V0) (res_main_v485 V0) : FVec Ideal S64x5x38x38 .f32) (ix4 b a j i) : EReal) = (rc : EReal)
    ∧ ((mulf (picked V0) (tM V0) : FVec Ideal S462080 .f32) (ix1 (flat b (cellOf a j i))) : EReal) = (rp : EReal)
    ∧ (rP V0 b (cellOf a j i)).total (rA V0) (rW V0 b) = (((rx + ry + rw + rh + rc) / 2 - rp : ℝ) : EReal) := by
  have sq : ∀ (x : FVec Ideal S64x5x38x38 .f32) (v t m : EReal), (x (ix4 b a j i) : EReal) = dif v t m → ((mulf x x : FVec Ideal S64x5x38x38 .f32) (ix4 b a j i) : EReal) = Loss.sqd v t m :=
    fun x v t m h => congrArg₂ (fun p q : EReal => p * q) h h
  have hx := sq _ _ _ _ (v451_at V0 R b a j i)
  have hy := sq _ _ _ _ (v459_at V0 R b a j i)
  have hw := sq _ _ _ _ (v467_at V0 R b a j i)
  have hh := sq _ _ _ _ (v475_at V0 R b a j i)
  have hc := sq _ _ _ _ (v485_at V0 b a j i)
  obtain ⟨l, hL⟩ : ∃ l : Fin 25 → ℝ, ∀ c, (rP V0 b (cellOf a j i)).L c = (l c : EReal) :=
    Classical.skolem.1 fun c => R.o b _ _ _
  have hhit : ∀ k, (rP V0 b (cellOf a j i)).hit (rA V0) (rW V0 b k) = 1#1 ↔ (Loss.place (rA V0) (rW V0 b k)).toNat = (cellOf a j i).val := by
    intro k
    have hlt := (cellOf a j i).isLt
    show BitVec.ofBool (BitVec.ofNat 32 (cellOf a j i).val == Loss.place (rA V0) (rW V0 b k)) = 1#1 ↔ _
    generalize cellOf a j i = e at hlt ⊢
    generalize Loss.place (rA V0) (rW V0 b k) = z
    have hz : BitVec.ofNat 32 e.val = z ↔ z.toNat = e.val := by
      constructor
      · intro h; rw [← h, BitVec.toNat_ofNat]; omega
      · intro h; apply BitVec.eq_of_toNat_eq; rw [h, BitVec.toNat_ofNat]; omega
    rw [← hz]
    by_cases h : BitVec.ofNat 32 e.val = z
    · simp [h]
    · rw [beq_eq_false_iff_ne.2 h]
      exact ⟨fun h' => absurd h' (by decide), fun h' => absurd h' h⟩
  by_cases hex : ∃ k, rW V0 b k 1 ≠ 0 ∧ (Loss.place (rA V0) (rW V0 b k)).toNat = (cellOf a j i).val
  · obtain ⟨k, hp, he⟩ := hex
    rw [tX_hit V0 R b k _ hp he] at hx
    rw [tY_hit V0 R b k _ hp he] at hy
    rw [tW_hit V0 R b k _ hp he] at hw
    rw [tH_hit V0 R b k _ hp he] at hh
    rw [tC_hit V0 R b k _ hp he, tS_hit V0 R b k _ hp he] at hc
    obtain ⟨c, hcl, hlg⟩ := class_hit V0 R b k _ hp he
    have hpk : ((mulf (picked V0) (tM V0) : FVec Ideal S462080 .f32) (ix1 (flat b (cellOf a j i))) : EReal) = Loss.logp (rP V0 b (cellOf a j i)).L (Loss.logit (rP V0 b (cellOf a j i)).L (rW V0 b k)) * 1 := by
      refine congrArg₂ (fun p q : EReal => p * q) ((picked_at V0 R b _ c hcl).trans ?_) ((tM_hit V0 R b k _ hp he).trans one_word)
      rw [hlg]
    obtain ⟨x, y, g, h, hg, hhp, ex, ey, eg, eh⟩ := sides V0 R b k hp
    obtain ⟨-, n0, e2⟩ := v233_at V0 R b k hp
    obtain ⟨q0, q1⟩ := ancOf_at _ n0 e2 (rA V0)
    obtain ⟨aw, haw0, haw⟩ := R.a ⟨2 * ((cellOf a j i).val / 1444), by omega⟩
    obtain ⟨ah, hah0, hah⟩ := R.a ⟨2 * ((cellOf a j i).val / 1444) + 1, by omega⟩
    obtain ⟨a0, ha0, h0⟩ := R.a ⟨2 * n0.val, by omega⟩
    obtain ⟨a1, ha1, h1⟩ := R.a ⟨2 * n0.val + 1, by omega⟩
    obtain ⟨rx, ry, rw', rh, rc, rp, z1, z2, z3, z4, z5, z6, z7⟩ := Loss.hit_real (rP V0 b (cellOf a j i)) (rA V0) (rW V0 b k) l hL _ _ aw ah rfl rfl haw hah haw0 hah0 x y g h hg hhp ex ey eg eh a0 a1 ha0 ha1 (q0.trans h0) (q1.trans h1) ⟨5 + c.val, by omega⟩ hlg
    refine ⟨rx, ry, rw', rh, rc, rp, hx.trans z1, hy.trans z2, hw.trans z3, hh.trans z4, hc.trans z5, hpk.trans z6, ?_⟩
    rw [← z7]
    exact Loss.total_hit _ _ _ k hp ((hhit k).2 he) fun k' hp' h' => place_inj V0 R b k' k hp' hp (((hhit k').1 h').trans he.symm)
  · have he : ∀ k, rW V0 b k 1 ≠ 0 → (Loss.place (rA V0) (rW V0 b k)).toNat ≠ (cellOf a j i).val := fun k hp h => hex ⟨k, hp, h⟩
    classical
    rw [tX_miss V0 R b _ he] at hx
    rw [tY_miss V0 R b _ he] at hy
    rw [tW_miss V0 R b _ he] at hw
    rw [tH_miss V0 R b _ he] at hh
    rw [tC_miss V0 R b _ he, tS_miss V0 R b _ he] at hc
    have hpk : ((mulf (picked V0) (tM V0) : FVec Ideal S462080 .f32) (ix1 (flat b (cellOf a j i))) : EReal) = Loss.logp (rP V0 b (cellOf a j i)).L ((rP V0 b (cellOf a j i)).L ⟨5 + (0 : Fin 20).val, by decide⟩) * 0 :=
      congrArg₂ (fun p q : EReal => p * q) (picked_at V0 R b _ 0 (class_miss V0 R b _ he)) (tM_miss V0 R b _ he)
    obtain ⟨rx, ry, rw', rh, rc, rp, z1, z2, z3, z4, z5, z6, z7⟩ := Loss.miss_real (rP V0 b (cellOf a j i)) l hL (0 ≤ Loss.kThr ∧ ∀ k, rW V0 b k 1 ≠ 0 → (rP V0 b (cellOf a j i)).iou (rW V0 b k) ≤ Loss.kThr) ((rP V0 b (cellOf a j i)).L ⟨5 + (0 : Fin 20).val, by decide⟩) ⟨_, hL _⟩
    refine ⟨rx, ry, rw', rh, rc, rp, hx.trans z1, hy.trans z2, hw.trans z3, hh.trans z4, hc.trans z5, hpk.trans z6, ?_⟩
    rw [← z7, Loss.total_miss _ _ _ ?_ fun k hp h => he k hp ((hhit k).1 h)]
    · show 0 ≤ (BitVec.ofNat 32 (cellOf a j i).val).toInt
      rw [Ops.toInt_small _ (by have := (cellOf a j i).isLt; omega)]
      omega

end Cert.ReferenceIdeal.Value

end
-- ==== Proof.Sums.lean ====
/- Sums over a grid, over its rows and columns and over its numbers. -/
module

public import Idealize.ShloMosaic.Lib.Pointwise

@[expose] public section

namespace Cert.Sums

variable {M : Type} [AddCommMonoid M]

/-- A sum over `m` rows of `n` numbers each is a sum over `m * n` numbers. -/
theorem rows (m n : ℕ) (g : ℕ → M) : ∑ r : Fin m, ∑ l : Fin n, g (r.val * n + l.val) = ∑ k : Fin (m * n), g k.val := by
  rw [← Fintype.sum_prod_type']
  refine Fintype.sum_equiv finProdFinEquiv _ _ fun x => ?_
  show g (x.1.val * n + x.2.val) = g (x.2.val + n * x.1.val)
  congr 1
  ring

/-- A function of the numbers below `N`, and nothing past them. -/
def ext {N : ℕ} (f : Fin N → M) (k : ℕ) : M := if h : k < N then f ⟨k, h⟩ else 0
theorem ext_at {N : ℕ} (f : Fin N → M) (k : Fin N) : ext f k.val = f k := by
  unfold ext
  rw [dif_pos k.isLt]

/-- Numbers past the last add nothing. -/
theorem past {N L : ℕ} (h : N ≤ L) (f : Fin N → M) : ∑ k : Fin L, ext f k.val = ∑ k : Fin N, f k := by
  rw [Fin.sum_univ_eq_sum_range (ext f) L]
  rw [← Finset.sum_subset (Finset.range_mono h) (fun k _ hk => by
    unfold ext
    rw [dif_neg (fun h' => hk (Finset.mem_range.2 h'))])]
  rw [← Fin.sum_univ_eq_sum_range (ext f) N]
  exact Finset.sum_congr rfl fun k _ => ext_at f k

/-- A sum of reals, among the extended reals. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

end Cert.Sums
-- ==== Proof.ReferenceSum.lean ====
/- The reference's sums, over a batch's cells. -/
module

public import proofs.«01_k».proof.Proof.ReferenceCell
public import proofs.«01_k».proof.Proof.Sums

@[expose] public section

set_option maxRecDepth 16384

noncomputable section

namespace Cert.ReferenceIdeal.Value

open Idealize.ShloMosaic Idealize.ShloMosaic.TcCoe Idealize.ShloMosaic.Tactic
open Idealize
open Cert.ReferenceIdeal Cert.ReferenceIdeal.Gen

/-- The one index of a scalar. -/
abbrev only : S_.Idx := fun a => a.elim0

/-- An index of an array of predictions is its four coordinates. -/
def idx4 : S64x5x38x38.Idx ≃ Fin 64 × Fin 5 × Fin 38 × Fin 38 where
  toFun i := (i 0, i 1, i 2, i 3)
  invFun p := ix4 p.1 p.2.1 p.2.2.1 p.2.2.2
  left_inv i := by
    funext a
    match a with
    | ⟨0, _⟩ => rfl
    | ⟨1, _⟩ => rfl
    | ⟨2, _⟩ => rfl
    | ⟨3, _⟩ => rfl
  right_inv _ := rfl

/-- The sum of an array over images, anchors, rows and columns. -/
theorem sum4 (x : FVec Ideal S64x5x38x38 .f32) :
    ((Host.reduceAdd x (constant S_ .f32 0x00000000#32) reducesTo_S64x5x38x38_S_d0_1_2_3 h_S_ : FVec Ideal S_ .f32) only : EReal)
      = ∑ b : Fin 64, ∑ a : Fin 5, ∑ j : Fin 38, ∑ i : Fin 38, (x (ix4 b a j i) : EReal) := by
  have h : ((Host.reduceAdd x (constant S_ .f32 0x00000000#32) reducesTo_S64x5x38x38_S_d0_1_2_3 h_S_ : FVec Ideal S_ .f32) only : EReal)
      = 0 + ∑ i ∈ Finset.univ.filter (fun i => reducesTo_S64x5x38x38_S_d0_1_2_3.drop i = only), (x i : EReal) := by
    rw [← zero_word]
    rfl
  rw [h, zero_add, Finset.filter_true_of_mem fun i _ => funext fun a => a.elim0]
  rw [← Equiv.sum_comp idx4.symm, Fintype.sum_prod_type]
  refine Finset.sum_congr rfl fun b _ => ?_
  rw [Fintype.sum_prod_type]
  refine Finset.sum_congr rfl fun a _ => ?_
  rw [Fintype.sum_prod_type]
  rfl

/-- The sum of a flat array. -/
theorem sum1 (x : FVec Ideal S462080 .f32) :
    ((Host.reduceAdd x (constant S_ .f32 0x00000000#32) reducesTo_S462080_S_d0 h_S_ : FVec Ideal S_ .f32) only : EReal) = ∑ n : Fin 462080, (x (ix1 n) : EReal) := by
  pointwise

/-- A sum over an image's cells, over anchors, rows and columns. -/
theorem sum_cells {M : Type} [AddCommMonoid M] (f : Fin 7220 → M) :
    ∑ e, f e = ∑ a : Fin 5, ∑ j : Fin 38, ∑ i : Fin 38, f (cellOf a j i) := by
  have h1 : ∀ a : Fin 5, ∑ j : Fin 38, ∑ i : Fin 38, f (cellOf a j i) = ∑ k : Fin (38 * 38), Sums.ext f (a.val * (38 * 38) + k.val) := by
    intro a
    rw [← Sums.rows 38 38 fun k => Sums.ext f (a.val * (38 * 38) + k)]
    refine Finset.sum_congr rfl fun j _ => Finset.sum_congr rfl fun i _ => ?_
    rw [← Sums.ext_at f]
    refine congrArg (Sums.ext f) ?_
    show (a.val * 38 + j.val) * 38 + i.val = _
    omega
  rw [Finset.sum_congr rfl fun a _ => h1 a, Sums.rows 5 (38 * 38) (Sums.ext f)]
  exact (Finset.sum_congr rfl fun e _ => Sums.ext_at f e).symm

/-- A sum over the batch's cells, over images and an image's cells. -/
theorem sum_flat {M : Type} [AddCommMonoid M] (f : Fin 462080 → M) : ∑ n, f n = ∑ b : Fin 64, ∑ e : Fin 7220, f (flat b e) := by
  have h1 : ∀ b : Fin 64, ∑ e : Fin 7220, f (flat b e) = ∑ e : Fin 7220, Sums.ext f (b.val * 7220 + e.val) := fun b =>
    Finset.sum_congr rfl fun e _ => (Sums.ext_at f (flat b e)).symm
  rw [Finset.sum_congr rfl fun b _ => h1 b, Sums.rows 64 7220 (Sums.ext f)]
  exact (Finset.sum_congr rfl fun e _ => Sums.ext_at f e).symm

/-- A sum over a grid's places, of which those past the last cell add nothing. -/
theorem sum_grid (f : Fin 7220 → EReal) (g : Fin 60 → Fin 128 → EReal) (h : ∀ r l, g r l = Sums.ext f (r.val * 128 + l.val)) :
    ∑ r, ∑ l, g r l = ∑ e, f e := by
  rw [Finset.sum_congr rfl fun r _ => Finset.sum_congr rfl fun l _ => h r l, Sums.rows 60 128 (Sums.ext f)]
  exact Sums.past (by decide) f

/-- Half a sum. -/
def halved (s : EReal) : EReal := Ideal.div (Ideal.ofBits .f32 0x3F800000#32 * s) (Ideal.ofBits .f32 0x40000000#32)
/-- Half a sum of reals. -/
theorem halved_coe (s : ℝ) : halved (s : EReal) = ((s / 2 : ℝ) : EReal) := by
  unfold halved
  rw [one_word, one_mul, show Ideal.ofBits .f32 0x40000000#32 = ((2 : ℝ) : EReal) from Loss.kTwo_eq, Ideal.div_coe two_ne_zero, ← EReal.coe_mul, mul_one_div]

/-- The word of minus one. -/
theorem minus_one_word : Ideal.ofBits .f32 0xBF800000#32 = ((-1 : ℝ) : EReal) := by
  simp [Ideal.ofBits, Ideal.ieee, -EReal.coe_mul]
  norm_num

/-- The five sums and the classes' sum, added as the reference adds them. -/
def added (x y w h c p : EReal) : EReal :=
  halved x + halved y + halved w + halved h + Ideal.div c (Ideal.ofBits .f32 0x40000000#32) + Ideal.ofBits .f32 0xBF800000#32 * p
theorem added_coe (x y w h c p : ℝ) : added x y w h c p = (((x + y + w + h + c) / 2 - p : ℝ) : EReal) := by
  unfold added
  rw [halved_coe, halved_coe, halved_coe, halved_coe, minus_one_word, show Ideal.ofBits .f32 0x40000000#32 = ((2 : ℝ) : EReal) from Loss.kTwo_eq,
    Ideal.div_coe two_ne_zero, ← EReal.coe_mul, ← EReal.coe_mul, ← EReal.coe_add, ← EReal.coe_add, ← EReal.coe_add, ← EReal.coe_add, ← EReal.coe_add]
  exact congrArg _ (by ring)

/-- The reference's result is its sums, added. -/
theorem added_at (x y w h c : FVec Ideal S64x5x38x38 .f32) (p : FVec Ideal S462080 .f32) :
    ((addf (addf (addf (addf (addf (Host.divf (mulf (constant S_ .f32 0x3F800000#32) (Host.reduceAdd x (constant S_ .f32 0x00000000#32) reducesTo_S64x5x38x38_S_d0_1_2_3 h_S_)) (constant S_ .f32 0x40000000#32))
      (Host.divf (mulf (constant S_ .f32 0x3F800000#32) (Host.reduceAdd y (constant S_ .f32 0x00000000#32) reducesTo_S64x5x38x38_S_d0_1_2_3 h_S_)) (constant S_ .f32 0x40000000#32)))
      (Host.divf (mulf (constant S_ .f32 0x3F800000#32) (Host.reduceAdd w (constant S_ .f32 0x00000000#32) reducesTo_S64x5x38x38_S_d0_1_2_3 h_S_)) (constant S_ .f32 0x40000000#32)))
      (Host.divf (mulf (constant S_ .f32 0x3F800000#32) (Host.reduceAdd h (constant S_ .f32 0x00000000#32) reducesTo_S64x5x38x38_S_d0_1_2_3 h_S_)) (constant S_ .f32 0x40000000#32)))
      (Host.divf (Host.reduceAdd c (constant S_ .f32 0x00000000#32) reducesTo_S64x5x38x38_S_d0_1_2_3 h_S_) (constant S_ .f32 0x40000000#32)))
      (mulf (constant S_ .f32 0xBF800000#32) (Host.reduceAdd p (constant S_ .f32 0x00000000#32) reducesTo_S462080_S_d0 h_S_)) : FVec Ideal S_ .f32) only : EReal)
      = added (∑ b : Fin 64, ∑ a : Fin 5, ∑ j : Fin 38, ∑ i : Fin 38, (x (ix4 b a j i) : EReal)) (∑ b : Fin 64, ∑ a : Fin 5, ∑ j : Fin 38, ∑ i : Fin 38, (y (ix4 b a j i) : EReal))
        (∑ b : Fin 64, ∑ a : Fin 5, ∑ j : Fin 38, ∑ i : Fin 38, (w (ix4 b a j i) : EReal)) (∑ b : Fin 64, ∑ a : Fin 5, ∑ j : Fin 38, ∑ i : Fin 38, (h (ix4 b a j i) : EReal))
        (∑ b : Fin 64, ∑ a : Fin 5, ∑ j : Fin 38, ∑ i : Fin 38, (c (ix4 b a j i) : EReal)) (∑ n : Fin 462080, (p (ix1 n) : EReal)) := by
  rw [← sum4 x, ← sum4 y, ← sum4 w, ← sum4 h, ← sum4 c, ← sum1 p]
  rfl

variable (V0 : Valuation τ sig (Elt Ideal)) (R : Loss.Reg (rO V0) (rT V0) (rA V0))

/-- What the reference returns. -/
def result : FVec Ideal S_ .f32 :=
  addf (addf (addf (addf (addf (Host.divf (mulf (constant S_ .f32 0x3F800000#32) (Host.reduceAdd (mulf (res_main_v451 V0) (res_main_v451 V0)) (constant S_ .f32 0x00000000#32) reducesTo_S64x5x38x38_S_d0_1_2_3 h_S_)) (constant S_ .f32 0x40000000#32))
    (Host.divf (mulf (constant S_ .f32 0x3F800000#32) (Host.reduceAdd (mulf (res_main_v459 V0) (res_main_v459 V0)) (constant S_ .f32 0x00000000#32) reducesTo_S64x5x38x38_S_d0_1_2_3 h_S_)) (constant S_ .f32 0x40000000#32)))
    (Host.divf (mulf (constant S_ .f32 0x3F800000#32) (Host.reduceAdd (mulf (res_main_v467 V0) (res_main_v467 V0)) (constant S_ .f32 0x00000000#32) reducesTo_S64x5x38x38_S_d0_1_2_3 h_S_)) (constant S_ .f32 0x40000000#32)))
    (Host.divf (mulf (constant S_ .f32 0x3F800000#32) (Host.reduceAdd (mulf (res_main_v475 V0) (res_main_v475 V0)) (constant S_ .f32 0x00000000#32) reducesTo_S64x5x38x38_S_d0_1_2_3 h_S_)) (constant S_ .f32 0x40000000#32)))
    (Host.divf (Host.reduceAdd (mulf (res_main_v485 V0) (res_main_v485 V0)) (constant S_ .f32 0x00000000#32) reducesTo_S64x5x38x38_S_d0_1_2_3 h_S_) (constant S_ .f32 0x40000000#32)))
    (mulf (constant S_ .f32 0xBF800000#32) (Host.reduceAdd (mulf (picked V0) (tM V0)) (constant S_ .f32 0x00000000#32) reducesTo_S462080_S_d0 h_S_))

/-- A sum over the batch of reals. -/
theorem batch_coe (x : Fin 64 → Fin 5 → Fin 38 → Fin 38 → EReal) (r : Fin 64 → Fin 5 → Fin 38 → Fin 38 → ℝ) (h : ∀ b a j i, x b a j i = (r b a j i : EReal)) :
    ∑ b, ∑ a, ∑ j, ∑ i, x b a j i = ((∑ b, ∑ a, ∑ j, ∑ i, r b a j i : ℝ) : EReal) := by
  simp only [h, Sums.coe_sum]

/-- A sum over the batch's cells of reals. -/
theorem cells_coe (f : Fin 64 → Fin 7220 → EReal) (r : Fin 64 → Fin 5 → Fin 38 → Fin 38 → ℝ) (h : ∀ b a j i, f b (cellOf a j i) = (r b a j i : EReal)) :
    ∑ b, ∑ e, f b e = ((∑ b, ∑ a, ∑ j, ∑ i, r b a j i : ℝ) : EReal) :=
  (Finset.sum_congr rfl fun b _ => sum_cells (f b)).trans (batch_coe (fun b a j i => f b (cellOf a j i)) r h)

/-- A sum of a flat array of reals. -/
theorem flat_coe (p : FVec Ideal S462080 .f32) (r : Fin 64 → Fin 5 → Fin 38 → Fin 38 → ℝ)
    (h : ∀ b a j i, (p (ix1 (flat b (cellOf a j i))) : EReal) = (r b a j i : EReal)) :
    ∑ n : Fin 462080, (p (ix1 n) : EReal) = ((∑ b, ∑ a, ∑ j, ∑ i, r b a j i : ℝ) : EReal) :=
  (sum_flat fun n => (p (ix1 n) : EReal)).trans (cells_coe (fun b e => (p (ix1 (flat b e)) : EReal)) r h)

/-- The parts' sums, added, are the sum of what each cell adds. -/
theorem added_sum (rx ry rw' rh rc rp : Fin 64 → Fin 5 → Fin 38 → Fin 38 → ℝ) :
    (((∑ b, ∑ a, ∑ j, ∑ i, rx b a j i) + (∑ b, ∑ a, ∑ j, ∑ i, ry b a j i) + (∑ b, ∑ a, ∑ j, ∑ i, rw' b a j i) + (∑ b, ∑ a, ∑ j, ∑ i, rh b a j i)
      + (∑ b, ∑ a, ∑ j, ∑ i, rc b a j i)) / 2 - ∑ b, ∑ a, ∑ j, ∑ i, rp b a j i : ℝ)
      = ∑ b, ∑ a, ∑ j, ∑ i, ((rx b a j i + ry b a j i + rw' b a j i + rh b a j i + rc b a j i) / 2 - rp b a j i) := by
  simp only [Finset.sum_sub_distrib, ← Finset.sum_div, Finset.sum_add_distrib]

include R in
/-- The reference returns the sum, over the batch's cells, of each cell's loss. -/
theorem result_at : ((result V0) only : EReal) = ∑ b : Fin 64, ∑ e : Fin 7220, (rP V0 b e).total (rA V0) (rW V0 b) := by
  choose rx ry rw' rh rc rp hx hy hw hh hc hp ht using cell_loss V0 R
  refine (added_at _ _ _ _ _ _).trans ?_
  rw [batch_coe _ _ hx, batch_coe _ _ hy, batch_coe _ _ hw, batch_coe _ _ hh, batch_coe _ _ hc, flat_coe _ _ hp, added_coe,
    cells_coe (fun b e => (rP V0 b e).total (rA V0) (rW V0 b)) _ ht, added_sum]

end Cert.ReferenceIdeal.Value

end
-- ==== Proof.InRange.lean ====
/- A regular input's present boxes have classes below twenty. -/
module

public import proofs.«01_k».proof.Proof.Regular
public import proofs.«01_k».proof.Pre_classes_in_range
public import proofs.«01_k».proof.Proof.Gen.Pre_classes_in_range
public import Idealize.ShloMosaic.Lib.Pointwise

@[expose] public section

set_option maxRecDepth 16384

noncomputable section

namespace Cert.Loss

open Idealize.ShloMosaic Idealize.ShloMosaic.TcCoe Idealize.ShloMosaic.Tactic
open Idealize

/-- The bits of a box that is absent, or has a class below twenty. -/
theorem class_bits (p c : EReal) (h : p ≠ 0 → 0 ≤ (Ideal.fptosi 32 c).toInt ∧ (Ideal.fptosi 32 c).toInt < 20) :
    IntOp.ori (BitVec.ofBool (decide (p = 0))) (IntOp.andi (IntOp.cmpi .sge (Ideal.fptosi 32 c) 0#32) (IntOp.cmpi .slt (Ideal.fptosi 32 c) 20#32)) = 1#1 := by
  by_cases hp : p = 0
  · have e : BitVec.ofBool (decide (p = 0)) = 1#1 := by
      rw [decide_eq_true hp]; rfl
    rw [e]
    generalize IntOp.andi _ _ = z
    revert z; decide
  · obtain ⟨h0, h1⟩ := h hp
    have e0 : IntOp.cmpi .sge (Ideal.fptosi 32 c) 0#32 = 1#1 := by
      show BitVec.ofBool (decide (0 ≤ (Ideal.fptosi 32 c).toInt)) = 1#1
      rw [decide_eq_true h0]; rfl
    have e1 : IntOp.cmpi .slt (Ideal.fptosi 32 c) 20#32 = 1#1 := by
      show BitVec.ofBool (decide ((Ideal.fptosi 32 c).toInt < 20)) = 1#1
      rw [decide_eq_true h1]; rfl
    rw [e0, e1]
    generalize BitVec.ofBool (decide (p = 0)) = z
    revert z; decide

/-- The precondition on the classes holds of a regular input. -/
theorem in_range (x0 : FVec Ideal Cert.Pre_classes_in_range.S64x125x38x38 .f32) (x1 : FVec Ideal Cert.Pre_classes_in_range.S64x250 .f32) (x2 : FVec Ideal Cert.Pre_classes_in_range.S10 .f32)
    (R : Reg (fun b ch j i => x0 (ix4 b ch j i)) (fun b i => x1 (ix2 b i)) (fun n => x2 (ix1 n))) :
    Cert.Pre_classes_in_range.fn (F := Ideal) x0 x1 x2 = fun _ => 1#1 := by
  funext i
  rw [eq_ix2 i]
  generalize i 0 = b
  generalize i 1 = k
  change Fin 64 at b
  change Fin 50 at k
  have h := class_bits (boxes (fun b i => x1 (ix2 b i)) b k 1) (boxes (fun b i => x1 (ix2 b i)) b k 0) fun hp => (R.pos b k hp).2.2
  refine Eq.trans ?_ h
  pointwise [Cert.Pre_classes_in_range.fn]
  have e0 : (⟨k.val * 5, by omega⟩ : Fin 250) = ⟨5 * k.val + (0 : Fin 5).val, by omega⟩ := Fin.ext (Nat.mul_comm _ _)
  have e1 : (⟨k.val * 5 + 1, by omega⟩ : Fin 250) = ⟨5 * k.val + (1 : Fin 5).val, by omega⟩ := Fin.ext (by show k.val * 5 + 1 = 5 * k.val + 1; omega)
  rw [e0, e1]
  rfl

end Cert.Loss

end
-- ==== Proof.Algebraic.lean ====
/- On a regular input the kernel's result is the reference's. -/
module

public import proofs.«01_k».proof.Defs
public import proofs.«01_k».proof.Proof.Frames
public import proofs.«01_k».proof.Proof.KernelIdealFinal
public import proofs.«01_k».proof.Proof.ReferenceSum
public import proofs.«01_k».proof.Proof.InRange

@[expose] public section

set_option maxRecDepth 16384

noncomputable section

namespace Cert.Proof

open Idealize.ShloMosaic Idealize.ShloMosaic.TcCoe Idealize.ShloMosaic.Tactic Idealize.ShloMosaic.StableHlo Idealize.SL.Sem
open Idealize

/-- A regular input, from the precondition. -/
theorem reg (m : (ℓ : Loc Cert.KernelIdeal.nD Cert.KernelIdeal.τ Cert.KernelIdeal.sig) → Buf (Elt Ideal) ℓ) (hp : Cert.Pre_KernelIdeal_regular m) (c : Dev Cert.KernelIdeal.nD) :
    Loss.Reg (Cert.KernelIdeal.Region.fO m c) (Cert.KernelIdeal.Region.fT m c) (Cert.KernelIdeal.Region.fA m c) :=
  Loss.reg_of _ _ _ (hp c).1 (hp c).2.1 (hp c).2.2.1 (hp c).2.2.2.1 (hp c).2.2.2.2.1 (hp c).2.2.2.2.2

/-- A regular input is all the kernel's body assumes. -/
theorem blocks (m : (ℓ : Loc Cert.KernelIdeal.nD Cert.KernelIdeal.τ Cert.KernelIdeal.sig) → Buf (Elt Ideal) ℓ) (hp : Cert.Pre_KernelIdeal_regular m) :
    Cert.KernelIdeal.Region.BlocksOK m :=
  Cert.KernelIdeal.Region.blocksOK m fun c => Loss.in_range _ _ _ (reg m hp c)

/-- The kernel runs, on extended reals, from a regular input. -/
theorem quiescent_KernelIdeal_pre_regular : Cert.quiescent_KernelIdeal_pre_regular :=
  fun m g hp => Cert.KernelIdeal.Region.frame_run m g (blocks m hp)

/-- The reference runs, on extended reals, from a regular input. -/
theorem quiescent_ReferenceIdeal_pre_regular : Cert.quiescent_ReferenceIdeal_pre_regular :=
  fun m g _ => quiescent_ReferenceIdeal m g trivial

/-- A sum over the grid's places is a sum over the cells, where a place past the last cell has no box. -/
theorem grid_total (O : Fin 64 → Fin 125 → Fin 38 → Fin 38 → EReal) (A : Fin 10 → EReal) (W : Fin 50 → Fin 5 → EReal) (b : Fin 64)
    (hW : ∀ k, W k 1 ≠ 0 → (Loss.place A (W k)).toNat < 7220) :
    ∑ r : Fin 60, ∑ l : Fin 128, (if h : r.val * 128 + l.val < 7220 then Loss.at_ O A b ⟨r.val * 128 + l.val, h⟩ else Loss.pad).total A W
      = ∑ e : Fin 7220, (Loss.at_ O A b e).total A W := by
  refine Cert.ReferenceIdeal.Value.sum_grid (fun e => (Loss.at_ O A b e).total A W) _ fun r l => ?_
  unfold Sums.ext
  split
  · rfl
  · refine Loss.pad_total A W fun k hk h => ?_
    have hlt := hW k hk
    have e : 4294967295#32 = Loss.place A (W k) := by
      have h' : BitVec.ofBool (4294967295#32 == Loss.place A (W k)) = 1#1 := h
      by_contra hne
      rw [beq_eq_false_iff_ne.2 hne] at h'
      exact absurd h' (by decide)
    rw [← e] at hlt
    exact absurd hlt (by decide)

section
open Cert.ReferenceIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments on a device. -/
abbrev given (c : Dev Cert.ReferenceIdeal.nD) : Valuation Cert.ReferenceIdeal.τ Cert.ReferenceIdeal.sig (Elt Ideal) := launchContents m' c

/-- The kernel's and the reference's predictions, boxes and anchors are the same, where their arguments are. -/
theorem same_o (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Region.fO m c = rO (given m' c) :=
  funext fun b => funext fun ch => funext fun j => funext fun i => congrFun h.symm (ix4 b ch j i)
theorem same_t (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Region.fT m c = rT (given m' c) :=
  funext fun b => funext fun i => congrFun h.symm (ix2 b i)
theorem same_a (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Region.fA m c = rA (given m' c) :=
  funext fun n => congrFun h.symm (ix1 n)

/-- The kernel's result is the reference's. -/
theorem same_result (hp : Cert.Pre_KernelIdeal_regular m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ((result (given m' c)) only : EReal) = ∑ t : Fin Cert.KernelIdeal.cfg0.N, Cert.KernelIdeal.Region.wordAt m c t := by
  have R := reg m hp c
  rw [same_o m m' c h0, same_t m m' c h1, same_a m m' c h2] at R
  rw [result_at (given m' c) R]
  symm
  show (∑ t : Fin 64, Cert.KernelIdeal.Region.wordAt m c t) = _
  refine Finset.sum_congr rfl fun t _ => ?_
  refine (Cert.KernelIdeal.Region.wordAt_eq m c t).trans ?_
  rw [same_o m m' c h0, same_t m m' c h1, same_a m m' c h2]
  exact grid_total (rO (given m' c)) (rA (given m' c)) (rW (given m' c) t) t fun k hk => place_lt (given m' c) R t k hk

end

/-- From a regular input, the kernel's result is the reference's. -/
theorem algebraic_KernelIdeal_ReferenceIdeal_pre_regular : Cert.algebraic_KernelIdeal_ReferenceIdeal_pre_regular :=
  fun m g m' g' hp hag =>
    ⟨fun c => Cert.ReferenceIdeal.Value.result (given m' c),
      θ_run_mono (Cert.KernelIdeal.Region.run_loss m g (blocks m hp)) fun r h c =>
        ⟨funext fun i => (congrArg _ (funext fun a => a.elim0)).trans ((h c).1.trans (same_result m m' hp c (hag c).1 (hag c).2.1 (hag c).2.2).symm |>.trans
          (congrArg _ (funext fun a => a.elim0))), (h c).2⟩,
      θ_run_mono (Cert.ReferenceIdeal.Value.run m' g') fun r h c => h c⟩

end Cert.Proof

end
-- ==== Proof.lean ====
/- The proof of the claim: each of its parts is a theorem of a module of its own. -/
module

public import proofs.«01_k».proof.Defs
public import proofs.«01_k».proof.Proof.Algebraic
public import proofs.«01_k».proof.Proof.RegularFacts

@[expose] public section

noncomputable section

namespace Cert.Proof

open Idealize.ShloMosaic

/-- The claim. -/
theorem claim : Cert.Claim :=
  ⟨Cert.Kernel.Gen.facts, Cert.KernelIdeal.Gen.facts, Cert.ReferenceIdeal.Gen.facts, Cert.Pre_classes_in_range.Gen.facts, Cert.Pre_regular.shapesFit,
    quiescent_Kernel, quiescent_KernelIdeal, quiescent_KernelIdeal_pre_regular, quiescent_ReferenceIdeal, quiescent_ReferenceIdeal_pre_regular, trivial,
    algebraic_KernelIdeal_ReferenceIdeal_pre_regular⟩

end Cert.Proof

end
